-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)) (v4 : (c : Dev Cert.KernelIdeal.nD) → Buf (Elt Ideal) ((c.tc : Thread Cert.KernelIdeal.nD Cert.KernelIdeal.τ).loc Cert.KernelIdeal.main_v15_4)) (v5 : (c : Dev Cert.KernelIdeal.nD) → Buf (Elt Ideal) ((c.tc : Thread Cert.KernelIdeal.nD Cert.KernelIdeal.τ).loc Cert.KernelIdeal.main_v15_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_v15_4) = v4 c
          ∧ r.2.mem ((c.tc : Thread Cert.KernelIdeal.nD Cert.KernelIdeal.τ).loc Cert.KernelIdeal.main_v15_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v7_3) = v3 c
          ∧ r.2.mem ((c.tc : Thread Cert.ReferenceIdeal.nD Cert.ReferenceIdeal.τ).loc Cert.ReferenceIdeal.main_v7_4) = v4 c
          ∧ r.2.mem ((c.tc : Thread Cert.ReferenceIdeal.nD Cert.ReferenceIdeal.τ).loc Cert.ReferenceIdeal.main_v7_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1920 : Shape := ⟨2, ![4096, 1920]⟩
abbrev S4096 : Shape := ⟨1, ![4096]⟩
abbrev S4096x80x128 : Shape := ⟨3, ![4096, 80, 128]⟩
abbrev S4096x32x128 : Shape := ⟨3, ![4096, 32, 128]⟩
abbrev S1920x2048 : Shape := ⟨2, ![1920, 2048]⟩
abbrev S2048 : Shape := ⟨1, ![2048]⟩
abbrev S2048x6144 : Shape := ⟨2, ![2048, 6144]⟩
abbrev S6144 : Shape := ⟨1, ![6144]⟩
abbrev S128 : Shape := ⟨1, ![128]⟩
abbrev S1x4096x1 : Shape := ⟨3, ![1, 4096, 1]⟩
abbrev S1x4096x128 : Shape := ⟨3, ![1, 4096, 128]⟩
abbrev S4096x20x4x128 : Shape := ⟨4, ![4096, 20, 4, 128]⟩
abbrev S20x128x4x4096 : Shape := ⟨4, ![20, 128, 4, 4096]⟩
abbrev S10240x4096 : Shape := ⟨2, ![10240, 4096]⟩
abbrev S_ : Shape := ⟨0, ![]⟩
abbrev S4096x33x128 : Shape := ⟨3, ![4096, 33, 128]⟩
abbrev S135168x128 : Shape := ⟨2, ![135168, 128]⟩
abbrev S128x1 : Shape := ⟨2, ![128, 1]⟩
abbrev S128x128 : Shape := ⟨2, ![128, 128]⟩
abbrev S1x2048 : Shape := ⟨2, ![1, 2048]⟩
abbrev S48x128 : Shape := ⟨2, ![48, 128]⟩
abbrev S10240x32x128 : Shape := ⟨3, ![10240, 32, 128]⟩
abbrev S32x1x128 : Shape := ⟨3, ![32, 1, 128]⟩
abbrev S4096x2048 : Shape := ⟨2, ![4096, 2048]⟩
abbrev S196608x128 : Shape := ⟨2, ![196608, 128]⟩
abbrev S128x1920 : Shape := ⟨2, ![128, 1920]⟩
abbrev S1x128x128 : Shape := ⟨3, ![1, 128, 128]⟩
abbrev S10240x128 : Shape := ⟨2, ![10240, 128]⟩
abbrev S4224x128 : Shape := ⟨2, ![4224, 128]⟩
abbrev S320x32x128 : Shape := ⟨3, ![320, 32, 128]⟩
abbrev S1x1x128 : Shape := ⟨3, ![1, 1, 128]⟩
abbrev S128x2048 : Shape := ⟨2, ![128, 2048]⟩
abbrev S6144x128 : Shape := ⟨2, ![6144, 128]⟩
abbrev S8x128 : Shape := ⟨2, ![8, 128]⟩
abbrev S1920x512 : Shape := ⟨2, ![1920, 512]⟩
abbrev S128x512 : Shape := ⟨2, ![128, 512]⟩
abbrev S1x128 : Shape := ⟨2, ![1, 128]⟩
abbrev S2048x256 : Shape := ⟨2, ![2048, 256]⟩
abbrev S128x256 : Shape := ⟨2, ![128, 256]⟩
abbrev S512x128 : Shape := ⟨2, ![512, 128]⟩
abbrev S32x128 : Shape := ⟨2, ![32, 128]⟩
abbrev S1x32x128 : Shape := ⟨3, ![1, 32, 128]⟩

abbrev nBuf : Space → Nat
  | .hbm => 35
  | .vmem => 32
  | .smem => 0
  | _ => 0

abbrev bufTy : (tb : Table) → Fin (tcTables nBuf tb) → BufTy
  | .hbm, ⟨0, _⟩ => ⟨S4096x1920, .fp8e4m3⟩
  | .hbm, ⟨1, _⟩ => ⟨S4096, .f32⟩
  | .hbm, ⟨2, _⟩ => ⟨S4096x80x128, .f32⟩
  | .hbm, ⟨3, _⟩ => ⟨S4096x32x128, .f32⟩
  | .hbm, ⟨4, _⟩ => ⟨S1920x2048, .fp8e4m3⟩
  | .hbm, ⟨5, _⟩ => ⟨S2048, .f32⟩
  | .hbm, ⟨6, _⟩ => ⟨S2048, .f32⟩
  | .hbm, ⟨7, _⟩ => ⟨S2048x6144, .fp8e4m3⟩
  | .hbm, ⟨8, _⟩ => ⟨S6144, .f32⟩
  | .hbm, ⟨9, _⟩ => ⟨S6144, .f32⟩
  | .hbm, ⟨10, _⟩ => ⟨S128, .f32⟩
  | .hbm, ⟨11, _⟩ => ⟨S128, .f32⟩
  | .hbm, ⟨12, _⟩ => ⟨S1x4096x1, .f32⟩
  | .hbm, ⟨13, _⟩ => ⟨S1x4096x128, .f32⟩
  | .hbm, ⟨14, _⟩ => ⟨S4096x20x4x128, .f32⟩
  | .hbm, ⟨15, _⟩ => ⟨S20x128x4x4096, .f32⟩
  | .hbm, ⟨16, _⟩ => ⟨S10240x4096, .f32⟩
  | .hbm, ⟨17, _⟩ => ⟨S_, .i32⟩
  | .hbm, ⟨18, _⟩ => ⟨S_, .f32⟩
  | .hbm, ⟨19, _⟩ => ⟨S4096x33x128, .f32⟩
  | .hbm, ⟨20, _⟩ => ⟨S135168x128, .f32⟩
  | .hbm, ⟨21, _⟩ => ⟨S128x1, .f32⟩
  | .hbm, ⟨22, _⟩ => ⟨S128x128, .f32⟩
  | .hbm, ⟨23, _⟩ => ⟨S128x1, .f32⟩
  | .hbm, ⟨24, _⟩ => ⟨S128x128, .f32⟩
  | .hbm, ⟨25, _⟩ => ⟨S1x2048, .f32⟩
  | .hbm, ⟨26, _⟩ => ⟨S1x2048, .f32⟩
  | .hbm, ⟨27, _⟩ => ⟨S48x128, .f32⟩
  | .hbm, ⟨28, _⟩ => ⟨S48x128, .f32⟩
  | .hbm, ⟨29, _⟩ => ⟨S10240x32x128, .fp8e4m3⟩
  | .hbm, ⟨30, _⟩ => ⟨S32x1x128, .f32⟩
  | .hbm, ⟨31, _⟩ => ⟨S4096x2048, .fp8e4m3⟩
  | .hbm, ⟨32, _⟩ => ⟨S32x1x128, .f32⟩
  | .hbm, ⟨33, _⟩ => ⟨S4096x2048, .f32⟩
  | .hbm, ⟨34, _⟩ => ⟨S196608x128, .f32⟩
  | .local _ .vmem, ⟨0, _⟩ => ⟨S128x1920, .fp8e4m3⟩
  | .local _ .vmem, ⟨1, _⟩ => ⟨S128x1920, .fp8e4m3⟩
  | .local _ .vmem, ⟨2, _⟩ => ⟨S1x128x128, .f32⟩
  | .local _ .vmem, ⟨3, _⟩ => ⟨S1x128x128, .f32⟩
  | .local _ .vmem, ⟨4, _⟩ => ⟨S10240x128, .f32⟩
  | .local _ .vmem, ⟨5, _⟩ => ⟨S10240x128, .f32⟩
  | .local _ .vmem, ⟨6, _⟩ => ⟨S4224x128, .f32⟩
  | .local _ .vmem, ⟨7, _⟩ => ⟨S4224x128, .f32⟩
  | .local _ .vmem, ⟨8, _⟩ => ⟨S1920x2048, .fp8e4m3⟩
  | .local _ .vmem, ⟨9, _⟩ => ⟨S1x2048, .f32⟩
  | .local _ .vmem, ⟨10, _⟩ => ⟨S1x2048, .f32⟩
  | .local _ .vmem, ⟨11, _⟩ => ⟨S2048x6144, .fp8e4m3⟩
  | .local _ .vmem, ⟨12, _⟩ => ⟨S48x128, .f32⟩
  | .local _ .vmem, ⟨13, _⟩ => ⟨S48x128, .f32⟩
  | .local _ .vmem, ⟨14, _⟩ => ⟨S128x128, .f32⟩
  | .local _ .vmem, ⟨15, _⟩ => ⟨S128x128, .f32⟩
  | .local _ .vmem, ⟨16, _⟩ => ⟨S320x32x128, .fp8e4m3⟩
  | .local _ .vmem, ⟨17, _⟩ => ⟨S320x32x128, .fp8e4m3⟩
  | .local _ .vmem, ⟨18, _⟩ => ⟨S1x1x128, .f32⟩
  | .local _ .vmem, ⟨19, _⟩ => ⟨S1x1x128, .f32⟩
  | .local _ .vmem, ⟨20, _⟩ => ⟨S128x2048, .fp8e4m3⟩
  | .local _ .vmem, ⟨21, _⟩ => ⟨S128x2048, .fp8e4m3⟩
  | .local _ .vmem, ⟨22, _⟩ => ⟨S1x1x128, .f32⟩
  | .local _ .vmem, ⟨23, _⟩ => ⟨S1x1x128, .f32⟩
  | .local _ .vmem, ⟨24, _⟩ => ⟨S128x2048, .f32⟩
  | .local _ .vmem, ⟨25, _⟩ => ⟨S128x2048, .f32⟩
  | .local _ .vmem, ⟨26, _⟩ => ⟨S6144x128, .f32⟩
  | .local _ .vmem, ⟨27, _⟩ => ⟨S6144x128, .f32⟩
  | .local _ .vmem, ⟨28, _⟩ => ⟨S10240x128, .f32⟩
  | .local _ .vmem, ⟨29, _⟩ => ⟨S8x128, .f32⟩
  | .local _ .vmem, ⟨30, _⟩ => ⟨S128x128, .f32⟩
  | .local _ .vmem, ⟨31, _⟩ => ⟨S10240x128, .f32⟩
  | _, _ => ⟨S4096x1920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev main_v15_4 : Ref sig .tc := ⟨.hbm, 33, rfl⟩
abbrev main_v15_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c24_i32 : BitVec 32 := 24#32
  let v442 : BitVec 32 := Scalar.addi c0_i32 c24_i32
  let c1_i32 : BitVec 32 := 1#32
  ⟨c0_i32, v442, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c2_i32 : BitVec 32 := 2#32
  let v458 : BitVec 32 := Scalar.muli arg23 c2_i32
  let c128_i32 : BitVec 32 := 128#32
  let v459 : BitVec 32 := Scalar.muli v458 c128_i32
  v459
def k0_off1 (k0_t1 : Fin k0_t1_loop.trips) : Fin 2 → Nat :=
  let c0_271 : Index := 0#32
  let c0_i32 : BitVec 32 := 0#32
  let c1_i32 : BitVec 32 := 1#32
  let arg23 : BitVec 32 := Scf.iv c0_i32 c1_i32 k0_t1
  let c2_i32 : BitVec 32 := 2#32
  let v458 : BitVec 32 := Scalar.muli arg23 c2_i32
  let c128_i32 : BitVec 32 := 128#32
  let v459 : BitVec 32 := Scalar.muli v458 c128_i32
  let v460 : BitVec 32 := v459
  let v463 : Index := Scalar.indexCast v460
  ![0, v463.toNat]
def k0_off2 (k0_t1 : Fin k0_t1_loop.trips) (c0_i32_274 : BitVec 32) : Fin 2 → Nat :=
  let c0_i32 : BitVec 32 := 0#32
  let c1_i32 : BitVec 32 := 1#32
  let arg23 : BitVec 32 := Scf.iv c0_i32 c1_i32 k0_t1
  let c2_i32_273 : BitVec 32 := 2#32
  let v466 : BitVec 32 := Scalar.muli arg23 c2_i32_273
  let v467 : BitVec 32 := Scalar.addi v466 c0_i32_274
  let v470 : Index := Scalar.indexCast v467
  let c0_275 : Index := 0#32
  ![v470.toNat, 0]
def k0_off3 (k0_t1 : Fin k0_t1_loop.trips) (c0_i32_274 : BitVec 32) : Fin 2 → Nat :=
  let c0_i32 : BitVec 32 := 0#32
  let c1_i32 : BitVec 32 := 1#32
  let arg23 : BitVec 32 := Scf.iv c0_i32 c1_i32 k0_t1
  let c2_i32_273 : BitVec 32 := 2#32
  let v466 : BitVec 32 := Scalar.muli arg23 c2_i32_273
  let v467 : BitVec 32 := Scalar.addi v466 c0_i32_274
  let v480 : Index := Scalar.indexCast v467
  let c0_277 : Index := 0#32
  ![v480.toNat, 0]
def k0_off4 (k0_t1 : Fin k0_t1_loop.trips) (c0_i32_274 : BitVec 32) : Fin 2 → Nat :=
  let c0_i32 : BitVec 32 := 0#32
  let c1_i32 : BitVec 32 := 1#32
  let arg23 : BitVec 32 := Scf.iv c0_i32 c1_i32 k0_t1
  let c2_i32_273 : BitVec 32 := 2#32
  let v466 : BitVec 32 := Scalar.muli arg23 c2_i32_273
  let v467 : BitVec 32 := Scalar.addi v466 c0_i32_274
  let c0_i32_280 : BitVec 32 := 0#32
  let v485 : BitVec 1 := Scalar.cmpi .sgt v467 c0_i32_280
  let v486 : BitVec 32 := Scalar.extui v485
  let c0_i32_281 : BitVec 32 := 0#32
  let v487 : BitVec 1 := Scalar.cmpi .slt v467 c0_i32_281
  let v488 : BitVec 32 := Scalar.extui v487
  let v489 : BitVec 32 := Scalar.subi v486 v488
  let c4_i32 : BitVec 32 := 4#32
  let c0_i32_282 : BitVec 32 := 0#32
  let v490 : BitVec 1 := Scalar.cmpi .sgt c4_i32 c0_i32_282
  let v491 : BitVec 32 := Scalar.extui v490
  let c0_i32_283 : BitVec 32 := 0#32
  let v492 : BitVec 1 := Scalar.cmpi .slt c4_i32 c0_i32_283
  let v493 : BitVec 32 := Scalar.extui v492
  let v494 : BitVec 32 := Scalar.subi v491 v493
  let v495 : BitVec 1 := Scalar.cmpi .ne v489 v494
  let v496 : BitVec 32 := Scalar.remsi v467 c4_i32
  let c0_i32_284 : BitVec 32 := 0#32
  let v497 : BitVec 1 := Scalar.cmpi .ne v496 c0_i32_284
  let v498 : BitVec 1 := Scalar.andi v495 v497
  let v484 : BitVec 32 := Scalar.divsi v467 c4_i32
  let c1_i32_285 : BitVec 32 := 1#32
  let v499 : BitVec 32 := Scalar.subi v484 c1_i32_285
  let v500 : BitVec 32 := Scalar.select v498 v499 v484
  let c512_i32 : BitVec 32 := 512#32
  let v501 : BitVec 32 := Scalar.muli v500 c512_i32
  let c4_i32_286 : BitVec 32 := 4#32
  let c0_i32_287 : BitVec 32 := 0#32
  let v502 : BitVec 1 := Scalar.cmpi .eq c4_i32_286 c0_i32_287
  let c1_i32_288 : BitVec 32 := 1#32
  let v503 : BitVec 32 := Scalar.select v502 c1_i32_288 c4_i32_286
  let v504 : BitVec 32 := Scalar.remsi v467 v503
  let c0_i32_290 : BitVec 32 := 0#32
  let v506 : BitVec 1 := Scalar.cmpi .slt v504 c0_i32_290
  let c0_i32_291 : BitVec 32 := 0#32
  let v507 : BitVec 1 := Scalar.cmpi .slt v503 c0_i32_291
  let v508 : BitVec 1 := Scalar.xori v506 v507
  let c0_i32_289 : BitVec 32 := 0#32
  let v505 : BitVec 1 := Scalar.cmpi .ne v504 c0_i32_289
  let v509 : BitVec 1 := Scalar.andi v508 v505
  let v510 : BitVec 32 := Scalar.addi v504 v503
  let v511 : BitVec 32 := Scalar.select v509 v510 v504
  let v512 : BitVec 32 := Scalar.addi v501 v511
  let v513 : Index := Scalar.indexCast v512
  let c0_292 : Index := 0#32
  ![v513.toNat, 0]
@[reducible] def k0_t2_loop : Scf.Loop 32 :=
  let c0_i32_251 : BitVec 32 := 0#32
  let c32_i32 : BitVec 32 := 32#32
  let v443 : BitVec 32 := Scalar.addi c0_i32_251 c32_i32
  let c1_i32_252 : BitVec 32 := 1#32
  ⟨c0_i32_251, v443, c1_i32_252⟩
def k0_off5 (k0_t2 : Fin k0_t2_loop.trips) : Fin 2 → Nat :=
  let c0_i32_251 : BitVec 32 := 0#32
  let c1_i32_252 : BitVec 32 := 1#32
  let arg23 : BitVec 32 := Scf.iv c0_i32_251 c1_i32_252 k0_t2
  let v458 : Index := Scalar.indexCast arg23
  let c0_269 : Index := 0#32
  ![v458.toNat, 0]
def k0_off6 (k0_t2 : Fin k0_t2_loop.trips) : Fin 2 → Nat :=
  let c48_i32 : BitVec 32 := 48#32
  let c0_i32_251 : BitVec 32 := 0#32
  let c1_i32_252 : BitVec 32 := 1#32
  let arg23 : BitVec 32 := Scf.iv c0_i32_251 c1_i32_252 k0_t2
  let v463 : BitVec 32 := Scalar.addi c48_i32 arg23
  let c0_i32_272 : BitVec 32 := 0#32
  let v465 : BitVec 1 := Scalar.cmpi .sgt v463 c0_i32_272
  let v466 : BitVec 32 := Scalar.extui v465
  let c0_i32_273 : BitVec 32 := 0#32
  let v467 : BitVec 1 := Scalar.cmpi .slt v463 c0_i32_273
  let v468 : BitVec 32 := Scalar.extui v467
  let v469 : BitVec 32 := Scalar.subi v466 v468
  let c4_i32 : BitVec 32 := 4#32
  let c0_i32_274 : BitVec 32 := 0#32
  let v470 : BitVec 1 := Scalar.cmpi .sgt c4_i32 c0_i32_274
  let v471 : BitVec 32 := Scalar.extui v470
  let c0_i32_275 : BitVec 32 := 0#32
  let v472 : BitVec 1 := Scalar.cmpi .slt c4_i32 c0_i32_275
  let v473 : BitVec 32 := Scalar.extui v472
  let v474 : BitVec 32 := Scalar.subi v471 v473
  let v475 : BitVec 1 := Scalar.cmpi .ne v469 v474
  let v476 : BitVec 32 := Scalar.remsi v463 c4_i32
  let c0_i32_276 : BitVec 32 := 0#32
  let v477 : BitVec 1 := Scalar.cmpi .ne v476 c0_i32_276
  let v478 : BitVec 1 := Scalar.andi v475 v477
  let v464 : BitVec 32 := Scalar.divsi v463 c4_i32
  let c1_i32_277 : BitVec 32 := 1#32
  let v479 : BitVec 32 := Scalar.subi v464 c1_i32_277
  let v480 : BitVec 32 := Scalar.select v478 v479 v464
  let c512_i32 : BitVec 32 := 512#32
  let v481 : BitVec 32 := Scalar.muli v480 c512_i32
  let c4_i32_278 : BitVec 32 := 4#32
  let c0_i32_279 : BitVec 32 := 0#32
  let v482 : BitVec 1 := Scalar.cmpi .eq c4_i32_278 c0_i32_279
  let c1_i32_280 : BitVec 32 := 1#32
  let v483 : BitVec 32 := Scalar.select v482 c1_i32_280 c4_i32_278
  let v484 : BitVec 32 := Scalar.remsi v463 v483
  let c0_i32_282 : BitVec 32 := 0#32
  let v486 : BitVec 1 := Scalar.cmpi .slt v484 c0_i32_282
  let c0_i32_283 : BitVec 32 := 0#32
  let v487 : BitVec 1 := Scalar.cmpi .slt v483 c0_i32_283
  let v488 : BitVec 1 := Scalar.xori v486 v487
  let c0_i32_281 : BitVec 32 := 0#32
  let v485 : BitVec 1 := Scalar.cmpi .ne v484 c0_i32_281
  let v489 : BitVec 1 := Scalar.andi v488 v485
  let v490 : BitVec 32 := Scalar.addi v484 v483
  let v491 : BitVec 32 := Scalar.select v489 v490 v484
  let v492 : BitVec 32 := Scalar.addi v481 v491
  let v493 : Index := Scalar.indexCast v492
  let c0_284 : Index := 0#32
  ![v493.toNat, 0]
@[reducible] def k0_t3_loop : Scf.Loop 32 :=
  let c0_i32_263 : BitVec 32 := 0#32
  let c20_i32 : BitVec 32 := 20#32
  let v456 : BitVec 32 := Scalar.addi c0_i32_263 c20_i32
  let c1_i32_264 : BitVec 32 := 1#32
  ⟨c0_i32_263, v456, c1_i32_264⟩
def k0_off7 (k0_t3 : Fin k0_t3_loop.trips) : Fin 2 → Nat :=
  let c0_i32_263 : BitVec 32 := 0#32
  let c1_i32_264 : BitVec 32 := 1#32
  let arg23 : BitVec 32 := Scf.iv c0_i32_263 c1_i32_264 k0_t3
  let c512_i32 : BitVec 32 := 512#32
  let v458 : BitVec 32 := Scalar.muli arg23 c512_i32
  let v459 : Index := Scalar.indexCast v458
  let c0_269 : Index := 0#32
  ![v459.toNat, 0]
def k0_off8 (k0_t3 : Fin k0_t3_loop.trips) (c0_i32_272 : BitVec 32) : Fin 2 → Nat :=
  let c0_i32_263 : BitVec 32 := 0#32
  let c1_i32_264 : BitVec 32 := 1#32
  let arg23 : BitVec 32 := Scf.iv c0_i32_263 c1_i32_264 k0_t3
  let c4_i32 : BitVec 32 := 4#32
  let v472 : BitVec 32 := Scalar.muli arg23 c4_i32
  let v473 : BitVec 32 := Scalar.addi v472 c0_i32_272
  let v474 : Index := Scalar.indexCast v473
  let c0_273 : Index := 0#32
  ![v474.toNat, 0]
@[reducible] def k0_t4_loop : Scf.Loop 32 :=
  let c0_i32_266 : BitVec 32 := 0#32
  let c320_i32 : BitVec 32 := 320#32
  let v457 : BitVec 32 := Scalar.addi c0_i32_266 c320_i32
  let c1_i32_267 : BitVec 32 := 1#32
  ⟨c0_i32_266, v457, c1_i32_267⟩
def k0_mult2 (k0_t4 : Fin k0_t4_loop.trips) : BitVec 32 :=
  let c0_i32_266 : BitVec 32 := 0#32
  let c1_i32_267 : BitVec 32 := 1#32
  let arg23 : BitVec 32 := Scf.iv c0_i32_266 c1_i32_267 k0_t4
  let c32_i32_269 : BitVec 32 := 32#32
  let v458 : BitVec 32 := Scalar.muli arg23 c32_i32_269
  v458
def k0_off9 (k0_t4 : Fin k0_t4_loop.trips) : Fin 2 → Nat :=
  let c0_i32_266 : BitVec 32 := 0#32
  let c1_i32_267 : BitVec 32 := 1#32
  let arg23 : BitVec 32 := Scf.iv c0_i32_266 c1_i32_267 k0_t4
  let c32_i32_269 : BitVec 32 := 32#32
  let v458 : BitVec 32 := Scalar.muli arg23 c32_i32_269
  let v459 : BitVec 32 := v458
  let v460 : Index := Scalar.indexCast v459
  let c0_270 : Index := 0#32
  ![v460.toNat, 0]
def k0_off10 (k0_t4 : Fin k0_t4_loop.trips) : Fin 3 → Nat :=
  let c0_i32_266 : BitVec 32 := 0#32
  let c1_i32_267 : BitVec 32 := 1#32
  let arg23 : BitVec 32 := Scf.iv c0_i32_266 c1_i32_267 k0_t4
  let v463 : Index := Scalar.indexCast arg23
  let c0_271 : Index := 0#32
  let c0_272 : Index := 0#32
  ![v463.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1920 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10240x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1920x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x6144 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S48x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S320x32x128 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S6144x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S4096x1920 : Shape := ⟨2, ![4096, 1920]⟩
abbrev S4096 : Shape := ⟨1, ![4096]⟩
abbrev S4096x80x128 : Shape := ⟨3, ![4096, 80, 128]⟩
abbrev S4096x32x128 : Shape := ⟨3, ![4096, 32, 128]⟩
abbrev S1920x2048 : Shape := ⟨2, ![1920, 2048]⟩
abbrev S2048 : Shape := ⟨1, ![2048]⟩
abbrev S2048x6144 : Shape := ⟨2, ![2048, 6144]⟩
abbrev S6144 : Shape := ⟨1, ![6144]⟩
abbrev S128 : Shape := ⟨1, ![128]⟩
abbrev S4096x1 : Shape := ⟨2, ![4096, 1]⟩
abbrev S1x2048 : Shape := ⟨2, ![1, 2048]⟩
abbrev S1x6144 : Shape := ⟨2, ![1, 6144]⟩
abbrev S1x1x128 : Shape := ⟨3, ![1, 1, 128]⟩
abbrev S10240x32x128 : Shape := ⟨3, ![10240, 32, 128]⟩
abbrev S32x1x128 : Shape := ⟨3, ![32, 1, 128]⟩
abbrev S4096x2048 : Shape := ⟨2, ![4096, 2048]⟩
abbrev S196608x128 : Shape := ⟨2, ![196608, 128]⟩
abbrev S4096x6144 : Shape := ⟨2, ![4096, 6144]⟩
abbrev S4096x48x128 : Shape := ⟨3, ![4096, 48, 128]⟩
abbrev S4096x80 : Shape := ⟨2, ![4096, 80]⟩
abbrev S4096x80x1 : Shape := ⟨3, ![4096, 80, 1]⟩
abbrev S4096x1x1 : Shape := ⟨3, ![4096, 1, 1]⟩

abbrev nBuf : Space → Nat
  | .hbm => 25
  | .vmem => 18
  | .smem => 0
  | _ => 0

abbrev bufTy : (tb : Table) → Fin (tcTables nBuf tb) → BufTy
  | .hbm, ⟨0, _⟩ => ⟨S4096x1920, .fp8e4m3⟩
  | .hbm, ⟨1, _⟩ => ⟨S4096, .f32⟩
  | .hbm, ⟨2, _⟩ => ⟨S4096x80x128, .f32⟩
  | .hbm, ⟨3, _⟩ => ⟨S4096x32x128, .f32⟩
  | .hbm, ⟨4, _⟩ => ⟨S1920x2048, .fp8e4m3⟩
  | .hbm, ⟨5, _⟩ => ⟨S2048, .f32⟩
  | .hbm, ⟨6, _⟩ => ⟨S2048, .f32⟩
  | .hbm, ⟨7, _⟩ => ⟨S2048x6144, .fp8e4m3⟩
  | .hbm, ⟨8, _⟩ => ⟨S6144, .f32⟩
  | .hbm, ⟨9, _⟩ => ⟨S6144, .f32⟩
  | .hbm, ⟨10, _⟩ => ⟨S128, .f32⟩
  | .hbm, ⟨11, _⟩ => ⟨S128, .f32⟩
  | .hbm, ⟨12, _⟩ => ⟨S4096x1, .f32⟩
  | .hbm, ⟨13, _⟩ => ⟨S1x2048, .f32⟩
  | .hbm, ⟨14, _⟩ => ⟨S1x2048, .f32⟩
  | .hbm, ⟨15, _⟩ => ⟨S1x6144, .f32⟩
  | .hbm, ⟨16, _⟩ => ⟨S1x6144, .f32⟩
  | .hbm, ⟨17, _⟩ => ⟨S1x1x128, .f32⟩
  | .hbm, ⟨18, _⟩ => ⟨S1x1x128, .f32⟩
  | .hbm, ⟨19, _⟩ => ⟨S10240x32x128, .fp8e4m3⟩
  | .hbm, ⟨20, _⟩ => ⟨S32x1x128, .f32⟩
  | .hbm, ⟨21, _⟩ => ⟨S4096x2048, .fp8e4m3⟩
  | .hbm, ⟨22, _⟩ => ⟨S32x1x128, .f32⟩
  | .hbm, ⟨23, _⟩ => ⟨S4096x2048, .f32⟩
  | .hbm, ⟨24, _⟩ => ⟨S196608x128, .f32⟩
  | .local _ .vmem, ⟨0, _⟩ => ⟨S4096x1920, .fp8e4m3⟩
  | .local _ .vmem, ⟨1, _⟩ => ⟨S4096x1, .f32⟩
  | .local _ .vmem, ⟨2, _⟩ => ⟨S4096x80x128, .f32⟩
  | .local _ .vmem, ⟨3, _⟩ => ⟨S4096x32x128, .f32⟩
  | .local _ .vmem, ⟨4, _⟩ => ⟨S1920x2048, .fp8e4m3⟩
  | .local _ .vmem, ⟨5, _⟩ => ⟨S1x2048, .f32⟩
  | .local _ .vmem, ⟨6, _⟩ => ⟨S1x2048, .f32⟩
  | .local _ .vmem, ⟨7, _⟩ => ⟨S2048x6144, .fp8e4m3⟩
  | .local _ .vmem, ⟨8, _⟩ => ⟨S1x6144, .f32⟩
  | .local _ .vmem, ⟨9, _⟩ => ⟨S1x6144, .f32⟩
  | .local _ .vmem, ⟨10, _⟩ => ⟨S1x1x128, .f32⟩
  | .local _ .vmem, ⟨11, _⟩ => ⟨S1x1x128, .f32⟩
  | .local _ .vmem, ⟨12, _⟩ => ⟨S10240x32x128, .fp8e4m3⟩
  | .local _ .vmem, ⟨13, _⟩ => ⟨S32x1x128, .f32⟩
  | .local _ .vmem, ⟨14, _⟩ => ⟨S4096x2048, .fp8e4m3⟩
  | .local _ .vmem, ⟨15, _⟩ => ⟨S32x1x128, .f32⟩
  | .local _ .vmem, ⟨16, _⟩ => ⟨S4096x2048, .f32⟩
  | .local _ .vmem, ⟨17, _⟩ => ⟨S196608x128, .f32⟩
  | _, _ => ⟨S4096x1920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev main_v7_4 : Ref sig .tc := ⟨.hbm, 23, rfl⟩
abbrev main_v7_5 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S4096x1920 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x80x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x6144 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S10240x32x128 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x2048 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S32x1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4096x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S196608x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.TripsKernel.lean ====
/- The counted loops of the kernel that the generated modules leave to state, each gone through by its invariant. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Points
@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 2000000
set_option warn.classDefReducibility false

/-- Where the second product's trip norms its rows, in closed form. -/
theorem off4_eq : ∀ k : Fin k0_t1_loop.trips, ∀ (r : Fin 2), k0_off4 k (BitVec.ofNat 32 r.val) = ![512 * (k.val / 2) + 2 * (k.val % 2) + r.val, 0] := by decide +kernel
instance closedOff4_0 (k : Fin k0_t1_loop.trips) : ClosedOff (k0_off4 k 0#32) := ⟨![512 * (k.val / 2) + 2 * (k.val % 2) + 0, 0], off4_eq k ⟨0, by decide⟩⟩
instance closedOff4_1 (k : Fin k0_t1_loop.trips) : ClosedOff (k0_off4 k 1#32) := ⟨![512 * (k.val / 2) + 2 * (k.val % 2) + 1, 0], off4_eq k ⟨1, by decide⟩⟩

/-- The rows of the output codes, regrouped: any contents of the scratch rows before and after. -/
@[sl_loop] def loopInv_k0_t3 (c : Dev nD) (i : grid0.Coords) (arg1 : Memref sig .tc .vmem S128x1920 .fp8e4m3) (harg1 : arg1.IsWhole) (arg2 : Memref sig .tc .vmem S1x128x128 .f32) (harg2 : arg2.IsWhole) (arg3 : Memref sig .tc .vmem S10240x128 .f32) (harg3 : arg3.IsWhole) (arg4 : Memref sig .tc .vmem S4224x128 .f32) (harg4 : arg4.IsWhole) (arg5 : Memref sig .tc .vmem S1920x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S320x32x128 .fp8e4m3) (harg13 : arg13.IsWhole) (arg14 : Memref sig .tc .vmem S1x1x128 .f32) (harg14 : arg14.IsWhole) (arg15 : Memref sig .tc .vmem S128x2048 .fp8e4m3) (harg15 : arg15.IsWhole) (arg16 : Memref sig .tc .vmem S1x1x128 .f32) (harg16 : arg16.IsWhole) (arg17 : Memref sig .tc .vmem S128x2048 .f32) (harg17 : arg17.IsWhole) (arg18 : Memref sig .tc .vmem S6144x128 .f32) (harg18 : arg18.IsWhole) (arg19 : Memref sig .tc .vmem S10240x128 .f32) (harg19 : arg19.IsWhole) (arg20 : Memref sig .tc .vmem S8x128 .f32) (harg20 : arg20.IsWhole) (arg21 : Memref sig .tc .vmem S128x128 .f32) (harg21 : arg21.IsWhole) (arg22 : Memref sig .tc .vmem S10240x128 .f32) (harg22 : arg22.IsWhole) (v452 : FVec F S1x128 .f32) (X_arg19 : BufTy.Contents (Elt F) arg19.view.ty) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v452 where
  inv := fun _ _ => iprop((arg19.view.loc (c : Thread nD τ) ↦[arg19.view.set]{fullShare} X_arg19) ∗ (∃ f22, (arg22.view.loc (c : Thread nD τ) ↦[arg22.view.set]{fullShare} f22)))
  step := fun k acc => by
    unfold k0_t3_body
    iintro ⟨H19, ⟨%f22, H22⟩⟩
    sl_exec
    sl_step
    isplitl [H19]; · iexact H19
    iexists _; iexact H22

/-- The second norm over the local rows. -/
@[sl_loop] def loopInv_k0_t2 (c : Dev nD) (i : grid0.Coords) (arg1 : Memref sig .tc .vmem S128x1920 .fp8e4m3) (harg1 : arg1.IsWhole) (arg2 : Memref sig .tc .vmem S1x128x128 .f32) (harg2 : arg2.IsWhole) (arg3 : Memref sig .tc .vmem S10240x128 .f32) (harg3 : arg3.IsWhole) (arg4 : Memref sig .tc .vmem S4224x128 .f32) (harg4 : arg4.IsWhole) (arg5 : Memref sig .tc .vmem S1920x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S320x32x128 .fp8e4m3) (harg13 : arg13.IsWhole) (arg14 : Memref sig .tc .vmem S1x1x128 .f32) (harg14 : arg14.IsWhole) (arg15 : Memref sig .tc .vmem S128x2048 .fp8e4m3) (harg15 : arg15.IsWhole) (arg16 : Memref sig .tc .vmem S1x1x128 .f32) (harg16 : arg16.IsWhole) (arg17 : Memref sig .tc .vmem S128x2048 .f32) (harg17 : arg17.IsWhole) (arg18 : Memref sig .tc .vmem S6144x128 .f32) (harg18 : arg18.IsWhole) (arg19 : Memref sig .tc .vmem S10240x128 .f32) (harg19 : arg19.IsWhole) (arg20 : Memref sig .tc .vmem S8x128 .f32) (harg20 : arg20.IsWhole) (arg21 : Memref sig .tc .vmem S128x128 .f32) (harg21 : arg21.IsWhole) (arg22 : Memref sig .tc .vmem S10240x128 .f32) (harg22 : arg22.IsWhole) (v429 : FVec F S128x128 .fp8e4m3) (X_arg4 : BufTy.Contents (Elt F) arg4.view.ty) (X_arg11 : BufTy.Contents (Elt F) arg11.view.ty) (X_arg12 : BufTy.Contents (Elt F) arg12.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v429 where
  inv := fun _ _ => iprop((arg4.view.loc (c : Thread nD τ) ↦[arg4.view.set]{fullShare} X_arg4) ∗ (arg11.view.loc (c : Thread nD τ) ↦[arg11.view.set]{fullShare} X_arg11) ∗ (arg12.view.loc (c : Thread nD τ) ↦[arg12.view.set]{fullShare} X_arg12) ∗ (∃ f19, (arg19.view.loc (c : Thread nD τ) ↦[arg19.view.set]{fullShare} f19)) ∗ (∃ f20, (arg20.view.loc (c : Thread nD τ) ↦[arg20.view.set]{fullShare} f20)))
  step := fun k acc => by
    unfold k0_t2_body
    iintro ⟨H4, H11, H12, ⟨%f19, H19⟩, ⟨%f20, H20⟩⟩
    sl_exec
    sl_step
    isplitl [H4]; · iexact H4
    isplitl [H11]; · iexact H11
    isplitl [H12]; · iexact H12
    isplitl [H19]
    · iexists _; iexact H19
    iexists _; iexact H20

/-- The rows that one trip of the second product writes, the later first: columns `256 k + 128 … 256 k + 255` and
    `256 k … 256 k + 127` of the product, each scaled and shifted. -/
def gTrip (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (X8 : BufTy.Contents (Elt F) arg8.view.ty) (X9 : BufTy.Contents (Elt F) arg9.view.ty) (X10 : BufTy.Contents (Elt F) arg10.view.ty)
    (v441 : Vec F S128x128 .f32) (v461 : Vec F S128x2048 .fp8e4m3) (k : Fin k0_t1_loop.trips) : List (View.Piece (Elt F) S6144x128 .f32) :=
  [⟨⟨(⟨k0_off3 k 1#32, S128x128.size, ![48, 1], (k0_off3_inb k 1)⟩ : LoadRect S6144x128), spos_48_1⟩,
      k0_pay11 (k0_pay9 v441 (k0_pay3 v461 (arg8.view.readAt (Elt F) (Rect.unit (s := S2048x6144) (k0_off1 k) S2048x256.size (k0_off1_inb k)).toLoadRect X8))
        (arg9.view.readAt (Elt F) (Rect.unit (s := S48x128) (k0_off2 k 1#32) S1x128.size (k0_off2_inb k 1)).toLoadRect X9))
        (k0_pay10 (arg10.view.readAt (Elt F) (Rect.unit (s := S48x128) (k0_off2 k 1#32) S1x128.size (k0_off2_inb k 1)).toLoadRect X10))⟩,
   ⟨⟨(⟨k0_off3 k 0#32, S128x128.size, ![48, 1], (k0_off3_inb k 0)⟩ : LoadRect S6144x128), spos_48_1⟩,
      k0_pay4 v441 v461 (arg8.view.readAt (Elt F) (Rect.unit (s := S2048x6144) (k0_off1 k) S2048x256.size (k0_off1_inb k)).toLoadRect X8)
        (arg9.view.readAt (Elt F) (Rect.unit (s := S48x128) (k0_off2 k 0#32) S1x128.size (k0_off2_inb k 0)).toLoadRect X9)
        (arg10.view.readAt (Elt F) (Rect.unit (s := S48x128) (k0_off2 k 0#32) S1x128.size (k0_off2_inb k 0)).toLoadRect X10)⟩]

/-- The rows written by the trips before `k`, last first. -/
def gRows (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (X8 : BufTy.Contents (Elt F) arg8.view.ty) (X9 : BufTy.Contents (Elt F) arg9.view.ty) (X10 : BufTy.Contents (Elt F) arg10.view.ty)
    (v441 : Vec F S128x128 .f32) (v461 : Vec F S128x2048 .fp8e4m3) : ℕ → List (View.Piece (Elt F) S6144x128 .f32)
  | 0 => []
  | k + 1 => if h : k < k0_t1_loop.trips then gTrip arg8 harg8 arg9 harg9 arg10 harg10 X8 X9 X10 v441 v461 ⟨k, h⟩ ++ gRows arg8 harg8 arg9 harg9 arg10 harg10 X8 X9 X10 v441 v461 k
      else gRows arg8 harg8 arg9 harg9 arg10 harg10 X8 X9 X10 v441 v461 k

theorem gRows_succ (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (X8 : BufTy.Contents (Elt F) arg8.view.ty) (X9 : BufTy.Contents (Elt F) arg9.view.ty) (X10 : BufTy.Contents (Elt F) arg10.view.ty)
    (v441 : Vec F S128x128 .f32) (v461 : Vec F S128x2048 .fp8e4m3) (k : Fin k0_t1_loop.trips) :
    gRows arg8 harg8 arg9 harg9 arg10 harg10 X8 X9 X10 v441 v461 (k.val + 1)
      = gTrip arg8 harg8 arg9 harg9 arg10 harg10 X8 X9 X10 v441 v461 k ++ gRows arg8 harg8 arg9 harg9 arg10 harg10 X8 X9 X10 v441 v461 k.val := by
  rw [gRows.eq_2]; exact dif_pos k.isLt

/-- The second product: the rows it has written are those of the trips before; the rows being normed and the running
    maximum are at any contents. -/
@[sl_loop] def loopInv_k0_t1 (c : Dev nD) (i : grid0.Coords) (arg1 : Memref sig .tc .vmem S128x1920 .fp8e4m3) (harg1 : arg1.IsWhole) (arg2 : Memref sig .tc .vmem S1x128x128 .f32) (harg2 : arg2.IsWhole) (arg3 : Memref sig .tc .vmem S10240x128 .f32) (harg3 : arg3.IsWhole) (arg4 : Memref sig .tc .vmem S4224x128 .f32) (harg4 : arg4.IsWhole) (arg5 : Memref sig .tc .vmem S1920x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S320x32x128 .fp8e4m3) (harg13 : arg13.IsWhole) (arg14 : Memref sig .tc .vmem S1x1x128 .f32) (harg14 : arg14.IsWhole) (arg15 : Memref sig .tc .vmem S128x2048 .fp8e4m3) (harg15 : arg15.IsWhole) (arg16 : Memref sig .tc .vmem S1x1x128 .f32) (harg16 : arg16.IsWhole) (arg17 : Memref sig .tc .vmem S128x2048 .f32) (harg17 : arg17.IsWhole) (arg18 : Memref sig .tc .vmem S6144x128 .f32) (harg18 : arg18.IsWhole) (arg19 : Memref sig .tc .vmem S10240x128 .f32) (harg19 : arg19.IsWhole) (arg20 : Memref sig .tc .vmem S8x128 .f32) (harg20 : arg20.IsWhole) (arg21 : Memref sig .tc .vmem S128x128 .f32) (harg21 : arg21.IsWhole) (arg22 : Memref sig .tc .vmem S10240x128 .f32) (harg22 : arg22.IsWhole) (v429 : FVec F S128x128 .fp8e4m3) (v441 : Vec F S128x128 .f32)
    (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X15 : BufTy.Contents (Elt F) arg15.view.ty) (G18 : BufTy.Contents (Elt F) arg18.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v429 v441 where
  inv := fun k _ => iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} X15) ∗
    (∃ f18, (arg18.view.loc (c : Thread nD τ) ↦[arg18.view.set]{fullShare} f18) ∗ ⌜f18 = arg18.view.writes (Elt F) G18 (gRows arg8 harg8 arg9 harg9 arg10 harg10 X8 X9 X10 v441
      (arg15.view.readAt (Elt F) (Rect.unit (s := S128x2048) ![0, 0] S128x2048.size inb_S128x2048_S128x2048_0_0).toLoadRect X15) k)⌝) ∗ (∃ f19, (arg19.view.loc (c : Thread nD τ) ↦[arg19.view.set]{fullShare} f19)) ∗ (∃ f20, (arg20.view.loc (c : Thread nD τ) ↦[arg20.view.set]{fullShare} f20)))
  step := fun k acc => by
    unfold k0_t1_body
    iintro ⟨H8, H9, H10, H11, H12, H15, ⟨%f18, H18, %h18⟩, ⟨%f19, H19⟩, ⟨%f20, H20⟩⟩
    sl_exec
    sl_step
    isplitl [H8]; · iexact H8
    isplitl [H9]; · iexact H9
    isplitl [H10]; · iexact H10
    isplitl [H11]; · iexact H11
    isplitl [H12]; · iexact H12
    isplitl [H15]; · iexact H15
    isplitl [H18]
    · iexists _; isplitl [H18]; · iexact H18
      ipureintro; rw [h18, gRows_succ, View.writes_append]; rfl
    isplitl [H19]
    · iexists _; iexact H19
    iexists _; iexact H20

end Cert.Proof.Kernel
-- ==== Proof.BodyKernel.lean ====
/-
   One grid point of the kernel, run through from whole buffers: nothing is said of what it writes.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Points
public import proofs.«01_k».proof.Proof.TripsKernel
@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
/-- The body of one grid point, from whole buffers to whole buffers: the operands are left as they were. -/
theorem body (c : Dev nD) (i : grid0.Coords) (arg1 : Memref sig .tc .vmem S128x1920 .fp8e4m3) (harg1 : arg1.IsWhole) (arg2 : Memref sig .tc .vmem S1x128x128 .f32) (harg2 : arg2.IsWhole) (arg3 : Memref sig .tc .vmem S10240x128 .f32) (harg3 : arg3.IsWhole) (arg4 : Memref sig .tc .vmem S4224x128 .f32) (harg4 : arg4.IsWhole) (arg5 : Memref sig .tc .vmem S1920x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S320x32x128 .fp8e4m3) (harg13 : arg13.IsWhole) (arg14 : Memref sig .tc .vmem S1x1x128 .f32) (harg14 : arg14.IsWhole) (arg15 : Memref sig .tc .vmem S128x2048 .fp8e4m3) (harg15 : arg15.IsWhole) (arg16 : Memref sig .tc .vmem S1x1x128 .f32) (harg16 : arg16.IsWhole) (arg17 : Memref sig .tc .vmem S128x2048 .f32) (harg17 : arg17.IsWhole) (arg18 : Memref sig .tc .vmem S6144x128 .f32) (harg18 : arg18.IsWhole) (arg19 : Memref sig .tc .vmem S10240x128 .f32) (harg19 : arg19.IsWhole) (arg20 : Memref sig .tc .vmem S8x128 .f32) (harg20 : arg20.IsWhole) (arg21 : Memref sig .tc .vmem S128x128 .f32) (harg21 : arg21.IsWhole) (arg22 : Memref sig .tc .vmem S10240x128 .f32) (harg22 : arg22.IsWhole) (x1 : Vec F S128x1920 .fp8e4m3) (x2 : Vec F S1x128x128 .f32) (x3 : Vec F S10240x128 .f32) (x4 : Vec F S4224x128 .f32) (x5 : Vec F S1920x2048 .fp8e4m3) (x6 : Vec F S1x2048 .f32) (x7 : Vec F S1x2048 .f32) (x8 : Vec F S2048x6144 .fp8e4m3) (x9 : Vec F S48x128 .f32) (x10 : Vec F S48x128 .f32) (x11 : Vec F S128x128 .f32) (x12 : Vec F S128x128 .f32) (K : PUnit → sProp (MT nD τ sig Unit (Elt F) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) Set.univ (cc0_wukong_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_wukong_layer_eq_skeleton]; unfold cc0_wukong_layer_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf1 hf2 hf3 hf4 hf5 hf6 hf7 hf8 hf9 hf10 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  iexists _; iexists _; isplitr
  swap; · iexact H22
  ipureintro; rfl

end Cert.Proof.Kernel
-- ==== Proof.RunKernel.lean ====
/-
   The whole run of the kernel: it ends, every argument array as it was and every semaphore at zero.
-/
module

public import proofs.«01_k».proof.Defs
public import proofs.«01_k».proof.Proof.Gen.Kernel
public import proofs.«01_k».proof.Proof.Gen.Kernel.Frame
public import proofs.«01_k».proof.Proof.BodyKernel
@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The proof data: operands stay as fetched; of the results nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨_ + 18, h⟩ => (Nat.not_lt_of_le (Nat.le_add_left 18 _) h).elim
  Φ _ := Pipeline.ΦA spec0 c
  q _ := fullShare
  owed _ := 0

/-- The output windows of which nothing is said. -/
def fgt : Fin 18 → Bool := fun w => decide (w ∈ [12, 13, 14, 15, 16, 17])

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X))

set_option maxHeartbeats 2000000 in
/-- The body at any point meets what the pipeline asks of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11]
  unfold Pipeline.ΦA
  rw [scopedRest0_eq]
  iintro ⟨⟨⟨⟨%s0, S0⟩, ⟨%s1, S1⟩, ⟨%s2, S2⟩, ⟨%s3, S3⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (body c _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  iintro ⟨H0, H1, H2, H3, H4, H5, H6, H7, H8, H9, H10, H11, H12, H13, H14, H15, H16, H17, ⟨%r0, S0⟩, ⟨%r1, S1⟩, ⟨%r2, S2⟩, ⟨%r3, S3⟩⟩
  isplitl [S0 S1 S2 S3 HP]
  · isplitr [HP]
    swap; · iexact HP
    isplitl [S0]; · iexists r0; rw [← owns_whole]; iexact S0
    isplitl [S1]; · iexists r1; rw [← owns_whole]; iexact S1
    isplitl [S2]; · iexists r2; rw [← owns_whole]; iexact S2
    iexists r3; rw [← owns_whole]; iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 2000000 in
/-- Every execution of the program ends, with each array of the pipeline at what the proof data say and every
    semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m} in
/-- A final state of the run has every argument array as it was. -/
theorem unchanged {r : PUnit × MemSt nD τ sig (Elt F)}
    (h : Pipeline.RDat.FramePost cfg0 (fun c => (dats m 0 c).toRForget fgt) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(((dats m 0 c).toRForget_arrAt_iff (fgt := fgt) (w := 0) rfl _ _).mp ((h c).1 0)).trans (((dats m 0 c).arrAt_in 0 rfl _).trans ((A_eq m c 0).trans (V_main_arg0 m c))),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   (((dats m 0 c).toRForget_arrAt_iff (fgt := fgt) (w := 4) rfl _ _).mp ((h c).1 4)).trans (((dats m 0 c).arrAt_in 4 rfl _).trans ((A_eq m c 4).trans (V_main_arg4 m c))),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   (((dats m 0 c).toRForget_arrAt_iff (fgt := fgt) (w := 7) rfl _ _).mp ((h c).1 7)).trans (((dats m 0 c).arrAt_in 7 rfl _).trans ((A_eq m c 7).trans (V_main_arg7 m c))),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c),
   ((h c).2 main_arg11 (Pipeline.mem_restRefs_of main_arg11 (by decide) (by decide))).trans (V_main_arg11 m c)⟩

/-- The frame claim. -/
theorem frame : θ_run defs (onTc (τ := τ) (main (F := F))) (s₀ m ρ) (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ h => ⟨fun c => unchanged h.1 c, h.2⟩) (run_main m ρ)

end Cert.Proof.Kernel
-- ==== Proof.TripsNorm.lean ====
/- The second layer norm's loops as functions of the contents they find: what one trip writes to the rows it norms and to
   the running maximum, the contents after the trips before `k`, and the rows of codes that the last loop but one writes. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Points
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-- The 128 strided rows that the first, and the second, norm of a trip of the second product goes over. -/
abbrev zR1 (k : Fin k0_t1_loop.trips) (r : Fin 2) : Rect S10240x128 :=
  ⟨(⟨k0_off4 k (BitVec.ofNat 32 r.val), S128x128.size, ![4, 1], (k0_off4_inb k r)⟩ : LoadRect S10240x128), spos_4_1⟩
/-- The whole of the running maximum. -/
abbrev aR : Rect S8x128 := Rect.unit (s := S8x128) ![0, 0] S8x128.size inb_S8x128_S8x128_0_0

section T1

variable (arg19 : Memref sig .tc .vmem S10240x128 .f32) (arg20 : Memref sig .tc .vmem S8x128 .f32)
  (g : Fin k0_t1_loop.trips → FVec F S128x128 .f32) (p9 : Fin k0_t1_loop.trips → FVec F S128x128 .f32) (p10 : Fin k0_t1_loop.trips → FVec F S1x128 .f32)
  (G2 B2 : Vec F S128x128 .f32)

/-- The rows as read for the first norm of the trip. -/
abbrev z0 (k : Fin k0_t1_loop.trips) (f19 : BufTy.Contents (Elt F) arg19.view.ty) : Vec F S128x128 .f32 :=
  arg19.view.readAt (Elt F) (zR1 k 0).toLoadRect f19
/-- What the first norm of the trip writes. -/
def zTrip0 (k : Fin k0_t1_loop.trips) (f19 : BufTy.Contents (Elt F) arg19.view.ty) : List (View.Piece (Elt F) S10240x128 .f32) :=
  [⟨zR1 k 0, k0_pay7 (k0_pay6 (g k) (z0 arg19 k f19) G2 B2)⟩]
/-- The rows as read for the second norm of the trip. -/
abbrev z1 (k : Fin k0_t1_loop.trips) (f19 : BufTy.Contents (Elt F) arg19.view.ty) : Vec F S128x128 .f32 :=
  arg19.view.readAt (Elt F) (zR1 k 1).toLoadRect (arg19.view.writes (Elt F) f19 (zTrip0 arg19 g G2 B2 k f19))
/-- What one trip writes to the rows, the later first. -/
def zTrip (k : Fin k0_t1_loop.trips) (f19 : BufTy.Contents (Elt F) arg19.view.ty) : List (View.Piece (Elt F) S10240x128 .f32) :=
  ⟨zR1 k 1, k0_pay15 (k0_pay12 (p9 k) (p10 k) (z1 arg19 g G2 B2 k f19)) (k0_pay13 (p9 k) (p10 k) (z1 arg19 g G2 B2 k f19)) G2 B2⟩ :: zTrip0 arg19 g G2 B2 k f19
/-- What the trip's first norm writes to the running maximum. -/
def aTrip0 (k : Fin k0_t1_loop.trips) (f19 : BufTy.Contents (Elt F) arg19.view.ty) (f20 : BufTy.Contents (Elt F) arg20.view.ty) : List (View.Piece (Elt F) S8x128 .f32) :=
  [⟨aR, k0_pay8 (arg20.view.readAt (Elt F) aR.toLoadRect f20) (k0_pay6 (g k) (z0 arg19 k f19) G2 B2)⟩]
/-- What one trip writes to the running maximum, the later first. -/
def aTrip (k : Fin k0_t1_loop.trips) (f19 : BufTy.Contents (Elt F) arg19.view.ty) (f20 : BufTy.Contents (Elt F) arg20.view.ty) : List (View.Piece (Elt F) S8x128 .f32) :=
  ⟨aR, k0_pay86 (arg20.view.readCov (aTrip0 arg19 arg20 g G2 B2 k f19 f20) aR.toLoadRect)
      (k0_pay16 (k0_pay12 (p9 k) (p10 k) (z1 arg19 g G2 B2 k f19)) (k0_pay13 (p9 k) (p10 k) (z1 arg19 g G2 B2 k f19)) G2 B2)
      (k0_pay17 (k0_pay12 (p9 k) (p10 k) (z1 arg19 g G2 B2 k f19)) (k0_pay13 (p9 k) (p10 k) (z1 arg19 g G2 B2 k f19)) G2 B2)⟩ :: aTrip0 arg19 arg20 g G2 B2 k f19 f20

/-- The rows after the trips before `k`. -/
def zSt (G19 : BufTy.Contents (Elt F) arg19.view.ty) : ℕ → BufTy.Contents (Elt F) arg19.view.ty
  | 0 => G19
  | k + 1 => if h : k < k0_t1_loop.trips then arg19.view.writes (Elt F) (zSt G19 k) (zTrip arg19 g p9 p10 G2 B2 ⟨k, h⟩ (zSt G19 k)) else zSt G19 k
/-- The running maximum after the trips before `k`. -/
def aSt (G19 : BufTy.Contents (Elt F) arg19.view.ty) (G20 : BufTy.Contents (Elt F) arg20.view.ty) : ℕ → BufTy.Contents (Elt F) arg20.view.ty
  | 0 => G20
  | k + 1 => if h : k < k0_t1_loop.trips then arg20.view.writes (Elt F) (aSt G19 G20 k) (aTrip arg19 arg20 g p9 p10 G2 B2 ⟨k, h⟩ (zSt arg19 g p9 p10 G2 B2 G19 k) (aSt G19 G20 k)) else aSt G19 G20 k

theorem zSt_succ (G19 : BufTy.Contents (Elt F) arg19.view.ty) (k : Fin k0_t1_loop.trips) :
    zSt arg19 g p9 p10 G2 B2 G19 (k.val + 1) = arg19.view.writes (Elt F) (zSt arg19 g p9 p10 G2 B2 G19 k.val) (zTrip arg19 g p9 p10 G2 B2 k (zSt arg19 g p9 p10 G2 B2 G19 k.val)) := by
  rw [zSt.eq_2]; exact dif_pos k.isLt
theorem aSt_succ (G19 : BufTy.Contents (Elt F) arg19.view.ty) (G20 : BufTy.Contents (Elt F) arg20.view.ty) (k : Fin k0_t1_loop.trips) :
    aSt arg19 arg20 g p9 p10 G2 B2 G19 G20 (k.val + 1) = arg20.view.writes (Elt F) (aSt arg19 arg20 g p9 p10 G2 B2 G19 G20 k.val)
      (aTrip arg19 arg20 g p9 p10 G2 B2 k (zSt arg19 g p9 p10 G2 B2 G19 k.val) (aSt arg19 arg20 g p9 p10 G2 B2 G19 G20 k.val)) := by
  rw [aSt.eq_2]; exact dif_pos k.isLt

end T1

section T2

variable (arg19 : Memref sig .tc .vmem S10240x128 .f32) (arg20 : Memref sig .tc .vmem S8x128 .f32)
  (l : Fin k0_t2_loop.trips → Vec F S128x128 .f32) (G2 B2 : Vec F S128x128 .f32)

/-- The 128 strided rows that a trip over the local rows norms. -/
abbrev yR (k : Fin k0_t2_loop.trips) : Rect S10240x128 :=
  ⟨(⟨k0_off6 k, S128x128.size, ![4, 1], (k0_off6_inb k)⟩ : LoadRect S10240x128), spos_4_1⟩
/-- The rows as read. -/
abbrev y0 (k : Fin k0_t2_loop.trips) (f19 : BufTy.Contents (Elt F) arg19.view.ty) : Vec F S128x128 .f32 :=
  arg19.view.readAt (Elt F) (yR k).toLoadRect f19
/-- What one trip writes to the rows. -/
def yTrip (k : Fin k0_t2_loop.trips) (f19 : BufTy.Contents (Elt F) arg19.view.ty) : List (View.Piece (Elt F) S10240x128 .f32) :=
  [⟨yR k, k0_pay21 (k0_pay18 (l k) (y0 arg19 k f19)) (k0_pay19 (l k) (y0 arg19 k f19)) G2 B2⟩]
/-- What one trip writes to the running maximum. -/
def bTrip (k : Fin k0_t2_loop.trips) (f19 : BufTy.Contents (Elt F) arg19.view.ty) (f20 : BufTy.Contents (Elt F) arg20.view.ty) : List (View.Piece (Elt F) S8x128 .f32) :=
  [⟨aR, k0_pay87 (arg20.view.readAt (Elt F) aR.toLoadRect f20)
      (k0_pay22 (k0_pay18 (l k) (y0 arg19 k f19)) (k0_pay19 (l k) (y0 arg19 k f19)) G2 B2)
      (k0_pay23 (k0_pay18 (l k) (y0 arg19 k f19)) (k0_pay19 (l k) (y0 arg19 k f19)) G2 B2)
      (k0_pay24 (k0_pay18 (l k) (y0 arg19 k f19)) (k0_pay19 (l k) (y0 arg19 k f19)) G2 B2)⟩]
/-- The rows after the trips before `k`. -/
def ySt (G19 : BufTy.Contents (Elt F) arg19.view.ty) : ℕ → BufTy.Contents (Elt F) arg19.view.ty
  | 0 => G19
  | k + 1 => if h : k < k0_t2_loop.trips then arg19.view.writes (Elt F) (ySt G19 k) (yTrip arg19 l G2 B2 ⟨k, h⟩ (ySt G19 k)) else ySt G19 k
/-- The running maximum after the trips before `k`. -/
def bSt (G19 : BufTy.Contents (Elt F) arg19.view.ty) (G20 : BufTy.Contents (Elt F) arg20.view.ty) : ℕ → BufTy.Contents (Elt F) arg20.view.ty
  | 0 => G20
  | k + 1 => if h : k < k0_t2_loop.trips then arg20.view.writes (Elt F) (bSt G19 G20 k) (bTrip arg19 arg20 l G2 B2 ⟨k, h⟩ (ySt arg19 l G2 B2 G19 k) (bSt G19 G20 k)) else bSt G19 G20 k

theorem ySt_succ (G19 : BufTy.Contents (Elt F) arg19.view.ty) (k : Fin k0_t2_loop.trips) :
    ySt arg19 l G2 B2 G19 (k.val + 1) = arg19.view.writes (Elt F) (ySt arg19 l G2 B2 G19 k.val) (yTrip arg19 l G2 B2 k (ySt arg19 l G2 B2 G19 k.val)) := by
  rw [ySt.eq_2]; exact dif_pos k.isLt
theorem bSt_succ (G19 : BufTy.Contents (Elt F) arg19.view.ty) (G20 : BufTy.Contents (Elt F) arg20.view.ty) (k : Fin k0_t2_loop.trips) :
    bSt arg19 arg20 l G2 B2 G19 G20 (k.val + 1) = arg20.view.writes (Elt F) (bSt arg19 arg20 l G2 B2 G19 G20 k.val)
      (bTrip arg19 arg20 l G2 B2 k (ySt arg19 l G2 B2 G19 k.val) (bSt arg19 arg20 l G2 B2 G19 G20 k.val)) := by
  rw [bSt.eq_2]; exact dif_pos k.isLt

end T2

section T3

variable (v452 : FVec F S1x128 .f32) (w : Fin k0_t3_loop.trips → Vec F S512x128 .f32)

/-- The 128 strided rows that one of a trip's four stores of codes goes to. -/
abbrev xR (k : Fin k0_t3_loop.trips) (r : Fin 4) : Rect S10240x128 :=
  ⟨(⟨k0_off8 k (BitVec.ofNat 32 r.val), S128x128.size, ![80, 1], (k0_off8_inb k r)⟩ : LoadRect S10240x128), spos_80_1⟩
/-- What one trip writes, the later first. -/
def xTrip (k : Fin k0_t3_loop.trips) : List (View.Piece (Elt F) S10240x128 .f32) :=
  [⟨xR k 3, k0_pay1 (k0_pay29 v452 (w k))⟩, ⟨xR k 2, k0_pay28 v452 (w k)⟩, ⟨xR k 1, k0_pay27 v452 (w k)⟩, ⟨xR k 0, k0_pay26 v452 (w k)⟩]
/-- What the trips before `k` have written, last first. -/
def xRows : ℕ → List (View.Piece (Elt F) S10240x128 .f32)
  | 0 => []
  | k + 1 => if h : k < k0_t3_loop.trips then xTrip v452 w ⟨k, h⟩ ++ xRows k else xRows k
theorem xRows_succ (k : Fin k0_t3_loop.trips) : xRows v452 w (k.val + 1) = xTrip v452 w k ++ xRows v452 w k.val := by
  rw [xRows.eq_2]; exact dif_pos k.isLt

end T3

end Cert.Proof.KernelIdeal

end
-- ==== Proof.TripsKernelIdeal.lean ====
/- The counted loops of the kernel that the generated modules leave to state, each gone through by its invariant. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Points
public import proofs.«01_k».proof.Proof.TripsNorm
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 2000000
set_option warn.classDefReducibility false

/-- Where the second product's trip norms its rows, in closed form. -/
theorem off4_eq : ∀ k : Fin k0_t1_loop.trips, ∀ (r : Fin 2), k0_off4 k (BitVec.ofNat 32 r.val) = ![512 * (k.val / 2) + 2 * (k.val % 2) + r.val, 0] := by decide +kernel
instance closedOff4_0 (k : Fin k0_t1_loop.trips) : ClosedOff (k0_off4 k 0#32) := ⟨![512 * (k.val / 2) + 2 * (k.val % 2) + 0, 0], off4_eq k ⟨0, by decide⟩⟩
instance closedOff4_1 (k : Fin k0_t1_loop.trips) : ClosedOff (k0_off4 k 1#32) := ⟨![512 * (k.val / 2) + 2 * (k.val % 2) + 1, 0], off4_eq k ⟨1, by decide⟩⟩

/-- The rows of the output codes, regrouped: the trips before have written their rows. -/
@[sl_loop] def loopInv_k0_t3 (c : Dev nD) (i : grid0.Coords) (arg1 : Memref sig .tc .vmem S128x1920 .fp8e4m3) (harg1 : arg1.IsWhole) (arg2 : Memref sig .tc .vmem S1x128x128 .f32) (harg2 : arg2.IsWhole) (arg3 : Memref sig .tc .vmem S10240x128 .f32) (harg3 : arg3.IsWhole) (arg4 : Memref sig .tc .vmem S4224x128 .f32) (harg4 : arg4.IsWhole) (arg5 : Memref sig .tc .vmem S1920x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S320x32x128 .fp8e4m3) (harg13 : arg13.IsWhole) (arg14 : Memref sig .tc .vmem S1x1x128 .f32) (harg14 : arg14.IsWhole) (arg15 : Memref sig .tc .vmem S128x2048 .fp8e4m3) (harg15 : arg15.IsWhole) (arg16 : Memref sig .tc .vmem S1x1x128 .f32) (harg16 : arg16.IsWhole) (arg17 : Memref sig .tc .vmem S128x2048 .f32) (harg17 : arg17.IsWhole) (arg18 : Memref sig .tc .vmem S6144x128 .f32) (harg18 : arg18.IsWhole) (arg19 : Memref sig .tc .vmem S10240x128 .f32) (harg19 : arg19.IsWhole) (arg20 : Memref sig .tc .vmem S8x128 .f32) (harg20 : arg20.IsWhole) (arg21 : Memref sig .tc .vmem S128x128 .f32) (harg21 : arg21.IsWhole) (arg22 : Memref sig .tc .vmem S10240x128 .f32) (harg22 : arg22.IsWhole) (v452 : FVec F S1x128 .f32) (X_arg19 : BufTy.Contents (Elt F) arg19.view.ty) (G22 : BufTy.Contents (Elt F) arg22.view.ty) :
    LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v452 where
  inv := fun k _ => iprop((arg19.view.loc (c : Thread nD τ) ↦[arg19.view.set]{fullShare} X_arg19) ∗ (∃ f22, (arg22.view.loc (c : Thread nD τ) ↦[arg22.view.set]{fullShare} f22) ∗ ⌜f22 = arg22.view.writes (Elt F) G22 (xRows v452
      (fun k => arg19.view.readAt (Elt F) (Rect.unit (s := S10240x128) (k0_off7 k) S512x128.size (k0_off7_inb k)).toLoadRect X_arg19) k)⌝))
  step := fun k acc => by
    unfold k0_t3_body
    iintro ⟨H19, ⟨%f22, H22, %h22⟩⟩
    sl_exec
    sl_step
    isplitl [H19]; · iexact H19
    iexists _; isplitl [H22]; · iexact H22
    ipureintro; rw [h22, xRows_succ, View.writes_append]; rfl

/-- The second norm over the local rows. -/
@[sl_loop] def loopInv_k0_t2 (c : Dev nD) (i : grid0.Coords) (arg1 : Memref sig .tc .vmem S128x1920 .fp8e4m3) (harg1 : arg1.IsWhole) (arg2 : Memref sig .tc .vmem S1x128x128 .f32) (harg2 : arg2.IsWhole) (arg3 : Memref sig .tc .vmem S10240x128 .f32) (harg3 : arg3.IsWhole) (arg4 : Memref sig .tc .vmem S4224x128 .f32) (harg4 : arg4.IsWhole) (arg5 : Memref sig .tc .vmem S1920x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S320x32x128 .fp8e4m3) (harg13 : arg13.IsWhole) (arg14 : Memref sig .tc .vmem S1x1x128 .f32) (harg14 : arg14.IsWhole) (arg15 : Memref sig .tc .vmem S128x2048 .fp8e4m3) (harg15 : arg15.IsWhole) (arg16 : Memref sig .tc .vmem S1x1x128 .f32) (harg16 : arg16.IsWhole) (arg17 : Memref sig .tc .vmem S128x2048 .f32) (harg17 : arg17.IsWhole) (arg18 : Memref sig .tc .vmem S6144x128 .f32) (harg18 : arg18.IsWhole) (arg19 : Memref sig .tc .vmem S10240x128 .f32) (harg19 : arg19.IsWhole) (arg20 : Memref sig .tc .vmem S8x128 .f32) (harg20 : arg20.IsWhole) (arg21 : Memref sig .tc .vmem S128x128 .f32) (harg21 : arg21.IsWhole) (arg22 : Memref sig .tc .vmem S10240x128 .f32) (harg22 : arg22.IsWhole) (v429 : FVec F S128x128 .fp8e4m3) (X_arg4 : BufTy.Contents (Elt F) arg4.view.ty) (X_arg11 : BufTy.Contents (Elt F) arg11.view.ty) (X_arg12 : BufTy.Contents (Elt F) arg12.view.ty) (G19 : BufTy.Contents (Elt F) arg19.view.ty) (G20 : BufTy.Contents (Elt F) arg20.view.ty) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v429 where
  inv := fun k _ => iprop((arg4.view.loc (c : Thread nD τ) ↦[arg4.view.set]{fullShare} X_arg4) ∗ (arg11.view.loc (c : Thread nD τ) ↦[arg11.view.set]{fullShare} X_arg11) ∗ (arg12.view.loc (c : Thread nD τ) ↦[arg12.view.set]{fullShare} X_arg12) ∗
    (∃ f19, (arg19.view.loc (c : Thread nD τ) ↦[arg19.view.set]{fullShare} f19) ∗ ⌜f19 = ySt arg19 (fun k => arg4.view.readAt (Elt F) ⟨k0_off5 k, S128x128.size, ![33, 1], (k0_off5_inb k)⟩ X_arg4)
      (arg11.view.readAt (Elt F) (Rect.unit (s := S128x128) ![0, 0] S128x128.size inb_S128x128_S128x128_0_0).toLoadRect X_arg11)
      (arg12.view.readAt (Elt F) (Rect.unit (s := S128x128) ![0, 0] S128x128.size inb_S128x128_S128x128_0_0).toLoadRect X_arg12) G19 k⌝) ∗
    (∃ f20, (arg20.view.loc (c : Thread nD τ) ↦[arg20.view.set]{fullShare} f20) ∗ ⌜f20 = bSt arg19 arg20 (fun k => arg4.view.readAt (Elt F) ⟨k0_off5 k, S128x128.size, ![33, 1], (k0_off5_inb k)⟩ X_arg4)
      (arg11.view.readAt (Elt F) (Rect.unit (s := S128x128) ![0, 0] S128x128.size inb_S128x128_S128x128_0_0).toLoadRect X_arg11)
      (arg12.view.readAt (Elt F) (Rect.unit (s := S128x128) ![0, 0] S128x128.size inb_S128x128_S128x128_0_0).toLoadRect X_arg12) G19 G20 k⌝))
  step := fun k acc => by
    unfold k0_t2_body
    iintro ⟨H4, H11, H12, ⟨%f19, H19, %h19⟩, ⟨%f20, H20, %h20⟩⟩
    sl_exec
    sl_step
    isplitl [H4]; · iexact H4
    isplitl [H11]; · iexact H11
    isplitl [H12]; · iexact H12
    isplitl [H19]
    · iexists _; isplitl [H19]; · iexact H19
      ipureintro; rw [ySt_succ, ← h19]; rfl
    iexists _; isplitl [H20]; · iexact H20
    ipureintro; rw [bSt_succ, ← h19, ← h20]; rfl

/-- The rows that one trip of the second product writes, the later first: columns `256 k + 128 … 256 k + 255` and
    `256 k … 256 k + 127` of the product, each scaled and shifted. -/
def gTrip (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (X8 : BufTy.Contents (Elt F) arg8.view.ty) (X9 : BufTy.Contents (Elt F) arg9.view.ty) (X10 : BufTy.Contents (Elt F) arg10.view.ty)
    (v441 : Vec F S128x128 .f32) (v461 : Vec F S128x2048 .fp8e4m3) (k : Fin k0_t1_loop.trips) : List (View.Piece (Elt F) S6144x128 .f32) :=
  [⟨⟨(⟨k0_off3 k 1#32, S128x128.size, ![48, 1], (k0_off3_inb k 1)⟩ : LoadRect S6144x128), spos_48_1⟩,
      k0_pay11 (k0_pay9 v441 (k0_pay3 v461 (arg8.view.readAt (Elt F) (Rect.unit (s := S2048x6144) (k0_off1 k) S2048x256.size (k0_off1_inb k)).toLoadRect X8))
        (arg9.view.readAt (Elt F) (Rect.unit (s := S48x128) (k0_off2 k 1#32) S1x128.size (k0_off2_inb k 1)).toLoadRect X9))
        (k0_pay10 (arg10.view.readAt (Elt F) (Rect.unit (s := S48x128) (k0_off2 k 1#32) S1x128.size (k0_off2_inb k 1)).toLoadRect X10))⟩,
   ⟨⟨(⟨k0_off3 k 0#32, S128x128.size, ![48, 1], (k0_off3_inb k 0)⟩ : LoadRect S6144x128), spos_48_1⟩,
      k0_pay4 v441 v461 (arg8.view.readAt (Elt F) (Rect.unit (s := S2048x6144) (k0_off1 k) S2048x256.size (k0_off1_inb k)).toLoadRect X8)
        (arg9.view.readAt (Elt F) (Rect.unit (s := S48x128) (k0_off2 k 0#32) S1x128.size (k0_off2_inb k 0)).toLoadRect X9)
        (arg10.view.readAt (Elt F) (Rect.unit (s := S48x128) (k0_off2 k 0#32) S1x128.size (k0_off2_inb k 0)).toLoadRect X10)⟩]

/-- The rows written by the trips before `k`, last first. -/
def gRows (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (X8 : BufTy.Contents (Elt F) arg8.view.ty) (X9 : BufTy.Contents (Elt F) arg9.view.ty) (X10 : BufTy.Contents (Elt F) arg10.view.ty)
    (v441 : Vec F S128x128 .f32) (v461 : Vec F S128x2048 .fp8e4m3) : ℕ → List (View.Piece (Elt F) S6144x128 .f32)
  | 0 => []
  | k + 1 => if h : k < k0_t1_loop.trips then gTrip arg8 harg8 arg9 harg9 arg10 harg10 X8 X9 X10 v441 v461 ⟨k, h⟩ ++ gRows arg8 harg8 arg9 harg9 arg10 harg10 X8 X9 X10 v441 v461 k
      else gRows arg8 harg8 arg9 harg9 arg10 harg10 X8 X9 X10 v441 v461 k

theorem gRows_succ (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (X8 : BufTy.Contents (Elt F) arg8.view.ty) (X9 : BufTy.Contents (Elt F) arg9.view.ty) (X10 : BufTy.Contents (Elt F) arg10.view.ty)
    (v441 : Vec F S128x128 .f32) (v461 : Vec F S128x2048 .fp8e4m3) (k : Fin k0_t1_loop.trips) :
    gRows arg8 harg8 arg9 harg9 arg10 harg10 X8 X9 X10 v441 v461 (k.val + 1)
      = gTrip arg8 harg8 arg9 harg9 arg10 harg10 X8 X9 X10 v441 v461 k ++ gRows arg8 harg8 arg9 harg9 arg10 harg10 X8 X9 X10 v441 v461 k.val := by
  rw [gRows.eq_2]; exact dif_pos k.isLt

/-- The transposed column blocks of the product that a trip of the second product norms: the first, and the second as kept and its shift. -/
def tg0 (arg8 : Memref sig .tc .vmem S2048x6144 .fp8e4m3) (arg9 arg10 : Memref sig .tc .vmem S48x128 .f32) (X8 : BufTy.Contents (Elt F) arg8.view.ty) (X9 : BufTy.Contents (Elt F) arg9.view.ty) (X10 : BufTy.Contents (Elt F) arg10.view.ty)
    (v441 : Vec F S128x128 .f32) (v461 : Vec F S128x2048 .fp8e4m3) (k : Fin k0_t1_loop.trips) : FVec F S128x128 .f32 :=
  k0_pay5 v441 v461 (arg8.view.readAt (Elt F) (Rect.unit (s := S2048x6144) (k0_off1 k) S2048x256.size (k0_off1_inb k)).toLoadRect X8)
    (arg9.view.readAt (Elt F) (Rect.unit (s := S48x128) (k0_off2 k 0#32) S1x128.size (k0_off2_inb k 0)).toLoadRect X9)
    (arg10.view.readAt (Elt F) (Rect.unit (s := S48x128) (k0_off2 k 0#32) S1x128.size (k0_off2_inb k 0)).toLoadRect X10)
def tg1 (arg8 : Memref sig .tc .vmem S2048x6144 .fp8e4m3) (arg9 : Memref sig .tc .vmem S48x128 .f32) (X8 : BufTy.Contents (Elt F) arg8.view.ty) (X9 : BufTy.Contents (Elt F) arg9.view.ty)
    (v441 : Vec F S128x128 .f32) (v461 : Vec F S128x2048 .fp8e4m3) (k : Fin k0_t1_loop.trips) : FVec F S128x128 .f32 :=
  k0_pay9 v441 (k0_pay3 v461 (arg8.view.readAt (Elt F) (Rect.unit (s := S2048x6144) (k0_off1 k) S2048x256.size (k0_off1_inb k)).toLoadRect X8))
    (arg9.view.readAt (Elt F) (Rect.unit (s := S48x128) (k0_off2 k 1#32) S1x128.size (k0_off2_inb k 1)).toLoadRect X9)
def tg2 (arg10 : Memref sig .tc .vmem S48x128 .f32) (X10 : BufTy.Contents (Elt F) arg10.view.ty) (k : Fin k0_t1_loop.trips) : FVec F S1x128 .f32 :=
  k0_pay10 (arg10.view.readAt (Elt F) (Rect.unit (s := S48x128) (k0_off2 k 1#32) S1x128.size (k0_off2_inb k 1)).toLoadRect X10)

/-- The second product: the rows it has written are those of the trips before; the rows being normed and the running
    maximum are those of the trips before as well. -/
@[sl_loop] def loopInv_k0_t1 (c : Dev nD) (i : grid0.Coords) (arg1 : Memref sig .tc .vmem S128x1920 .fp8e4m3) (harg1 : arg1.IsWhole) (arg2 : Memref sig .tc .vmem S1x128x128 .f32) (harg2 : arg2.IsWhole) (arg3 : Memref sig .tc .vmem S10240x128 .f32) (harg3 : arg3.IsWhole) (arg4 : Memref sig .tc .vmem S4224x128 .f32) (harg4 : arg4.IsWhole) (arg5 : Memref sig .tc .vmem S1920x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S320x32x128 .fp8e4m3) (harg13 : arg13.IsWhole) (arg14 : Memref sig .tc .vmem S1x1x128 .f32) (harg14 : arg14.IsWhole) (arg15 : Memref sig .tc .vmem S128x2048 .fp8e4m3) (harg15 : arg15.IsWhole) (arg16 : Memref sig .tc .vmem S1x1x128 .f32) (harg16 : arg16.IsWhole) (arg17 : Memref sig .tc .vmem S128x2048 .f32) (harg17 : arg17.IsWhole) (arg18 : Memref sig .tc .vmem S6144x128 .f32) (harg18 : arg18.IsWhole) (arg19 : Memref sig .tc .vmem S10240x128 .f32) (harg19 : arg19.IsWhole) (arg20 : Memref sig .tc .vmem S8x128 .f32) (harg20 : arg20.IsWhole) (arg21 : Memref sig .tc .vmem S128x128 .f32) (harg21 : arg21.IsWhole) (arg22 : Memref sig .tc .vmem S10240x128 .f32) (harg22 : arg22.IsWhole) (v429 : FVec F S128x128 .fp8e4m3) (v441 : Vec F S128x128 .f32)
    (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X15 : BufTy.Contents (Elt F) arg15.view.ty) (G18 : BufTy.Contents (Elt F) arg18.view.ty) (G19 : BufTy.Contents (Elt F) arg19.view.ty) (G20 : BufTy.Contents (Elt F) arg20.view.ty) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v429 v441 where
  inv := fun k _ => iprop((arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg15.view.loc (c : Thread nD τ) ↦[arg15.view.set]{fullShare} X15) ∗
    (∃ f18, (arg18.view.loc (c : Thread nD τ) ↦[arg18.view.set]{fullShare} f18) ∗ ⌜f18 = arg18.view.writes (Elt F) G18 (gRows arg8 harg8 arg9 harg9 arg10 harg10 X8 X9 X10 v441
      (arg15.view.readAt (Elt F) (Rect.unit (s := S128x2048) ![0, 0] S128x2048.size inb_S128x2048_S128x2048_0_0).toLoadRect X15) k)⌝) ∗
    (∃ f19, (arg19.view.loc (c : Thread nD τ) ↦[arg19.view.set]{fullShare} f19) ∗ ⌜f19 = zSt arg19 (tg0 arg8 arg9 arg10 X8 X9 X10 v441
      (arg15.view.readAt (Elt F) (Rect.unit (s := S128x2048) ![0, 0] S128x2048.size inb_S128x2048_S128x2048_0_0).toLoadRect X15)) (tg1 arg8 arg9 X8 X9 v441
      (arg15.view.readAt (Elt F) (Rect.unit (s := S128x2048) ![0, 0] S128x2048.size inb_S128x2048_S128x2048_0_0).toLoadRect X15)) (tg2 arg10 X10)
      (arg11.view.readAt (Elt F) (Rect.unit (s := S128x128) ![0, 0] S128x128.size inb_S128x128_S128x128_0_0).toLoadRect X11)
      (arg12.view.readAt (Elt F) (Rect.unit (s := S128x128) ![0, 0] S128x128.size inb_S128x128_S128x128_0_0).toLoadRect X12) G19 k⌝) ∗
    (∃ f20, (arg20.view.loc (c : Thread nD τ) ↦[arg20.view.set]{fullShare} f20) ∗ ⌜f20 = aSt arg19 arg20 (tg0 arg8 arg9 arg10 X8 X9 X10 v441
      (arg15.view.readAt (Elt F) (Rect.unit (s := S128x2048) ![0, 0] S128x2048.size inb_S128x2048_S128x2048_0_0).toLoadRect X15)) (tg1 arg8 arg9 X8 X9 v441
      (arg15.view.readAt (Elt F) (Rect.unit (s := S128x2048) ![0, 0] S128x2048.size inb_S128x2048_S128x2048_0_0).toLoadRect X15)) (tg2 arg10 X10)
      (arg11.view.readAt (Elt F) (Rect.unit (s := S128x128) ![0, 0] S128x128.size inb_S128x128_S128x128_0_0).toLoadRect X11)
      (arg12.view.readAt (Elt F) (Rect.unit (s := S128x128) ![0, 0] S128x128.size inb_S128x128_S128x128_0_0).toLoadRect X12) G19 G20 k⌝))
  step := fun k acc => by
    unfold k0_t1_body
    iintro ⟨H8, H9, H10, H11, H12, H15, ⟨%f18, H18, %h18⟩, ⟨%f19, H19, %h19⟩, ⟨%f20, H20, %h20⟩⟩
    sl_exec
    sl_step
    isplitl [H8]; · iexact H8
    isplitl [H9]; · iexact H9
    isplitl [H10]; · iexact H10
    isplitl [H11]; · iexact H11
    isplitl [H12]; · iexact H12
    isplitl [H15]; · iexact H15
    isplitl [H18]
    · iexists _; isplitl [H18]; · iexact H18
      ipureintro; rw [h18, gRows_succ, View.writes_append]; rfl
    isplitl [H19]
    · iexists _; isplitl [H19]; · iexact H19
      ipureintro; rw [zSt_succ, ← h19]; rfl
    iexists _; isplitl [H20]; · iexact H20
    ipureintro; rw [aSt_succ, ← h19, ← h20]; rfl

end Cert.Proof.KernelIdeal
-- ==== Proof.BodyKernelIdeal.lean ====
/-
   One grid point of the kernel, run through from whole buffers: nothing is said of what it writes.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Points
public import proofs.«01_k».proof.Proof.TripsKernelIdeal
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 4000000 in
/-- The body of one grid point, from whole buffers to whole buffers: the operands are left as they were. -/
theorem body (c : Dev nD) (i : grid0.Coords) (arg1 : Memref sig .tc .vmem S128x1920 .fp8e4m3) (harg1 : arg1.IsWhole) (arg2 : Memref sig .tc .vmem S1x128x128 .f32) (harg2 : arg2.IsWhole) (arg3 : Memref sig .tc .vmem S10240x128 .f32) (harg3 : arg3.IsWhole) (arg4 : Memref sig .tc .vmem S4224x128 .f32) (harg4 : arg4.IsWhole) (arg5 : Memref sig .tc .vmem S1920x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S320x32x128 .fp8e4m3) (harg13 : arg13.IsWhole) (arg14 : Memref sig .tc .vmem S1x1x128 .f32) (harg14 : arg14.IsWhole) (arg15 : Memref sig .tc .vmem S128x2048 .fp8e4m3) (harg15 : arg15.IsWhole) (arg16 : Memref sig .tc .vmem S1x1x128 .f32) (harg16 : arg16.IsWhole) (arg17 : Memref sig .tc .vmem S128x2048 .f32) (harg17 : arg17.IsWhole) (arg18 : Memref sig .tc .vmem S6144x128 .f32) (harg18 : arg18.IsWhole) (arg19 : Memref sig .tc .vmem S10240x128 .f32) (harg19 : arg19.IsWhole) (arg20 : Memref sig .tc .vmem S8x128 .f32) (harg20 : arg20.IsWhole) (arg21 : Memref sig .tc .vmem S128x128 .f32) (harg21 : arg21.IsWhole) (arg22 : Memref sig .tc .vmem S10240x128 .f32) (harg22 : arg22.IsWhole) (x1 : Vec F S128x1920 .fp8e4m3) (x2 : Vec F S1x128x128 .f32) (x3 : Vec F S10240x128 .f32) (x4 : Vec F S4224x128 .f32) (x5 : Vec F S1920x2048 .fp8e4m3) (x6 : Vec F S1x2048 .f32) (x7 : Vec F S1x2048 .f32) (x8 : Vec F S2048x6144 .fp8e4m3) (x9 : Vec F S48x128 .f32) (x10 : Vec F S48x128 .f32) (x11 : Vec F S128x128 .f32) (x12 : Vec F S128x128 .f32) (K : PUnit → sProp (MT nD τ sig Unit (Elt F) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := F)) Variants.none c none) Set.univ (cc0_wukong_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_wukong_layer_eq_skeleton]; unfold cc0_wukong_layer_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf1 hf2 hf3 hf4 hf5 hf6 hf7 hf8 hf9 hf10 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  iexists _; iexists _; isplitr
  swap; · iexact H22
  ipureintro; rfl

end Cert.Proof.KernelIdeal
-- ==== Proof.RunKernelIdeal.lean ====
/-
   The whole run of the kernel: it ends, every argument array as it was and every semaphore at zero.
-/
module

public import proofs.«01_k».proof.Defs
public import proofs.«01_k».proof.Proof.Gen.KernelIdeal
public import proofs.«01_k».proof.Proof.Gen.KernelIdeal.Frame
public import proofs.«01_k».proof.Proof.BodyKernelIdeal
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The proof data: operands stay as fetched; of the results nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨_ + 18, h⟩ => (Nat.not_lt_of_le (Nat.le_add_left 18 _) h).elim
  Φ _ := Pipeline.ΦA spec0 c
  q _ := fullShare
  owed _ := 0

/-- The output windows of which nothing is said. -/
def fgt : Fin 18 → Bool := fun w => decide (w ∈ [12, 13, 14, 15, 16, 17])

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X)
    ∗ (∃ X, owns (c : Thread nD τ) (st0_17 t) fullShare X))

set_option maxHeartbeats 2000000 in
/-- The body at any point meets what the pipeline asks of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11]
  unfold Pipeline.ΦA
  rw [scopedRest0_eq]
  iintro ⟨⟨⟨⟨%s0, S0⟩, ⟨%s1, S1⟩, ⟨%s2, S2⟩, ⟨%s3, S3⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (body c _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  iintro ⟨H0, H1, H2, H3, H4, H5, H6, H7, H8, H9, H10, H11, H12, H13, H14, H15, H16, H17, ⟨%r0, S0⟩, ⟨%r1, S1⟩, ⟨%r2, S2⟩, ⟨%r3, S3⟩⟩
  isplitl [S0 S1 S2 S3 HP]
  · isplitr [HP]
    swap; · iexact HP
    isplitl [S0]; · iexists r0; rw [← owns_whole]; iexact S0
    isplitl [S1]; · iexists r1; rw [← owns_whole]; iexact S1
    isplitl [S2]; · iexists r2; rw [← owns_whole]; iexact S2
    iexists r3; rw [← owns_whole]; iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 2000000 in
/-- Every execution of the program ends, with each array of the pipeline at what the proof data say and every
    semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m} in
/-- A final state of the run has every argument array as it was. -/
theorem unchanged {r : PUnit × MemSt nD τ sig (Elt F)}
    (h : Pipeline.RDat.FramePost cfg0 (fun c => (dats m 0 c).toRForget fgt) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(((dats m 0 c).toRForget_arrAt_iff (fgt := fgt) (w := 0) rfl _ _).mp ((h c).1 0)).trans (((dats m 0 c).arrAt_in 0 rfl _).trans ((A_eq m c 0).trans (V_main_arg0 m c))),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   (((dats m 0 c).toRForget_arrAt_iff (fgt := fgt) (w := 4) rfl _ _).mp ((h c).1 4)).trans (((dats m 0 c).arrAt_in 4 rfl _).trans ((A_eq m c 4).trans (V_main_arg4 m c))),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   (((dats m 0 c).toRForget_arrAt_iff (fgt := fgt) (w := 7) rfl _ _).mp ((h c).1 7)).trans (((dats m 0 c).arrAt_in 7 rfl _).trans ((A_eq m c 7).trans (V_main_arg7 m c))),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c),
   ((h c).2 main_arg11 (Pipeline.mem_restRefs_of main_arg11 (by decide) (by decide))).trans (V_main_arg11 m c)⟩

/-- The frame claim. -/
theorem frame : θ_run defs (onTc (τ := τ) (main (F := F))) (s₀ m ρ) (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ h => ⟨fun c => unchanged h.1 c, h.2⟩) (run_main m ρ)

end Cert.Proof.KernelIdeal
-- ==== Proof.Spec.lean ====
/- What the layer computes, one row at a time, over the extended reals: the first product's row, its largest
   absolute value after the rectifier, the row's scale, its codes, and the second product's row. -/
module

public import proofs.«01_k».proof.Defs
public import Idealize.ShloMosaic.Lib.Pipeline.ValueKit
@[expose] public section

set_option maxRecDepth 16384

noncomputable section

namespace Cert.Proof.Spec

open Idealize.ShloMosaic Idealize.ShloMosaic.TcCoe Idealize.ShloMosaic.Tactic
open Cert.ReferenceIdeal

/-- Row `r`, column `j` of the first product, scaled by its row and its column, plus the bias. -/
def hrow (a0 : Vec Ideal S4096x1920 .fp8e4m3) (a1 : Vec Ideal S4096 .f32) (w1 : Vec Ideal S1920x2048 .fp8e4m3)
    (w1s b1 : Vec Ideal S2048 .f32) (r : Fin 4096) (j : Fin 2048) : Ideal .f32 :=
  (∑ k : Fin 1920, a0 (ix2 r k) * w1 (ix2 k j)) * a1 (ix1 r) * w1s (ix1 j) + b1 (ix1 j)

/-- The largest absolute value of a row after the rectifier. -/
def amax (h : Fin 2048 → Ideal .f32) : Ideal .f32 :=
  Finset.fold max (Ideal.ofBits FTy.f32 0xFF800000#32) (fun x => FloatOps.absf (φ := .f32) (max (h x) 0)) Finset.univ

/-- A row's scale: its largest absolute value over 448, and one for a row of zeros. -/
def scale (h : Fin 2048 → Ideal .f32) : Ideal .f32 :=
  if 0 < amax h then Ideal.div (amax h) (Ideal.ofBits .f32 0x43E00000#32) else 1

/-- A row's codes: the rectified row over its scale, clipped to ±448. -/
def code (h : Fin 2048 → Ideal .f32) (j : Fin 2048) : Ideal .f32 :=
  min (Ideal.ofBits .f32 0x43E00000#32) (max (Ideal.ofBits .f32 0xC3E00000#32) (Ideal.div (max (h j) 0) (scale h)))

/-- A row of the second product, from the row's codes, scaled by the row's and the column's scale, plus the bias. -/
def grow (h : Fin 2048 → Ideal .f32) (w2 : Vec Ideal S2048x6144 .fp8e4m3) (w2s b2 : Vec Ideal S6144 .f32)
    (j : Fin 6144) : Ideal .f32 :=
  (∑ x : Fin 2048, code h x * w2 (ix2 x j)) * scale h * w2s (ix1 j) + b2 (ix1 j)

/-- On the extended reals the largest of a rectified row is the largest of its absolute values. -/
theorem absf_relu (a : Ideal .f32) : FloatOps.absf (φ := .f32) (max a 0) = max a 0 := by
  rw [Ideal.absf_def]
  exact max_eq_left ((EReal.neg_le_neg_iff.2 (le_max_right a 0)).trans (by simp))

end Cert.Proof.Spec

end
-- ==== Proof.Block.lean ====
/-
   What one grid point of the kernel writes, over the extended reals: the two products' rows, the codes and the scales of
   the rows of the first, as functions of the blocks of the operands.
-/
module

public import proofs.«01_k».proof.Proof.Spec
public import proofs.«01_k».proof.Proof.BodyKernelIdeal
public import Idealize.ShloMosaic.Lib.Pipeline.ValueKit
@[expose] public section

set_option maxRecDepth 16384

noncomputable section

namespace Cert.Proof.KernelIdeal

open Idealize.ShloMosaic Idealize.ShloMosaic.TcCoe Idealize.ShloMosaic.Tactic
open Cert.KernelIdeal Cert.KernelIdeal.Gen

/-- Entry `(r, j)` of the block's first product. -/
def hk (X1 : Vec Ideal S128x1920 .fp8e4m3) (X2 : Vec Ideal S1x128x128 .f32) (X5 : Vec Ideal S1920x2048 .fp8e4m3)
    (X6 X7 : Vec Ideal S1x2048 .f32) (r : Fin 128) (j : Fin 2048) : Ideal .f32 :=
  (∑ k : Fin 1920, X1 (ix2 r k) * X5 (ix2 k j)) * X2 (ix3 0 r ⟨j.val % 128, Nat.mod_lt _ (by decide)⟩) * X6 (ix2 0 j) + X7 (ix2 0 j)

variable (X1 : Vec Ideal S128x1920 .fp8e4m3) (X2 : Vec Ideal S1x128x128 .f32) (X5 : Vec Ideal S1920x2048 .fp8e4m3)
    (X6 X7 : Vec Ideal S1x2048 .f32)

/-! ## One operation at a time -/

theorem relu_at (A : FVec Ideal S128x128 .f32) (y) : maximumf A (broadcast S128x128 (Scalar.ofBits .f32 0x00000000#32)) y = max (A y) 0 := by pointwise

theorem max_at (A B : FVec Ideal S128x128 .f32) (y) : maximumf A B y = max (A y) (B y) := by pointwise

theorem cast_at (A : FVec Ideal S128x128 .f32) : shapeCast S128x128 A shapeCasts_S128x128_S128x128 = A := by funext y; pointwise

/-- A block of the first product, scaled by rows and columns, and a bias. -/
def lin (A v6 : FVec Ideal S128x128 .f32) (v12 v16 : Vec Ideal S1x128 .f32) : FVec Ideal S128x128 .f32 :=
  addf (mulf (mulf A v6) (broadcastTo S128x128 (shapeCast S1x128 v12 shapeCasts_S1x128_S1x128) broadcasts_S1x128_S128x128)) (broadcastTo S128x128 (shapeCast S1x128 v16 shapeCasts_S1x128_S1x128) broadcasts_S1x128_S128x128)

theorem lin_at (A v6 : FVec Ideal S128x128 .f32) (v12 v16 : Vec Ideal S1x128 .f32) (y) :
    lin A v6 v12 v16 y = A y * v6 y * v12 (ix2 0 (y 1)) + v16 (ix2 0 (y 1)) := by pointwise [lin]

theorem p31_at (v) (y) : k0_pay31 (F := Ideal) v y = v (ix3 0 (y 0) (y 1)) := by pointwise [k0_pay31]

theorem p39_at (v w) (y) : k0_pay39 (F := Ideal) v w y = ∑ k, v (ix2 (y 0) k) * w (ix2 k (y 1)) := by pointwise [k0_pay39]

theorem sl0_at (A : FVec Ideal S128x512 .f32) (y) : extractStridedSlice S128x128 ![0, 0] A slices_S128x512_o0_0_S128x128 y
    = A (ix2 (y 0) ⟨0 + (y 1).val, by have : (y 1).val < 128 := (y 1).isLt; omega⟩) := by pointwise

theorem sl1_at (A : FVec Ideal S128x512 .f32) (y) : extractStridedSlice S128x128 ![0, 128] A slices_S128x512_o0_128_S128x128 y
    = A (ix2 (y 0) ⟨128 + (y 1).val, by have : (y 1).val < 128 := (y 1).isLt; omega⟩) := by pointwise

theorem sl2_at (A : FVec Ideal S128x512 .f32) (y) : extractStridedSlice S128x128 ![0, 256] A slices_S128x512_o0_256_S128x128 y
    = A (ix2 (y 0) ⟨256 + (y 1).val, by have : (y 1).val < 128 := (y 1).isLt; omega⟩) := by pointwise

theorem sl3_at (A : FVec Ideal S128x512 .f32) (y) : extractStridedSlice S128x128 ![0, 384] A slices_S128x512_o0_384_S128x128 y
    = A (ix2 (y 0) ⟨384 + (y 1).val, by have : (y 1).val < 128 := (y 1).isLt; omega⟩) := by pointwise

/-! ## The loads -/

theorem ld1_at (h) (r k) : View.ld (Val := Elt Ideal) X1 (Rect.unit (s := S128x1920) ![0, 0] S128x1920.size h) (ix2 r k) = X1 (ix2 r k) :=
  congrArg X1 (funext fun a => Fin.ext (by match a with | 0 => exact (Nat.zero_add _).trans (Nat.one_mul _) | 1 => exact (Nat.zero_add _).trans (Nat.one_mul _)))
theorem ld2_at (h) (r k) : View.ld (Val := Elt Ideal) X2 (Rect.unit (s := S1x128x128) ![0, 0, 0] S1x128x128.size h) (ix3 0 r k) = X2 (ix3 0 r k) :=
  congrArg X2 (funext fun a => Fin.ext (by match a with | 0 => rfl | 1 => exact (Nat.zero_add _).trans (Nat.one_mul _) | 2 => exact (Nat.zero_add _).trans (Nat.one_mul _)))
theorem ld5_at (o : ℕ) (h) (k) (j : Fin 512) (hb) : View.ld (Val := Elt Ideal) X5 (Rect.unit (s := S1920x2048) ![0, o] S1920x512.size h) (ix2 k j) = X5 (ix2 k ⟨o + j.val, hb⟩) :=
  congrArg X5 (funext fun a => Fin.ext (by match a with | 0 => exact (Nat.zero_add _).trans (Nat.one_mul _) | 1 => exact congrArg (o + ·) (Nat.one_mul _)))
theorem ld6_at (o : ℕ) (h) (j : Fin 128) (hb) : View.ld (Val := Elt Ideal) X6 (Rect.unit (s := S1x2048) ![0, o] S1x128.size h) (ix2 0 j) = X6 (ix2 0 ⟨o + j.val, hb⟩) :=
  congrArg X6 (funext fun a => Fin.ext (by match a with | 0 => rfl | 1 => exact congrArg (o + ·) (Nat.one_mul _)))
theorem blk_at (o5 o : ℕ) (h1 h2 h5 h6 h7) (r : Fin 128) (j5 : Fin 512) (jj : Fin 128) (hb : o + jj.val < 2048) (he : o5 + j5.val = o + jj.val) (hm : 128 ∣ o) :
    (∑ k, View.ld (Val := Elt Ideal) X1 (Rect.unit (s := S128x1920) ![0, 0] S128x1920.size h1) (ix2 r k) * View.ld (Val := Elt Ideal) X5 (Rect.unit (s := S1920x2048) ![0, o5] S1920x512.size h5) (ix2 k j5))
     * View.ld (Val := Elt Ideal) X2 (Rect.unit (s := S1x128x128) ![0, 0, 0] S1x128x128.size h2) (ix3 0 r jj)
     * View.ld (Val := Elt Ideal) X6 (Rect.unit (s := S1x2048) ![0, o] S1x128.size h6) (ix2 0 jj)
     + View.ld (Val := Elt Ideal) X7 (Rect.unit (s := S1x2048) ![0, o] S1x128.size h7) (ix2 0 jj) = hk X1 X2 X5 X6 X7 r ⟨o + jj.val, hb⟩ := by
  have hj : (⟨(o + jj.val) % 128, Nat.mod_lt _ (by decide)⟩ : Fin 128) = jj := by
    obtain ⟨q, rfl⟩ := hm
    exact Fin.ext (by have := jj.isLt; show (128 * q + jj.val) % 128 = jj.val; omega)
  have e5 : (⟨o5 + j5.val, he ▸ hb⟩ : Fin 2048) = ⟨o + jj.val, hb⟩ := Fin.ext he
  unfold hk
  show _ = (∑ k, _) * X2 (ix3 0 r ⟨(o + jj.val) % 128, _⟩) * _ + _
  rw [hj]
  refine congrArg₂ (· + ·) (congrArg₂ (· * ·) (congrArg₂ (· * ·) (Finset.sum_congr rfl fun k _ => congrArg₂ (· * ·) (ld1_at X1 _ _ _) ((ld5_at X5 _ _ _ _ (he ▸ hb)).trans (congrArg X5 (congrArg (ix2 k) e5)))) (ld2_at X2 _ _ _)) (ld6_at X6 _ _ _ hb)) (ld6_at X7 _ _ _ hb)

/-- Block column `0` of one of the four products, as the rows of the specification. -/
theorem piece0 (o5 o : ℕ) (h1 h2 h5 h6 h7) (y : S128x128.Idx) (hb : o + (y 1).val < 2048) (he : o5 + 0 = o) (hm : 128 ∣ o) :
    lin (extractStridedSlice S128x128 ![0, 0] (k0_pay39 (View.ld (Val := Elt Ideal) X1 (Rect.unit (s := S128x1920) ![0, 0] S128x1920.size h1)) (View.ld (Val := Elt Ideal) X5 (Rect.unit (s := S1920x2048) ![0, o5] S1920x512.size h5))) slices_S128x512_o0_0_S128x128)
      (k0_pay31 (View.ld (Val := Elt Ideal) X2 (Rect.unit (s := S1x128x128) ![0, 0, 0] S1x128x128.size h2))) (View.ld (Val := Elt Ideal) X6 (Rect.unit (s := S1x2048) ![0, o] S1x128.size h6)) (View.ld (Val := Elt Ideal) X7 (Rect.unit (s := S1x2048) ![0, o] S1x128.size h7)) y
      = hk X1 X2 X5 X6 X7 (y 0) ⟨o + (y 1).val, hb⟩ := by
  rw [lin_at, sl0_at, p31_at, p39_at]
  exact blk_at X1 X2 X5 X6 X7 o5 o h1 h2 h5 h6 h7 (y 0) ⟨0 + (y 1).val, by have : (y 1).val < 128 := (y 1).isLt; omega⟩ (y 1) hb (by show o5 + (0 + _) = _; omega) hm

/-- Block column `1` of one of the four products, as the rows of the specification. -/
theorem piece1 (o5 o : ℕ) (h1 h2 h5 h6 h7) (y : S128x128.Idx) (hb : o + (y 1).val < 2048) (he : o5 + 128 = o) (hm : 128 ∣ o) :
    lin (extractStridedSlice S128x128 ![0, 128] (k0_pay39 (View.ld (Val := Elt Ideal) X1 (Rect.unit (s := S128x1920) ![0, 0] S128x1920.size h1)) (View.ld (Val := Elt Ideal) X5 (Rect.unit (s := S1920x2048) ![0, o5] S1920x512.size h5))) slices_S128x512_o0_128_S128x128)
      (k0_pay31 (View.ld (Val := Elt Ideal) X2 (Rect.unit (s := S1x128x128) ![0, 0, 0] S1x128x128.size h2))) (View.ld (Val := Elt Ideal) X6 (Rect.unit (s := S1x2048) ![0, o] S1x128.size h6)) (View.ld (Val := Elt Ideal) X7 (Rect.unit (s := S1x2048) ![0, o] S1x128.size h7)) y
      = hk X1 X2 X5 X6 X7 (y 0) ⟨o + (y 1).val, hb⟩ := by
  rw [lin_at, sl1_at, p31_at, p39_at]
  exact blk_at X1 X2 X5 X6 X7 o5 o h1 h2 h5 h6 h7 (y 0) ⟨128 + (y 1).val, by have : (y 1).val < 128 := (y 1).isLt; omega⟩ (y 1) hb (by show o5 + (128 + _) = _; omega) hm

/-- Block column `2` of one of the four products, as the rows of the specification. -/
theorem piece2 (o5 o : ℕ) (h1 h2 h5 h6 h7) (y : S128x128.Idx) (hb : o + (y 1).val < 2048) (he : o5 + 256 = o) (hm : 128 ∣ o) :
    lin (extractStridedSlice S128x128 ![0, 256] (k0_pay39 (View.ld (Val := Elt Ideal) X1 (Rect.unit (s := S128x1920) ![0, 0] S128x1920.size h1)) (View.ld (Val := Elt Ideal) X5 (Rect.unit (s := S1920x2048) ![0, o5] S1920x512.size h5))) slices_S128x512_o0_256_S128x128)
      (k0_pay31 (View.ld (Val := Elt Ideal) X2 (Rect.unit (s := S1x128x128) ![0, 0, 0] S1x128x128.size h2))) (View.ld (Val := Elt Ideal) X6 (Rect.unit (s := S1x2048) ![0, o] S1x128.size h6)) (View.ld (Val := Elt Ideal) X7 (Rect.unit (s := S1x2048) ![0, o] S1x128.size h7)) y
      = hk X1 X2 X5 X6 X7 (y 0) ⟨o + (y 1).val, hb⟩ := by
  rw [lin_at, sl2_at, p31_at, p39_at]
  exact blk_at X1 X2 X5 X6 X7 o5 o h1 h2 h5 h6 h7 (y 0) ⟨256 + (y 1).val, by have : (y 1).val < 128 := (y 1).isLt; omega⟩ (y 1) hb (by show o5 + (256 + _) = _; omega) hm

/-- Block column `3` of one of the four products, as the rows of the specification. -/
theorem piece3 (o5 o : ℕ) (h1 h2 h5 h6 h7) (y : S128x128.Idx) (hb : o + (y 1).val < 2048) (he : o5 + 384 = o) (hm : 128 ∣ o) :
    lin (extractStridedSlice S128x128 ![0, 384] (k0_pay39 (View.ld (Val := Elt Ideal) X1 (Rect.unit (s := S128x1920) ![0, 0] S128x1920.size h1)) (View.ld (Val := Elt Ideal) X5 (Rect.unit (s := S1920x2048) ![0, o5] S1920x512.size h5))) slices_S128x512_o0_384_S128x128)
      (k0_pay31 (View.ld (Val := Elt Ideal) X2 (Rect.unit (s := S1x128x128) ![0, 0, 0] S1x128x128.size h2))) (View.ld (Val := Elt Ideal) X6 (Rect.unit (s := S1x2048) ![0, o] S1x128.size h6)) (View.ld (Val := Elt Ideal) X7 (Rect.unit (s := S1x2048) ![0, o] S1x128.size h7)) y
      = hk X1 X2 X5 X6 X7 (y 0) ⟨o + (y 1).val, hb⟩ := by
  rw [lin_at, sl3_at, p31_at, p39_at]
  exact blk_at X1 X2 X5 X6 X7 o5 o h1 h2 h5 h6 h7 (y 0) ⟨384 + (y 1).val, by have : (y 1).val < 128 := (y 1).isLt; omega⟩ (y 1) hb (by show o5 + (384 + _) = _; omega) hm

/-- A block at column offset `o` of a function of the whole. -/
theorem emb_at (H : Fin 128 → Fin 2048 → Ideal .f32) (o : ℕ) (h) (x : S128x128.Idx) (hb : o + (x 1).val < 2048) :
    H ((Rect.unit (s := S128x2048) ![0, o] S128x128.size h).emb x 0) ((Rect.unit (s := S128x2048) ![0, o] S128x128.size h).emb x 1) = H (x 0) ⟨o + (x 1).val, hb⟩ :=
  congrArg₂ H (Fin.ext ((Nat.zero_add _).trans (Nat.one_mul _))) (Fin.ext (congrArg (o + ·) (Nat.one_mul _)))

theorem lt_of (o : ℕ) (x : S128x128.Idx) (h : o ≤ 1920) : o + (x 1).val < 2048 := by
  have : (x 1).val < 128 := (x 1).isLt
  omega

section Body

variable (c : Dev nD) (arg1 : Memref sig .tc .vmem S128x1920 .fp8e4m3) (arg2 : Memref sig .tc .vmem S1x128x128 .f32)
  (arg5 : Memref sig .tc .vmem S1920x2048 .fp8e4m3) (arg6 arg7 : Memref sig .tc .vmem S1x2048 .f32) (arg17 : Memref sig .tc .vmem S128x2048 .f32)
  (arg21 : Memref sig .tc .vmem S128x128 .f32)
  (f1 : BufTy.Contents (Elt Ideal) arg1.view.ty) (f2 : BufTy.Contents (Elt Ideal) arg2.view.ty) (f5 : BufTy.Contents (Elt Ideal) arg5.view.ty)
  (f6 : BufTy.Contents (Elt Ideal) arg6.view.ty) (f7 : BufTy.Contents (Elt Ideal) arg7.view.ty)

/-- The rows of the first product, of what the operands' buffers hold. -/
abbrev hh : Fin 128 → Fin 2048 → Ideal .f32 :=
  hk (arg1.view.read (Elt Ideal) f1) (arg2.view.read (Elt Ideal) f2) (arg5.view.read (Elt Ideal) f5) (arg6.view.read (Elt Ideal) f6) (arg7.view.read (Elt Ideal) f7)

set_option maxHeartbeats 1000000 in
theorem hp_pieces : ∀ p ∈ body.sl.H17_16 c arg1 arg2 arg5 arg6 arg7 f1 f2 f5 f6 f7, ∀ x, p.2 x = (fun y : S128x2048.Idx => hh arg1 arg2 arg5 arg6 arg7 f1 f2 f5 f6 f7 (y 0) (y 1)) (p.1.emb x) := by
  unfold body.sl.H17_16
  refine List.forall_mem_cons.2 ⟨fun x => (piece3 (arg1.view.read (Elt Ideal) f1) (arg2.view.read (Elt Ideal) f2) (arg5.view.read (Elt Ideal) f5) (arg6.view.read (Elt Ideal) f6) (arg7.view.read (Elt Ideal) f7) 1536 1920 inb_S128x1920_S128x1920_0_0 inb_S1x128x128_S1x128x128_0_0_0 inb_S1920x2048_S1920x512_0_1536 inb_S1x2048_S1x128_0_1920 inb_S1x2048_S1x128_0_1920 x (lt_of 1920 x (by decide)) rfl (by decide)).trans (emb_at (hh arg1 arg2 arg5 arg6 arg7 f1 f2 f5 f6 f7) 1920 inb_S128x2048_S128x128_0_1920 x (lt_of 1920 x (by decide))).symm, ?_⟩
  refine List.forall_mem_cons.2 ⟨fun x => (piece2 (arg1.view.read (Elt Ideal) f1) (arg2.view.read (Elt Ideal) f2) (arg5.view.read (Elt Ideal) f5) (arg6.view.read (Elt Ideal) f6) (arg7.view.read (Elt Ideal) f7) 1536 1792 inb_S128x1920_S128x1920_0_0 inb_S1x128x128_S1x128x128_0_0_0 inb_S1920x2048_S1920x512_0_1536 inb_S1x2048_S1x128_0_1792 inb_S1x2048_S1x128_0_1792 x (lt_of 1792 x (by decide)) rfl (by decide)).trans (emb_at (hh arg1 arg2 arg5 arg6 arg7 f1 f2 f5 f6 f7) 1792 inb_S128x2048_S128x128_0_1792 x (lt_of 1792 x (by decide))).symm, ?_⟩
  refine List.forall_mem_cons.2 ⟨fun x => (piece1 (arg1.view.read (Elt Ideal) f1) (arg2.view.read (Elt Ideal) f2) (arg5.view.read (Elt Ideal) f5) (arg6.view.read (Elt Ideal) f6) (arg7.view.read (Elt Ideal) f7) 1536 1664 inb_S128x1920_S128x1920_0_0 inb_S1x128x128_S1x128x128_0_0_0 inb_S1920x2048_S1920x512_0_1536 inb_S1x2048_S1x128_0_1664 inb_S1x2048_S1x128_0_1664 x (lt_of 1664 x (by decide)) rfl (by decide)).trans (emb_at (hh arg1 arg2 arg5 arg6 arg7 f1 f2 f5 f6 f7) 1664 inb_S128x2048_S128x128_0_1664 x (lt_of 1664 x (by decide))).symm, ?_⟩
  refine List.forall_mem_cons.2 ⟨fun x => (piece0 (arg1.view.read (Elt Ideal) f1) (arg2.view.read (Elt Ideal) f2) (arg5.view.read (Elt Ideal) f5) (arg6.view.read (Elt Ideal) f6) (arg7.view.read (Elt Ideal) f7) 1536 1536 inb_S128x1920_S128x1920_0_0 inb_S1x128x128_S1x128x128_0_0_0 inb_S1920x2048_S1920x512_0_1536 inb_S1x2048_S1x128_0_1536 inb_S1x2048_S1x128_0_1536 x (lt_of 1536 x (by decide)) rfl (by decide)).trans (emb_at (hh arg1 arg2 arg5 arg6 arg7 f1 f2 f5 f6 f7) 1536 inb_S128x2048_S128x128_0_1536 x (lt_of 1536 x (by decide))).symm, ?_⟩
  refine List.forall_mem_cons.2 ⟨fun x => (piece3 (arg1.view.read (Elt Ideal) f1) (arg2.view.read (Elt Ideal) f2) (arg5.view.read (Elt Ideal) f5) (arg6.view.read (Elt Ideal) f6) (arg7.view.read (Elt Ideal) f7) 1024 1408 inb_S128x1920_S128x1920_0_0 inb_S1x128x128_S1x128x128_0_0_0 inb_S1920x2048_S1920x512_0_1024 inb_S1x2048_S1x128_0_1408 inb_S1x2048_S1x128_0_1408 x (lt_of 1408 x (by decide)) rfl (by decide)).trans (emb_at (hh arg1 arg2 arg5 arg6 arg7 f1 f2 f5 f6 f7) 1408 inb_S128x2048_S128x128_0_1408 x (lt_of 1408 x (by decide))).symm, ?_⟩
  refine List.forall_mem_cons.2 ⟨fun x => (piece2 (arg1.view.read (Elt Ideal) f1) (arg2.view.read (Elt Ideal) f2) (arg5.view.read (Elt Ideal) f5) (arg6.view.read (Elt Ideal) f6) (arg7.view.read (Elt Ideal) f7) 1024 1280 inb_S128x1920_S128x1920_0_0 inb_S1x128x128_S1x128x128_0_0_0 inb_S1920x2048_S1920x512_0_1024 inb_S1x2048_S1x128_0_1280 inb_S1x2048_S1x128_0_1280 x (lt_of 1280 x (by decide)) rfl (by decide)).trans (emb_at (hh arg1 arg2 arg5 arg6 arg7 f1 f2 f5 f6 f7) 1280 inb_S128x2048_S128x128_0_1280 x (lt_of 1280 x (by decide))).symm, ?_⟩
  refine List.forall_mem_cons.2 ⟨fun x => (piece1 (arg1.view.read (Elt Ideal) f1) (arg2.view.read (Elt Ideal) f2) (arg5.view.read (Elt Ideal) f5) (arg6.view.read (Elt Ideal) f6) (arg7.view.read (Elt Ideal) f7) 1024 1152 inb_S128x1920_S128x1920_0_0 inb_S1x128x128_S1x128x128_0_0_0 inb_S1920x2048_S1920x512_0_1024 inb_S1x2048_S1x128_0_1152 inb_S1x2048_S1x128_0_1152 x (lt_of 1152 x (by decide)) rfl (by decide)).trans (emb_at (hh arg1 arg2 arg5 arg6 arg7 f1 f2 f5 f6 f7) 1152 inb_S128x2048_S128x128_0_1152 x (lt_of 1152 x (by decide))).symm, ?_⟩
  refine List.forall_mem_cons.2 ⟨fun x => (piece0 (arg1.view.read (Elt Ideal) f1) (arg2.view.read (Elt Ideal) f2) (arg5.view.read (Elt Ideal) f5) (arg6.view.read (Elt Ideal) f6) (arg7.view.read (Elt Ideal) f7) 1024 1024 inb_S128x1920_S128x1920_0_0 inb_S1x128x128_S1x128x128_0_0_0 inb_S1920x2048_S1920x512_0_1024 inb_S1x2048_S1x128_0_1024 inb_S1x2048_S1x128_0_1024 x (lt_of 1024 x (by decide)) rfl (by decide)).trans (emb_at (hh arg1 arg2 arg5 arg6 arg7 f1 f2 f5 f6 f7) 1024 inb_S128x2048_S128x128_0_1024 x (lt_of 1024 x (by decide))).symm, ?_⟩
  refine List.forall_mem_cons.2 ⟨fun x => (piece3 (arg1.view.read (Elt Ideal) f1) (arg2.view.read (Elt Ideal) f2) (arg5.view.read (Elt Ideal) f5) (arg6.view.read (Elt Ideal) f6) (arg7.view.read (Elt Ideal) f7) 512 896 inb_S128x1920_S128x1920_0_0 inb_S1x128x128_S1x128x128_0_0_0 inb_S1920x2048_S1920x512_0_512 inb_S1x2048_S1x128_0_896 inb_S1x2048_S1x128_0_896 x (lt_of 896 x (by decide)) rfl (by decide)).trans (emb_at (hh arg1 arg2 arg5 arg6 arg7 f1 f2 f5 f6 f7) 896 inb_S128x2048_S128x128_0_896 x (lt_of 896 x (by decide))).symm, ?_⟩
  refine List.forall_mem_cons.2 ⟨fun x => (piece2 (arg1.view.read (Elt Ideal) f1) (arg2.view.read (Elt Ideal) f2) (arg5.view.read (Elt Ideal) f5) (arg6.view.read (Elt Ideal) f6) (arg7.view.read (Elt Ideal) f7) 512 768 inb_S128x1920_S128x1920_0_0 inb_S1x128x128_S1x128x128_0_0_0 inb_S1920x2048_S1920x512_0_512 inb_S1x2048_S1x128_0_768 inb_S1x2048_S1x128_0_768 x (lt_of 768 x (by decide)) rfl (by decide)).trans (emb_at (hh arg1 arg2 arg5 arg6 arg7 f1 f2 f5 f6 f7) 768 inb_S128x2048_S128x128_0_768 x (lt_of 768 x (by decide))).symm, ?_⟩
  refine List.forall_mem_cons.2 ⟨fun x => (piece1 (arg1.view.read (Elt Ideal) f1) (arg2.view.read (Elt Ideal) f2) (arg5.view.read (Elt Ideal) f5) (arg6.view.read (Elt Ideal) f6) (arg7.view.read (Elt Ideal) f7) 512 640 inb_S128x1920_S128x1920_0_0 inb_S1x128x128_S1x128x128_0_0_0 inb_S1920x2048_S1920x512_0_512 inb_S1x2048_S1x128_0_640 inb_S1x2048_S1x128_0_640 x (lt_of 640 x (by decide)) rfl (by decide)).trans (emb_at (hh arg1 arg2 arg5 arg6 arg7 f1 f2 f5 f6 f7) 640 inb_S128x2048_S128x128_0_640 x (lt_of 640 x (by decide))).symm, ?_⟩
  refine List.forall_mem_cons.2 ⟨fun x => (piece0 (arg1.view.read (Elt Ideal) f1) (arg2.view.read (Elt Ideal) f2) (arg5.view.read (Elt Ideal) f5) (arg6.view.read (Elt Ideal) f6) (arg7.view.read (Elt Ideal) f7) 512 512 inb_S128x1920_S128x1920_0_0 inb_S1x128x128_S1x128x128_0_0_0 inb_S1920x2048_S1920x512_0_512 inb_S1x2048_S1x128_0_512 inb_S1x2048_S1x128_0_512 x (lt_of 512 x (by decide)) rfl (by decide)).trans (emb_at (hh arg1 arg2 arg5 arg6 arg7 f1 f2 f5 f6 f7) 512 inb_S128x2048_S128x128_0_512 x (lt_of 512 x (by decide))).symm, ?_⟩
  refine List.forall_mem_cons.2 ⟨fun x => (piece3 (arg1.view.read (Elt Ideal) f1) (arg2.view.read (Elt Ideal) f2) (arg5.view.read (Elt Ideal) f5) (arg6.view.read (Elt Ideal) f6) (arg7.view.read (Elt Ideal) f7) 0 384 inb_S128x1920_S128x1920_0_0 inb_S1x128x128_S1x128x128_0_0_0 inb_S1920x2048_S1920x512_0_0 inb_S1x2048_S1x128_0_384 inb_S1x2048_S1x128_0_384 x (lt_of 384 x (by decide)) rfl (by decide)).trans (emb_at (hh arg1 arg2 arg5 arg6 arg7 f1 f2 f5 f6 f7) 384 inb_S128x2048_S128x128_0_384 x (lt_of 384 x (by decide))).symm, ?_⟩
  refine List.forall_mem_cons.2 ⟨fun x => (piece2 (arg1.view.read (Elt Ideal) f1) (arg2.view.read (Elt Ideal) f2) (arg5.view.read (Elt Ideal) f5) (arg6.view.read (Elt Ideal) f6) (arg7.view.read (Elt Ideal) f7) 0 256 inb_S128x1920_S128x1920_0_0 inb_S1x128x128_S1x128x128_0_0_0 inb_S1920x2048_S1920x512_0_0 inb_S1x2048_S1x128_0_256 inb_S1x2048_S1x128_0_256 x (lt_of 256 x (by decide)) rfl (by decide)).trans (emb_at (hh arg1 arg2 arg5 arg6 arg7 f1 f2 f5 f6 f7) 256 inb_S128x2048_S128x128_0_256 x (lt_of 256 x (by decide))).symm, ?_⟩
  refine List.forall_mem_cons.2 ⟨fun x => (piece1 (arg1.view.read (Elt Ideal) f1) (arg2.view.read (Elt Ideal) f2) (arg5.view.read (Elt Ideal) f5) (arg6.view.read (Elt Ideal) f6) (arg7.view.read (Elt Ideal) f7) 0 128 inb_S128x1920_S128x1920_0_0 inb_S1x128x128_S1x128x128_0_0_0 inb_S1920x2048_S1920x512_0_0 inb_S1x2048_S1x128_0_128 inb_S1x2048_S1x128_0_128 x (lt_of 128 x (by decide)) rfl (by decide)).trans (emb_at (hh arg1 arg2 arg5 arg6 arg7 f1 f2 f5 f6 f7) 128 inb_S128x2048_S128x128_0_128 x (lt_of 128 x (by decide))).symm, ?_⟩
  refine List.forall_mem_cons.2 ⟨fun x => (piece0 (arg1.view.read (Elt Ideal) f1) (arg2.view.read (Elt Ideal) f2) (arg5.view.read (Elt Ideal) f5) (arg6.view.read (Elt Ideal) f6) (arg7.view.read (Elt Ideal) f7) 0 0 inb_S128x1920_S128x1920_0_0 inb_S1x128x128_S1x128x128_0_0_0 inb_S1920x2048_S1920x512_0_0 inb_S1x2048_S1x128_0_0 inb_S1x2048_S1x128_0_0 x (lt_of 0 x (by decide)) rfl (by decide)).trans (emb_at (hh arg1 arg2 arg5 arg6 arg7 f1 f2 f5 f6 f7) 0 inb_S128x2048_S128x128_0_0 x (lt_of 0 x (by decide))).symm, ?_⟩
  exact fun _ h => absurd h List.not_mem_nil

theorem hp_cover : ∀ y : S128x2048.Idx, ∃ p ∈ body.sl.H17_16 c arg1 arg2 arg5 arg6 arg7 f1 f2 f5 f6 f7, y ∈ p.1.set :=
  View.cover_of_tiled _ S128x128.size (by rfl)

theorem hp_canon (y : S128x2048.Idx) : View.canon (body.sl.H17_16 c arg1 arg2 arg5 arg6 arg7 f1 f2 f5 f6 f7) y = hh arg1 arg2 arg5 arg6 arg7 f1 f2 f5 f6 f7 (y 0) (y 1) :=
  View.canon_apply_of_pieces (fun y : S128x2048.Idx => hh arg1 arg2 arg5 arg6 arg7 f1 f2 f5 f6 f7 (y 0) (y 1)) _ (hp_pieces c arg1 arg2 arg5 arg6 arg7 f1 f2 f5 f6 f7) y (hp_cover c arg1 arg2 arg5 arg6 arg7 f1 f2 f5 f6 f7 y)

/-- A block of the rows, read back. -/
theorem hp_back (o : ℕ) (h) (x : S128x128.Idx) (hb : o + (x 1).val < 2048) :
    arg17.view.readCov (body.sl.H17_16 c arg1 arg2 arg5 arg6 arg7 f1 f2 f5 f6 f7) (Rect.unit (s := S128x2048) ![0, o] S128x128.size h).toLoadRect x = hh arg1 arg2 arg5 arg6 arg7 f1 f2 f5 f6 f7 (x 0) ⟨o + (x 1).val, hb⟩ :=
  (congrFun (View.readCov_eq_canon' arg17.view (body.sl.H17_16 c arg1 arg2 arg5 arg6 arg7 f1 f2 f5 f6 f7) (Rect.unit (s := S128x2048) ![0, o] S128x128.size h).toLoadRect) x).trans
    ((hp_canon c arg1 arg2 arg5 arg6 arg7 f1 f2 f5 f6 f7 ((Rect.unit (s := S128x2048) ![0, o] S128x128.size h).emb x)).trans (emb_at (hh arg1 arg2 arg5 arg6 arg7 f1 f2 f5 f6 f7) o h x hb))

/-! ## The largest entry of a row -/

/-- Entry `l` of block `b` of row `r`, its negative part dropped. -/
def bl (H : Fin 128 → Fin 2048 → Ideal .f32) (r l : Fin 128) (b : ℕ) : Ideal .f32 := max (H r ⟨(128 * b + l.val) % 2048, Nat.mod_lt _ (by decide)⟩) 0

/-- The running maximum over the blocks up to `n`. -/
def nest (H : Fin 128 → Fin 2048 → Ideal .f32) (r l : Fin 128) : ℕ → Ideal .f32
  | 0 => bl H r l 0
  | n + 1 => max (nest H r l n) (bl H r l (n + 1))

theorem nest_le (H : Fin 128 → Fin 2048 → Ideal .f32) (r l : Fin 128) (n : ℕ) (C : Ideal .f32) (h : ∀ b ≤ n, bl H r l b ≤ C) : nest H r l n ≤ C := by
  induction n with
  | zero => exact h 0 le_rfl
  | succ n ih => exact max_le (ih fun b hb => h b (Nat.le_succ_of_le hb)) (h _ le_rfl)

theorem le_nest (H : Fin 128 → Fin 2048 → Ideal .f32) (r l : Fin 128) (n b : ℕ) (h : b ≤ n) : bl H r l b ≤ nest H r l n := by
  induction n with
  | zero => obtain rfl := Nat.le_zero.1 h; exact le_rfl
  | succ n ih =>
    rcases Nat.lt_or_ge b (n + 1) with hb | hb
    · exact (ih (Nat.le_of_lt_succ hb)).trans (le_max_left _ _)
    · obtain rfl := Nat.le_antisymm h hb; exact le_max_right _ _

/-- The largest of sixteen blocks' maxima is the row's. -/
theorem amax_nest (H : Fin 128 → Fin 2048 → Ideal .f32) (r : Fin 128) :
    Finset.fold max (Ideal.ofBits FTy.f32 0xFF800000#32) (fun l => nest H r l 15) Finset.univ = Spec.amax (H r) := by
  unfold Spec.amax
  simp only [Spec.absf_relu]
  apply le_antisymm
  · rw [Finset.fold_max_le]
    refine ⟨(Finset.le_fold_max _).2 (Or.inl le_rfl), fun l _ => nest_le H r l 15 _ fun b hb => ?_⟩
    exact (Finset.le_fold_max _).2 (Or.inr ⟨⟨(128 * b + l.val) % 2048, Nat.mod_lt _ (by decide)⟩, Finset.mem_univ _, le_rfl⟩)
  · rw [Finset.fold_max_le]
    refine ⟨(Finset.le_fold_max _).2 (Or.inl le_rfl), fun j _ => ?_⟩
    refine (Finset.le_fold_max _).2 (Or.inr ⟨⟨j.val % 128, Nat.mod_lt _ (by decide)⟩, Finset.mem_univ _, ?_⟩)
    have hj := j.isLt
    have h : bl H r ⟨j.val % 128, Nat.mod_lt _ (by decide)⟩ (j.val / 128) = max (H r j) 0 := by
      unfold bl
      rw [show (⟨(128 * (j.val / 128) + j.val % 128) % 2048, Nat.mod_lt _ (by decide)⟩ : Fin 2048) = j from Fin.ext (by show (128 * (j.val / 128) + j.val % 128) % 2048 = j.val; omega)]
    rw [← h]
    exact le_nest H r _ 15 _ (by omega)

theorem bl_eq (H : Fin 128 → Fin 2048 → Ideal .f32) (y : S128x128.Idx) (b : ℕ) (hb : 128 * b + (y 1).val < 2048) :
    max (H (y 0) ⟨128 * b + (y 1).val, hb⟩) 0 = bl H (y 0) (y 1) b := by
  unfold bl
  exact congrArg (fun z => max (H (y 0) z) 0) (Fin.ext (Nat.mod_eq_of_lt hb).symm)

set_option maxHeartbeats 1000000 in
theorem r2_at (y : S128x128.Idx) : body.sl.r_2 c arg1 arg2 arg5 arg6 arg7 f1 f2 f5 f6 f7 y = nest (hh arg1 arg2 arg5 arg6 arg7 f1 f2 f5 f6 f7) (y 0) (y 1) 0 := (relu_at _ y).trans ((congrArg (max · 0) (piece0 (arg1.view.read (Elt Ideal) f1) (arg2.view.read (Elt Ideal) f2) (arg5.view.read (Elt Ideal) f5) (arg6.view.read (Elt Ideal) f6) (arg7.view.read (Elt Ideal) f7) 0 0 inb_S128x1920_S128x1920_0_0 inb_S1x128x128_S1x128x128_0_0_0 inb_S1920x2048_S1920x512_0_0 inb_S1x2048_S1x128_0_0 inb_S1x2048_S1x128_0_0 y (lt_of 0 y (by decide)) rfl (by decide))).trans (bl_eq (hh arg1 arg2 arg5 arg6 arg7 f1 f2 f5 f6 f7) y 0 _))

set_option maxHeartbeats 1000000 in
theorem r4_at (y : S128x128.Idx) : body.sl.r_4 c arg1 arg2 arg5 arg6 arg7 f1 f2 f5 f6 f7 y = nest (hh arg1 arg2 arg5 arg6 arg7 f1 f2 f5 f6 f7) (y 0) (y 1) 3 := (max_at _ _ y).trans (congrArg₂ max ((max_at _ _ y).trans (congrArg₂ max ((max_at _ _ y).trans (congrArg₂ max (r2_at c arg1 arg2 arg5 arg6 arg7 f1 f2 f5 f6 f7 y) ((relu_at _ y).trans ((congrArg (max · 0) (piece1 (arg1.view.read (Elt Ideal) f1) (arg2.view.read (Elt Ideal) f2) (arg5.view.read (Elt Ideal) f5) (arg6.view.read (Elt Ideal) f6) (arg7.view.read (Elt Ideal) f7) 0 128 inb_S128x1920_S128x1920_0_0 inb_S1x128x128_S1x128x128_0_0_0 inb_S1920x2048_S1920x512_0_0 inb_S1x2048_S1x128_0_128 inb_S1x2048_S1x128_0_128 y (lt_of 128 y (by decide)) rfl (by decide))).trans (bl_eq (hh arg1 arg2 arg5 arg6 arg7 f1 f2 f5 f6 f7) y 1 _))))) ((relu_at _ y).trans ((congrArg (max · 0) (piece2 (arg1.view.read (Elt Ideal) f1) (arg2.view.read (Elt Ideal) f2) (arg5.view.read (Elt Ideal) f5) (arg6.view.read (Elt Ideal) f6) (arg7.view.read (Elt Ideal) f7) 0 256 inb_S128x1920_S128x1920_0_0 inb_S1x128x128_S1x128x128_0_0_0 inb_S1920x2048_S1920x512_0_0 inb_S1x2048_S1x128_0_256 inb_S1x2048_S1x128_0_256 y (lt_of 256 y (by decide)) rfl (by decide))).trans (bl_eq (hh arg1 arg2 arg5 arg6 arg7 f1 f2 f5 f6 f7) y 2 _))))) ((relu_at _ y).trans ((congrArg (max · 0) (piece3 (arg1.view.read (Elt Ideal) f1) (arg2.view.read (Elt Ideal) f2) (arg5.view.read (Elt Ideal) f5) (arg6.view.read (Elt Ideal) f6) (arg7.view.read (Elt Ideal) f7) 0 384 inb_S128x1920_S128x1920_0_0 inb_S1x128x128_S1x128x128_0_0_0 inb_S1920x2048_S1920x512_0_0 inb_S1x2048_S1x128_0_384 inb_S1x2048_S1x128_0_384 y (lt_of 384 y (by decide)) rfl (by decide))).trans (bl_eq (hh arg1 arg2 arg5 arg6 arg7 f1 f2 f5 f6 f7) y 3 _))))

set_option maxHeartbeats 1000000 in
theorem r7_at (y : S128x128.Idx) : body.sl.r_7 c arg1 arg2 arg5 arg6 arg7 f1 f2 f5 f6 f7 y = nest (hh arg1 arg2 arg5 arg6 arg7 f1 f2 f5 f6 f7) (y 0) (y 1) 5 := (max_at _ _ y).trans (congrArg₂ max ((max_at _ _ y).trans (congrArg₂ max (r4_at c arg1 arg2 arg5 arg6 arg7 f1 f2 f5 f6 f7 y) ((relu_at _ y).trans ((congrArg (max · 0) (piece0 (arg1.view.read (Elt Ideal) f1) (arg2.view.read (Elt Ideal) f2) (arg5.view.read (Elt Ideal) f5) (arg6.view.read (Elt Ideal) f6) (arg7.view.read (Elt Ideal) f7) 512 512 inb_S128x1920_S128x1920_0_0 inb_S1x128x128_S1x128x128_0_0_0 inb_S1920x2048_S1920x512_0_512 inb_S1x2048_S1x128_0_512 inb_S1x2048_S1x128_0_512 y (lt_of 512 y (by decide)) rfl (by decide))).trans (bl_eq (hh arg1 arg2 arg5 arg6 arg7 f1 f2 f5 f6 f7) y 4 _))))) ((relu_at _ y).trans ((congrArg (max · 0) (piece1 (arg1.view.read (Elt Ideal) f1) (arg2.view.read (Elt Ideal) f2) (arg5.view.read (Elt Ideal) f5) (arg6.view.read (Elt Ideal) f6) (arg7.view.read (Elt Ideal) f7) 512 640 inb_S128x1920_S128x1920_0_0 inb_S1x128x128_S1x128x128_0_0_0 inb_S1920x2048_S1920x512_0_512 inb_S1x2048_S1x128_0_640 inb_S1x2048_S1x128_0_640 y (lt_of 640 y (by decide)) rfl (by decide))).trans (bl_eq (hh arg1 arg2 arg5 arg6 arg7 f1 f2 f5 f6 f7) y 5 _))))

set_option maxHeartbeats 1000000 in
theorem r10_at (y : S128x128.Idx) : body.sl.r_10 c arg1 arg2 arg5 arg6 arg7 f1 f2 f5 f6 f7 y = nest (hh arg1 arg2 arg5 arg6 arg7 f1 f2 f5 f6 f7) (y 0) (y 1) 8 := (max_at _ _ y).trans (congrArg₂ max ((max_at _ _ y).trans (congrArg₂ max ((max_at _ _ y).trans (congrArg₂ max (r7_at c arg1 arg2 arg5 arg6 arg7 f1 f2 f5 f6 f7 y) ((relu_at _ y).trans ((congrArg (max · 0) (piece2 (arg1.view.read (Elt Ideal) f1) (arg2.view.read (Elt Ideal) f2) (arg5.view.read (Elt Ideal) f5) (arg6.view.read (Elt Ideal) f6) (arg7.view.read (Elt Ideal) f7) 512 768 inb_S128x1920_S128x1920_0_0 inb_S1x128x128_S1x128x128_0_0_0 inb_S1920x2048_S1920x512_0_512 inb_S1x2048_S1x128_0_768 inb_S1x2048_S1x128_0_768 y (lt_of 768 y (by decide)) rfl (by decide))).trans (bl_eq (hh arg1 arg2 arg5 arg6 arg7 f1 f2 f5 f6 f7) y 6 _))))) ((relu_at _ y).trans ((congrArg (max · 0) (piece3 (arg1.view.read (Elt Ideal) f1) (arg2.view.read (Elt Ideal) f2) (arg5.view.read (Elt Ideal) f5) (arg6.view.read (Elt Ideal) f6) (arg7.view.read (Elt Ideal) f7) 512 896 inb_S128x1920_S128x1920_0_0 inb_S1x128x128_S1x128x128_0_0_0 inb_S1920x2048_S1920x512_0_512 inb_S1x2048_S1x128_0_896 inb_S1x2048_S1x128_0_896 y (lt_of 896 y (by decide)) rfl (by decide))).trans (bl_eq (hh arg1 arg2 arg5 arg6 arg7 f1 f2 f5 f6 f7) y 7 _))))) ((relu_at _ y).trans ((congrArg (max · 0) (piece0 (arg1.view.read (Elt Ideal) f1) (arg2.view.read (Elt Ideal) f2) (arg5.view.read (Elt Ideal) f5) (arg6.view.read (Elt Ideal) f6) (arg7.view.read (Elt Ideal) f7) 1024 1024 inb_S128x1920_S128x1920_0_0 inb_S1x128x128_S1x128x128_0_0_0 inb_S1920x2048_S1920x512_0_1024 inb_S1x2048_S1x128_0_1024 inb_S1x2048_S1x128_0_1024 y (lt_of 1024 y (by decide)) rfl (by decide))).trans (bl_eq (hh arg1 arg2 arg5 arg6 arg7 f1 f2 f5 f6 f7) y 8 _))))

set_option maxHeartbeats 1000000 in
theorem r12_at (y : S128x128.Idx) : body.sl.r_12 c arg1 arg2 arg5 arg6 arg7 f1 f2 f5 f6 f7 y = nest (hh arg1 arg2 arg5 arg6 arg7 f1 f2 f5 f6 f7) (y 0) (y 1) 10 := (max_at _ _ y).trans (congrArg₂ max ((max_at _ _ y).trans (congrArg₂ max (r10_at c arg1 arg2 arg5 arg6 arg7 f1 f2 f5 f6 f7 y) ((relu_at _ y).trans ((congrArg (max · 0) (piece1 (arg1.view.read (Elt Ideal) f1) (arg2.view.read (Elt Ideal) f2) (arg5.view.read (Elt Ideal) f5) (arg6.view.read (Elt Ideal) f6) (arg7.view.read (Elt Ideal) f7) 1024 1152 inb_S128x1920_S128x1920_0_0 inb_S1x128x128_S1x128x128_0_0_0 inb_S1920x2048_S1920x512_0_1024 inb_S1x2048_S1x128_0_1152 inb_S1x2048_S1x128_0_1152 y (lt_of 1152 y (by decide)) rfl (by decide))).trans (bl_eq (hh arg1 arg2 arg5 arg6 arg7 f1 f2 f5 f6 f7) y 9 _))))) ((relu_at _ y).trans ((congrArg (max · 0) (piece2 (arg1.view.read (Elt Ideal) f1) (arg2.view.read (Elt Ideal) f2) (arg5.view.read (Elt Ideal) f5) (arg6.view.read (Elt Ideal) f6) (arg7.view.read (Elt Ideal) f7) 1024 1280 inb_S128x1920_S128x1920_0_0 inb_S1x128x128_S1x128x128_0_0_0 inb_S1920x2048_S1920x512_0_1024 inb_S1x2048_S1x128_0_1280 inb_S1x2048_S1x128_0_1280 y (lt_of 1280 y (by decide)) rfl (by decide))).trans (bl_eq (hh arg1 arg2 arg5 arg6 arg7 f1 f2 f5 f6 f7) y 10 _))))

set_option maxHeartbeats 1000000 in
theorem r15_at (y : S128x128.Idx) : body.sl.r_15 c arg1 arg2 arg5 arg6 arg7 f1 f2 f5 f6 f7 y = nest (hh arg1 arg2 arg5 arg6 arg7 f1 f2 f5 f6 f7) (y 0) (y 1) 13 := (max_at _ _ y).trans (congrArg₂ max ((max_at _ _ y).trans (congrArg₂ max ((max_at _ _ y).trans (congrArg₂ max (r12_at c arg1 arg2 arg5 arg6 arg7 f1 f2 f5 f6 f7 y) ((relu_at _ y).trans ((congrArg (max · 0) (piece3 (arg1.view.read (Elt Ideal) f1) (arg2.view.read (Elt Ideal) f2) (arg5.view.read (Elt Ideal) f5) (arg6.view.read (Elt Ideal) f6) (arg7.view.read (Elt Ideal) f7) 1024 1408 inb_S128x1920_S128x1920_0_0 inb_S1x128x128_S1x128x128_0_0_0 inb_S1920x2048_S1920x512_0_1024 inb_S1x2048_S1x128_0_1408 inb_S1x2048_S1x128_0_1408 y (lt_of 1408 y (by decide)) rfl (by decide))).trans (bl_eq (hh arg1 arg2 arg5 arg6 arg7 f1 f2 f5 f6 f7) y 11 _))))) ((relu_at _ y).trans ((congrArg (max · 0) (piece0 (arg1.view.read (Elt Ideal) f1) (arg2.view.read (Elt Ideal) f2) (arg5.view.read (Elt Ideal) f5) (arg6.view.read (Elt Ideal) f6) (arg7.view.read (Elt Ideal) f7) 1536 1536 inb_S128x1920_S128x1920_0_0 inb_S1x128x128_S1x128x128_0_0_0 inb_S1920x2048_S1920x512_0_1536 inb_S1x2048_S1x128_0_1536 inb_S1x2048_S1x128_0_1536 y (lt_of 1536 y (by decide)) rfl (by decide))).trans (bl_eq (hh arg1 arg2 arg5 arg6 arg7 f1 f2 f5 f6 f7) y 12 _))))) ((relu_at _ y).trans ((congrArg (max · 0) (piece1 (arg1.view.read (Elt Ideal) f1) (arg2.view.read (Elt Ideal) f2) (arg5.view.read (Elt Ideal) f5) (arg6.view.read (Elt Ideal) f6) (arg7.view.read (Elt Ideal) f7) 1536 1664 inb_S128x1920_S128x1920_0_0 inb_S1x128x128_S1x128x128_0_0_0 inb_S1920x2048_S1920x512_0_1536 inb_S1x2048_S1x128_0_1664 inb_S1x2048_S1x128_0_1664 y (lt_of 1664 y (by decide)) rfl (by decide))).trans (bl_eq (hh arg1 arg2 arg5 arg6 arg7 f1 f2 f5 f6 f7) y 13 _))))

/-- The running maximum over all blocks, lane by lane. -/
def mx : FVec Ideal S128x128 .f32 :=
  maximumf (maximumf (body.sl.r_15 c arg1 arg2 arg5 arg6 arg7 f1 f2 f5 f6 f7) (maximumf (k0_pay59 (body.sl.r_16 c arg1 arg2 arg5 f1 f2 f5) (body.sl.r_17 c arg6 f6)
      (View.readAt (Elt Ideal) arg7.view (Rect.unit (s := S1x2048) ![0, 1792] S1x128.size inb_S1x2048_S1x128_0_1792).toLoadRect f7)) (broadcast S128x128 (Scalar.ofBits .f32 0x00000000#32) : FVec Ideal S128x128 .f32)))
    (maximumf (k0_pay60 (body.sl.r c arg2 f2) (body.sl.r_14 c arg1 arg5 f1 f5)
      (View.readAt (Elt Ideal) arg6.view (Rect.unit (s := S1x2048) ![0, 1920] S1x128.size inb_S1x2048_S1x128_0_1920).toLoadRect f6)
      (View.readAt (Elt Ideal) arg7.view (Rect.unit (s := S1x2048) ![0, 1920] S1x128.size inb_S1x2048_S1x128_0_1920).toLoadRect f7)) (broadcast S128x128 (Scalar.ofBits .f32 0x00000000#32) : FVec Ideal S128x128 .f32))

set_option maxHeartbeats 1000000 in
theorem mx_at (y : S128x128.Idx) : mx c arg1 arg2 arg5 arg6 arg7 f1 f2 f5 f6 f7 y = nest (hh arg1 arg2 arg5 arg6 arg7 f1 f2 f5 f6 f7) (y 0) (y 1) 15 := (max_at _ _ y).trans (congrArg₂ max ((max_at _ _ y).trans (congrArg₂ max (r15_at c arg1 arg2 arg5 arg6 arg7 f1 f2 f5 f6 f7 y) ((relu_at _ y).trans ((congrArg (max · 0) (piece2 (arg1.view.read (Elt Ideal) f1) (arg2.view.read (Elt Ideal) f2) (arg5.view.read (Elt Ideal) f5) (arg6.view.read (Elt Ideal) f6) (arg7.view.read (Elt Ideal) f7) 1536 1792 inb_S128x1920_S128x1920_0_0 inb_S1x128x128_S1x128x128_0_0_0 inb_S1920x2048_S1920x512_0_1536 inb_S1x2048_S1x128_0_1792 inb_S1x2048_S1x128_0_1792 y (lt_of 1792 y (by decide)) rfl (by decide))).trans (bl_eq (hh arg1 arg2 arg5 arg6 arg7 f1 f2 f5 f6 f7) y 14 _))))) ((relu_at _ y).trans ((congrArg (max · 0) (piece3 (arg1.view.read (Elt Ideal) f1) (arg2.view.read (Elt Ideal) f2) (arg5.view.read (Elt Ideal) f5) (arg6.view.read (Elt Ideal) f6) (arg7.view.read (Elt Ideal) f7) 1536 1920 inb_S128x1920_S128x1920_0_0 inb_S1x128x128_S1x128x128_0_0_0 inb_S1920x2048_S1920x512_0_1536 inb_S1x2048_S1x128_0_1920 inb_S1x2048_S1x128_0_1920 y (lt_of 1920 y (by decide)) rfl (by decide))).trans (bl_eq (hh arg1 arg2 arg5 arg6 arg7 f1 f2 f5 f6 f7) y 15 _))))

/-- The scale of each row from its largest entry. -/
def sc (M : FVec Ideal S128x128 .f32) : FVec Ideal S128x128 .f32 :=
  broadcastTo S128x128 (shapeCast S128x1 (select (cmpf .ogt (shapeCast S128x1 (multiReduction .maximumf [1] S128 M 0xFF800000#32 reduces_S128x128_S128 (.inl rfl) rfl) shapeCasts_S128_S128x1) (broadcast S128x1 (Scalar.ofBits .f32 0x00000000#32)))
    (divf (shapeCast S128x1 (multiReduction .maximumf [1] S128 M 0xFF800000#32 reduces_S128x128_S128 (.inl rfl) rfl) shapeCasts_S128_S128x1) (broadcast S128x1 (Scalar.ofBits .f32 0x43E00000#32))) (broadcast S128x1 (Scalar.ofBits .f32 0x3F800000#32))) shapeCasts_S128x1_S128x1) broadcasts_S128x1_S128x128

theorem sc_at (M : FVec Ideal S128x128 .f32) (y : S128x128.Idx) :
    sc M y = if 0 < Finset.fold max (Ideal.ofBits FTy.f32 0xFF800000#32) (fun x => M (ix2 (y 0) x)) Finset.univ
      then Ideal.div (Finset.fold max (Ideal.ofBits FTy.f32 0xFF800000#32) (fun x => M (ix2 (y 0) x)) Finset.univ) (Ideal.ofBits .f32 0x43E00000#32) else 1 := by pointwise [sc]

theorem r18_eq : body.sl.r_18 c arg1 arg2 arg5 arg6 arg7 f1 f2 f5 f6 f7 = sc (mx c arg1 arg2 arg5 arg6 arg7 f1 f2 f5 f6 f7) := rfl

theorem r18_at (y : S128x128.Idx) : body.sl.r_18 c arg1 arg2 arg5 arg6 arg7 f1 f2 f5 f6 f7 y = Spec.scale ((hh arg1 arg2 arg5 arg6 arg7 f1 f2 f5 f6 f7) (y 0)) := by
  rw [r18_eq, sc_at]
  have h : Finset.fold max (Ideal.ofBits FTy.f32 0xFF800000#32) (fun x => mx c arg1 arg2 arg5 arg6 arg7 f1 f2 f5 f6 f7 (ix2 (y 0) x)) Finset.univ = Spec.amax ((hh arg1 arg2 arg5 arg6 arg7 f1 f2 f5 f6 f7) (y 0)) := by
    exact (congrArg (fun g => Finset.fold max (Ideal.ofBits FTy.f32 0xFF800000#32) g Finset.univ) (funext fun x => mx_at c arg1 arg2 arg5 arg6 arg7 f1 f2 f5 f6 f7 (ix2 (y 0) x))).trans (amax_nest (hh arg1 arg2 arg5 arg6 arg7 f1 f2 f5 f6 f7) (y 0))
  rw [h]
  rfl

/-! ## The codes -/

/-- The code of an entry from the entry and its row's scale. -/
def qz (S V : FVec Ideal S128x128 .f32) : FVec Ideal S128x128 .fp8e4m3 :=
  truncf .fp8e4m3 (minimumf (broadcast S128x128 (Scalar.ofBits .f32 0x43E00000#32)) (maximumf (broadcast S128x128 (Scalar.ofBits .f32 0xC3E00000#32)) (divf (maximumf (shapeCast S128x128 V shapeCasts_S128x128_S128x128) (broadcast S128x128 (Scalar.ofBits .f32 0x00000000#32))) S))) bitsLt_fp8e4m3_f32

theorem qz_at (S V : FVec Ideal S128x128 .f32) (y) : qz S V y
    = min (Ideal.ofBits .f32 0x43E00000#32) (max (Ideal.ofBits .f32 0xC3E00000#32) (Ideal.div (max (V y) 0) (S y))) := by pointwise [qz]

theorem code_piece (o : ℕ) (h) (x : S128x128.Idx) (hb : o + (x 1).val < 2048) :
    qz (body.sl.r_18 c arg1 arg2 arg5 arg6 arg7 f1 f2 f5 f6 f7) (arg17.view.readCov (body.sl.H17_16 c arg1 arg2 arg5 arg6 arg7 f1 f2 f5 f6 f7) (Rect.unit (s := S128x2048) ![0, o] S128x128.size h).toLoadRect) x
      = Spec.code ((hh arg1 arg2 arg5 arg6 arg7 f1 f2 f5 f6 f7) (x 0)) ⟨o + (x 1).val, hb⟩ := by
  rw [qz_at, r18_at, hp_back c arg1 arg2 arg5 arg6 arg7 arg17 f1 f2 f5 f6 f7 o h x hb]
  rfl

set_option maxHeartbeats 1000000 in
theorem h1_pieces : ∀ p ∈ body.sl.H15_16 c arg1 arg2 arg5 arg6 arg7 arg17 f1 f2 f5 f6 f7, ∀ x, p.2 x = (fun y : S128x2048.Idx => Spec.code ((hh arg1 arg2 arg5 arg6 arg7 f1 f2 f5 f6 f7) (y 0)) (y 1)) (p.1.emb x) := by
  unfold body.sl.H15_16
  refine List.forall_mem_cons.2 ⟨fun x => (code_piece c arg1 arg2 arg5 arg6 arg7 arg17 f1 f2 f5 f6 f7 1920 inb_S128x2048_S128x128_0_1920 x (lt_of 1920 x (by decide))).trans (emb_at (fun r => Spec.code ((hh arg1 arg2 arg5 arg6 arg7 f1 f2 f5 f6 f7) r)) 1920 inb_S128x2048_S128x128_0_1920 x (lt_of 1920 x (by decide))).symm, ?_⟩
  refine List.forall_mem_cons.2 ⟨fun x => (code_piece c arg1 arg2 arg5 arg6 arg7 arg17 f1 f2 f5 f6 f7 1792 inb_S128x2048_S128x128_0_1792 x (lt_of 1792 x (by decide))).trans (emb_at (fun r => Spec.code ((hh arg1 arg2 arg5 arg6 arg7 f1 f2 f5 f6 f7) r)) 1792 inb_S128x2048_S128x128_0_1792 x (lt_of 1792 x (by decide))).symm, ?_⟩
  refine List.forall_mem_cons.2 ⟨fun x => (code_piece c arg1 arg2 arg5 arg6 arg7 arg17 f1 f2 f5 f6 f7 1664 inb_S128x2048_S128x128_0_1664 x (lt_of 1664 x (by decide))).trans (emb_at (fun r => Spec.code ((hh arg1 arg2 arg5 arg6 arg7 f1 f2 f5 f6 f7) r)) 1664 inb_S128x2048_S128x128_0_1664 x (lt_of 1664 x (by decide))).symm, ?_⟩
  refine List.forall_mem_cons.2 ⟨fun x => (code_piece c arg1 arg2 arg5 arg6 arg7 arg17 f1 f2 f5 f6 f7 1536 inb_S128x2048_S128x128_0_1536 x (lt_of 1536 x (by decide))).trans (emb_at (fun r => Spec.code ((hh arg1 arg2 arg5 arg6 arg7 f1 f2 f5 f6 f7) r)) 1536 inb_S128x2048_S128x128_0_1536 x (lt_of 1536 x (by decide))).symm, ?_⟩
  refine List.forall_mem_cons.2 ⟨fun x => (code_piece c arg1 arg2 arg5 arg6 arg7 arg17 f1 f2 f5 f6 f7 1408 inb_S128x2048_S128x128_0_1408 x (lt_of 1408 x (by decide))).trans (emb_at (fun r => Spec.code ((hh arg1 arg2 arg5 arg6 arg7 f1 f2 f5 f6 f7) r)) 1408 inb_S128x2048_S128x128_0_1408 x (lt_of 1408 x (by decide))).symm, ?_⟩
  refine List.forall_mem_cons.2 ⟨fun x => (code_piece c arg1 arg2 arg5 arg6 arg7 arg17 f1 f2 f5 f6 f7 1280 inb_S128x2048_S128x128_0_1280 x (lt_of 1280 x (by decide))).trans (emb_at (fun r => Spec.code ((hh arg1 arg2 arg5 arg6 arg7 f1 f2 f5 f6 f7) r)) 1280 inb_S128x2048_S128x128_0_1280 x (lt_of 1280 x (by decide))).symm, ?_⟩
  refine List.forall_mem_cons.2 ⟨fun x => (code_piece c arg1 arg2 arg5 arg6 arg7 arg17 f1 f2 f5 f6 f7 1152 inb_S128x2048_S128x128_0_1152 x (lt_of 1152 x (by decide))).trans (emb_at (fun r => Spec.code ((hh arg1 arg2 arg5 arg6 arg7 f1 f2 f5 f6 f7) r)) 1152 inb_S128x2048_S128x128_0_1152 x (lt_of 1152 x (by decide))).symm, ?_⟩
  refine List.forall_mem_cons.2 ⟨fun x => (code_piece c arg1 arg2 arg5 arg6 arg7 arg17 f1 f2 f5 f6 f7 1024 inb_S128x2048_S128x128_0_1024 x (lt_of 1024 x (by decide))).trans (emb_at (fun r => Spec.code ((hh arg1 arg2 arg5 arg6 arg7 f1 f2 f5 f6 f7) r)) 1024 inb_S128x2048_S128x128_0_1024 x (lt_of 1024 x (by decide))).symm, ?_⟩
  refine List.forall_mem_cons.2 ⟨fun x => (code_piece c arg1 arg2 arg5 arg6 arg7 arg17 f1 f2 f5 f6 f7 896 inb_S128x2048_S128x128_0_896 x (lt_of 896 x (by decide))).trans (emb_at (fun r => Spec.code ((hh arg1 arg2 arg5 arg6 arg7 f1 f2 f5 f6 f7) r)) 896 inb_S128x2048_S128x128_0_896 x (lt_of 896 x (by decide))).symm, ?_⟩
  refine List.forall_mem_cons.2 ⟨fun x => (code_piece c arg1 arg2 arg5 arg6 arg7 arg17 f1 f2 f5 f6 f7 768 inb_S128x2048_S128x128_0_768 x (lt_of 768 x (by decide))).trans (emb_at (fun r => Spec.code ((hh arg1 arg2 arg5 arg6 arg7 f1 f2 f5 f6 f7) r)) 768 inb_S128x2048_S128x128_0_768 x (lt_of 768 x (by decide))).symm, ?_⟩
  refine List.forall_mem_cons.2 ⟨fun x => (code_piece c arg1 arg2 arg5 arg6 arg7 arg17 f1 f2 f5 f6 f7 640 inb_S128x2048_S128x128_0_640 x (lt_of 640 x (by decide))).trans (emb_at (fun r => Spec.code ((hh arg1 arg2 arg5 arg6 arg7 f1 f2 f5 f6 f7) r)) 640 inb_S128x2048_S128x128_0_640 x (lt_of 640 x (by decide))).symm, ?_⟩
  refine List.forall_mem_cons.2 ⟨fun x => (code_piece c arg1 arg2 arg5 arg6 arg7 arg17 f1 f2 f5 f6 f7 512 inb_S128x2048_S128x128_0_512 x (lt_of 512 x (by decide))).trans (emb_at (fun r => Spec.code ((hh arg1 arg2 arg5 arg6 arg7 f1 f2 f5 f6 f7) r)) 512 inb_S128x2048_S128x128_0_512 x (lt_of 512 x (by decide))).symm, ?_⟩
  refine List.forall_mem_cons.2 ⟨fun x => (code_piece c arg1 arg2 arg5 arg6 arg7 arg17 f1 f2 f5 f6 f7 384 inb_S128x2048_S128x128_0_384 x (lt_of 384 x (by decide))).trans (emb_at (fun r => Spec.code ((hh arg1 arg2 arg5 arg6 arg7 f1 f2 f5 f6 f7) r)) 384 inb_S128x2048_S128x128_0_384 x (lt_of 384 x (by decide))).symm, ?_⟩
  refine List.forall_mem_cons.2 ⟨fun x => (code_piece c arg1 arg2 arg5 arg6 arg7 arg17 f1 f2 f5 f6 f7 256 inb_S128x2048_S128x128_0_256 x (lt_of 256 x (by decide))).trans (emb_at (fun r => Spec.code ((hh arg1 arg2 arg5 arg6 arg7 f1 f2 f5 f6 f7) r)) 256 inb_S128x2048_S128x128_0_256 x (lt_of 256 x (by decide))).symm, ?_⟩
  refine List.forall_mem_cons.2 ⟨fun x => (code_piece c arg1 arg2 arg5 arg6 arg7 arg17 f1 f2 f5 f6 f7 128 inb_S128x2048_S128x128_0_128 x (lt_of 128 x (by decide))).trans (emb_at (fun r => Spec.code ((hh arg1 arg2 arg5 arg6 arg7 f1 f2 f5 f6 f7) r)) 128 inb_S128x2048_S128x128_0_128 x (lt_of 128 x (by decide))).symm, ?_⟩
  refine List.forall_mem_cons.2 ⟨fun x => (code_piece c arg1 arg2 arg5 arg6 arg7 arg17 f1 f2 f5 f6 f7 0 inb_S128x2048_S128x128_0_0 x (lt_of 0 x (by decide))).trans (emb_at (fun r => Spec.code ((hh arg1 arg2 arg5 arg6 arg7 f1 f2 f5 f6 f7) r)) 0 inb_S128x2048_S128x128_0_0 x (lt_of 0 x (by decide))).symm, ?_⟩
  exact fun _ h => absurd h List.not_mem_nil

theorem h1_cover : ∀ y : S128x2048.Idx, ∃ p ∈ body.sl.H15_16 c arg1 arg2 arg5 arg6 arg7 arg17 f1 f2 f5 f6 f7, y ∈ p.1.set :=
  View.cover_of_tiled _ S128x128.size (by rfl)

theorem h1_canon (y : S128x2048.Idx) : View.canon (body.sl.H15_16 c arg1 arg2 arg5 arg6 arg7 arg17 f1 f2 f5 f6 f7) y = Spec.code ((hh arg1 arg2 arg5 arg6 arg7 f1 f2 f5 f6 f7) (y 0)) (y 1) :=
  View.canon_apply_of_pieces (fun y : S128x2048.Idx => Spec.code ((hh arg1 arg2 arg5 arg6 arg7 f1 f2 f5 f6 f7) (y 0)) (y 1)) _ (h1_pieces c arg1 arg2 arg5 arg6 arg7 arg17 f1 f2 f5 f6 f7) y (h1_cover c arg1 arg2 arg5 arg6 arg7 arg17 f1 f2 f5 f6 f7 y)

end Body

end Cert.Proof.KernelIdeal
-- ==== Proof.BlockScale.lean ====
/- The scales of the rows as one grid point of the kernel keeps and writes them, over the extended reals. -/
module

public import proofs.«01_k».proof.Proof.Spec
public import proofs.«01_k».proof.Proof.BodyKernelIdeal
public import Idealize.ShloMosaic.Lib.Pipeline.ValueKit
public import proofs.«01_k».proof.Proof.Block
@[expose] public section

set_option maxRecDepth 16384

noncomputable section

namespace Cert.Proof.KernelIdeal

open Idealize.ShloMosaic Idealize.ShloMosaic.TcCoe Idealize.ShloMosaic.Tactic
open Cert.KernelIdeal Cert.KernelIdeal.Gen

section Body

variable (c : Dev nD) (arg1 : Memref sig .tc .vmem S128x1920 .fp8e4m3) (arg2 : Memref sig .tc .vmem S1x128x128 .f32)
  (arg5 : Memref sig .tc .vmem S1920x2048 .fp8e4m3) (arg6 arg7 : Memref sig .tc .vmem S1x2048 .f32) (arg17 : Memref sig .tc .vmem S128x2048 .f32)
  (arg21 : Memref sig .tc .vmem S128x128 .f32)
  (f1 : BufTy.Contents (Elt Ideal) arg1.view.ty) (f2 : BufTy.Contents (Elt Ideal) arg2.view.ty) (f5 : BufTy.Contents (Elt Ideal) arg5.view.ty)
  (f6 : BufTy.Contents (Elt Ideal) arg6.view.ty) (f7 : BufTy.Contents (Elt Ideal) arg7.view.ty)

theorem pay62_eq (a b c d e f g h) : k0_pay62 (F := Ideal) a b c d e f g h = k0_pay61 a b c d e f g h := cast_at _

theorem embS (G : Fin 128 → Ideal .f32) (x : S128x128.Idx) : G ((Rect.unit (s := S128x128) ![0, 0] S128x128.size inb_S128x128_S128x128_0_0).emb x 0) = G (x 0) :=
  congrArg G (Fin.ext ((Nat.zero_add _).trans (Nat.one_mul _)))
theorem embT (G : Fin 128 → Ideal .f32) (x : S1x1x128.Idx) : G ((Rect.unit (s := S1x1x128) ![0, 0, 0] S1x1x128.size inb_S1x1x128_S1x1x128_0_0_0).emb x 2) = G (x 2) :=
  congrArg G (Fin.ext ((Nat.zero_add _).trans (Nat.one_mul _)))

theorem p62 : k0_pay62 (body.sl.r c arg2 f2) (body.sl.r_14 c arg1 arg5 f1 f5) (body.sl.r_15 c arg1 arg2 arg5 arg6 arg7 f1 f2 f5 f6 f7) (body.sl.r_16 c arg1 arg2 arg5 f1 f2 f5) (body.sl.r_17 c arg6 f6)
      (View.readAt (Elt Ideal) arg7.view (Rect.unit (s := S1x2048) ![0, 1792] S1x128.size inb_S1x2048_S1x128_0_1792).toLoadRect f7)
      (View.readAt (Elt Ideal) arg6.view (Rect.unit (s := S1x2048) ![0, 1920] S1x128.size inb_S1x2048_S1x128_0_1920).toLoadRect f6)
      (View.readAt (Elt Ideal) arg7.view (Rect.unit (s := S1x2048) ![0, 1920] S1x128.size inb_S1x2048_S1x128_0_1920).toLoadRect f7) = body.sl.r_18 c arg1 arg2 arg5 arg6 arg7 f1 f2 f5 f6 f7 := pay62_eq _ _ _ _ _ _ _ _

theorem whole_piece (v : Vec Ideal S128x128 .f32) (G : Fin 128 → Ideal .f32) (hv : ∀ x : S128x128.Idx, v x = G (x 0)) (y : S128x128.Idx) :
    View.canon [(⟨Rect.unit (s := S128x128) ![0, 0] S128x128.size inb_S128x128_S128x128_0_0, v⟩ : View.Piece (Elt Ideal) S128x128 .f32)] y = G (y 0) := by
  have hc : ∀ y : S128x128.Idx, ∃ p ∈ [(⟨Rect.unit (s := S128x128) ![0, 0] S128x128.size inb_S128x128_S128x128_0_0, v⟩ : View.Piece (Elt Ideal) S128x128 .f32)], y ∈ p.1.set := View.cover_of_tiled _ S128x128.size (by rfl)
  exact View.canon_apply_of_pieces (Val := Elt Ideal) (e := .f32) (fun y : S128x128.Idx => G (y 0)) _ (List.forall_mem_cons.2 ⟨fun x => (hv x).trans (embS G x).symm, fun _ h => absurd h List.not_mem_nil⟩) y (hc y)

theorem whole_piece' (v : Vec Ideal S1x1x128 .f32) (G : Fin 128 → Ideal .f32) (hv : ∀ x : S1x1x128.Idx, v x = G (x 2)) (y : S1x1x128.Idx) :
    View.canon [(⟨Rect.unit (s := S1x1x128) ![0, 0, 0] S1x1x128.size inb_S1x1x128_S1x1x128_0_0_0, v⟩ : View.Piece (Elt Ideal) S1x1x128 .f32)] y = G (y 2) := by
  have hc : ∀ y : S1x1x128.Idx, ∃ p ∈ [(⟨Rect.unit (s := S1x1x128) ![0, 0, 0] S1x1x128.size inb_S1x1x128_S1x1x128_0_0_0, v⟩ : View.Piece (Elt Ideal) S1x1x128 .f32)], y ∈ p.1.set := View.cover_of_tiled _ S1x1x128.size (by rfl)
  exact View.canon_apply_of_pieces (Val := Elt Ideal) (e := .f32) (fun y : S1x1x128.Idx => G (y 2)) _ (List.forall_mem_cons.2 ⟨fun x => (hv x).trans (embT G x).symm, fun _ h => absurd h List.not_mem_nil⟩) y (hc y)

theorem h21_canon (y : S128x128.Idx) : View.canon (body.sl.H21_1 c arg1 arg2 arg5 arg6 arg7 f1 f2 f5 f6 f7) y = Spec.scale (hh arg1 arg2 arg5 arg6 arg7 f1 f2 f5 f6 f7 (y 0)) :=
  whole_piece _ (fun z => Spec.scale (hh arg1 arg2 arg5 arg6 arg7 f1 f2 f5 f6 f7 z)) (fun x => (congrFun (p62 c arg1 arg2 arg5 arg6 arg7 f1 f2 f5 f6 f7) x).trans (r18_at c arg1 arg2 arg5 arg6 arg7 f1 f2 f5 f6 f7 x)) y

/-- The rows' scales, read back. -/
theorem v431_at (y : S128x128.Idx) : body.sl.v431 c arg1 arg2 arg5 arg6 arg7 arg21 f1 f2 f5 f6 f7 y = Spec.scale ((hh arg1 arg2 arg5 arg6 arg7 f1 f2 f5 f6 f7) (y 0)) :=
  (congrFun (View.readCov_eq_canon' arg21.view (body.sl.H21_1 c arg1 arg2 arg5 arg6 arg7 f1 f2 f5 f6 f7) (Rect.unit (s := S128x128) ![0, 0] S128x128.size inb_S128x128_S128x128_0_0).toLoadRect) y).trans
    ((h21_canon c arg1 arg2 arg5 arg6 arg7 f1 f2 f5 f6 f7 ((Rect.unit (s := S128x128) ![0, 0] S128x128.size inb_S128x128_S128x128_0_0).emb y)).trans
      (embS (fun z => Spec.scale ((hh arg1 arg2 arg5 arg6 arg7 f1 f2 f5 f6 f7) z)) y))

theorem pay84_at (v) (y : S1x1x128.Idx) : k0_pay84 (F := Ideal) v y = v (ix2 (y 2) 0) := by pointwise [k0_pay84]

/-- The scales as the kernel writes them, one lane to a row. -/
theorem h1s_canon (y : S1x1x128.Idx) : View.canon (body.sl.H16_1 c arg1 arg2 arg5 arg6 arg7 arg21 f1 f2 f5 f6 f7) y = Spec.scale (hh arg1 arg2 arg5 arg6 arg7 f1 f2 f5 f6 f7 (y 2)) :=
  whole_piece' _ (fun z => Spec.scale (hh arg1 arg2 arg5 arg6 arg7 f1 f2 f5 f6 f7 z)) (fun x => (pay84_at _ x).trans (v431_at c arg1 arg2 arg5 arg6 arg7 arg21 f1 f2 f5 f6 f7 (ix2 (x 2) 0))) y

/-- Reading a whole block of codes back. -/
theorem embW (G : Fin 128 → Fin 2048 → Ideal .f32) (x : S128x2048.Idx) :
    G ((Rect.unit (s := S128x2048) ![0, 0] S128x2048.size inb_S128x2048_S128x2048_0_0).emb x 0) ((Rect.unit (s := S128x2048) ![0, 0] S128x2048.size inb_S128x2048_S128x2048_0_0).emb x 1) = G (x 0) (x 1) :=
  congrArg₂ G (Fin.ext ((Nat.zero_add _).trans (Nat.one_mul _))) (Fin.ext ((Nat.zero_add _).trans (Nat.one_mul _)))

end Body

end Cert.Proof.KernelIdeal
-- ==== Proof.GRows.lean ====
/- The second product's rows as the kernel writes them, two groups of 128 columns to a trip, over the extended reals. -/
module

public import proofs.«01_k».proof.Proof.Spec
public import proofs.«01_k».proof.Proof.TripsKernelIdeal
public import Idealize.ShloMosaic.Lib.Pipeline.ValueKit
@[expose] public section

set_option maxRecDepth 16384

noncomputable section

namespace Cert.Proof.KernelIdeal

open Idealize.ShloMosaic Idealize.ShloMosaic.TcCoe Idealize.ShloMosaic.Tactic
open Cert.KernelIdeal Cert.KernelIdeal.Gen

/-- Entry (group `n`, lane `l`) of row `r` of the second product: the codes' row times a column, scaled and shifted. -/
def gk (Q : Vec Ideal S128x2048 .fp8e4m3) (S : FVec Ideal S128x128 .f32) (X8 : Vec Ideal S2048x6144 .fp8e4m3) (X9 X10 : Vec Ideal S48x128 .f32)
    (r : Fin 128) (n : Fin 48) (l : Fin 128) : Ideal .f32 :=
  (∑ j : Fin 2048, Q (ix2 r j) * X8 (ix2 j ⟨n.val * 128 + l.val, by omega⟩)) * S (ix2 r l) * X9 (ix2 n l) + X10 (ix2 n l)

/-- The same at an index of the written block: 48 rows to a row of the product. -/
def gAt (Q : Vec Ideal S128x2048 .fp8e4m3) (S : FVec Ideal S128x128 .f32) (X8 : Vec Ideal S2048x6144 .fp8e4m3) (X9 X10 : Vec Ideal S48x128 .f32)
    (y : S6144x128.Idx) : Ideal .f32 :=
  gk Q S X8 X9 X10 ⟨(y 0).val / 48, by have h : (y 0).val < 6144 := (y 0).isLt; omega⟩ ⟨(y 0).val % 48, Nat.mod_lt _ (by decide)⟩ (y 1)

theorem pay4_at (S Q W a b y) : k0_pay4 (F := Ideal) S Q W a b y
    = (∑ j : Fin 2048, Q (ix2 (y 0) j) * W (ix2 j ⟨(y 1).val, by have : (y 1).val < 128 := (y 1).isLt; omega⟩)) * S y * a (ix2 0 (y 1)) + b (ix2 0 (y 1)) := by
  pointwise [k0_pay4, k0_pay3]

theorem pay11_at (S Q W a b y) : k0_pay11 (k0_pay9 S (k0_pay3 (F := Ideal) Q W) a) (k0_pay10 b) y
    = (∑ j : Fin 2048, Q (ix2 (y 0) j) * W (ix2 j ⟨128 + (y 1).val, by have : (y 1).val < 128 := (y 1).isLt; omega⟩)) * S y * a (ix2 0 (y 1)) + b (ix2 0 (y 1)) := by
  pointwise [k0_pay11, k0_pay10, k0_pay9, k0_pay3]

theorem ld8_at (X : Vec Ideal S2048x6144 .fp8e4m3) (o : Fin 2 → ℕ) (c0 : ℕ) (ho : o = ![0, c0]) (h) (j : Fin 2048) (l : Fin 256) (z : Fin 6144) (hz : z.val = c0 + l.val) :
    View.ld (Val := Elt Ideal) X (Rect.unit (s := S2048x6144) o S2048x256.size h) (ix2 j l) = X (ix2 j z) := by
  subst ho
  refine congrArg X (funext fun a => Fin.ext ?_)
  match a with
  | 0 => exact (Nat.zero_add _).trans (Nat.one_mul _)
  | 1 => exact (congrArg (c0 + ·) (Nat.one_mul _)).trans hz.symm

theorem ld9_at (X : Vec Ideal S48x128 .f32) (o : Fin 2 → ℕ) (n : Fin 48) (ho : o = ![n.val, 0]) (h) (l : Fin 128) :
    View.ld (Val := Elt Ideal) X (Rect.unit (s := S48x128) o S1x128.size h) (ix2 0 l) = X (ix2 n l) := by
  subst ho
  refine congrArg X (funext fun a => Fin.ext ?_)
  match a with
  | 0 => exact Nat.add_zero _
  | 1 => exact (Nat.zero_add _).trans (Nat.one_mul _)

/-- Where a written group lies: group `n`, every 48th row. -/
theorem gEmb (Q S X8 X9 X10) (o : Fin 2 → ℕ) (n : Fin 48) (ho : o = ![n.val, 0]) (h) (x : S128x128.Idx) :
    gAt Q S X8 X9 X10 ((⟨(⟨o, S128x128.size, ![48, 1], h⟩ : LoadRect S6144x128), spos_48_1⟩ : Rect S6144x128).emb x) = gk Q S X8 X9 X10 (x 0) n (x 1) := by
  subst ho
  have h0 : (((⟨(⟨![n.val, 0], S128x128.size, ![48, 1], h⟩ : LoadRect S6144x128), spos_48_1⟩ : Rect S6144x128).emb x) 0).val = n.val + 48 * (x 0).val := rfl
  have h1 : (((⟨(⟨![n.val, 0], S128x128.size, ![48, 1], h⟩ : LoadRect S6144x128), spos_48_1⟩ : Rect S6144x128).emb x) 1).val = (x 1).val := (Nat.zero_add _).trans (Nat.one_mul _)
  unfold gAt
  have e0 : (n.val + 48 * (x 0).val) / 48 = (x 0).val := by omega
  have e1 : (n.val + 48 * (x 0).val) % 48 = n.val := by omega
  congr 1
  · exact Fin.ext ((congrArg (· / 48) h0).trans e0)
  · exact Fin.ext ((congrArg (· % 48) h0).trans e1)
  · exact Fin.ext h1

section Rows

variable (arg8 : Memref sig .tc .vmem S2048x6144 .fp8e4m3) (harg8 : arg8.IsWhole) (arg9 : Memref sig .tc .vmem S48x128 .f32) (harg9 : arg9.IsWhole)
  (arg10 : Memref sig .tc .vmem S48x128 .f32) (harg10 : arg10.IsWhole) (f8 : BufTy.Contents (Elt Ideal) arg8.view.ty) (f9 : BufTy.Contents (Elt Ideal) arg9.view.ty)
  (f10 : BufTy.Contents (Elt Ideal) arg10.view.ty) (S : Vec Ideal S128x128 .f32) (Q : Vec Ideal S128x2048 .fp8e4m3)

/-- One trip's pieces are the product's entries where they lie. -/
theorem gTrip_pieces (k : Fin k0_t1_loop.trips) : ∀ p ∈ gTrip arg8 harg8 arg9 harg9 arg10 harg10 f8 f9 f10 S Q k, ∀ x : p.1.shape.Idx,
    p.2 x = gAt Q S (arg8.view.read (Elt Ideal) f8) (arg9.view.read (Elt Ideal) f9) (arg10.view.read (Elt Ideal) f10) (p.1.emb x) := by
  have hk : k.val < 24 := k.isLt
  refine List.forall_mem_cons.2 ⟨fun x => ?_, List.forall_mem_cons.2 ⟨fun x => ?_, fun _ h => absurd h List.not_mem_nil⟩⟩
  · refine Eq.trans ?_ (gEmb Q S _ _ _ _ ⟨2 * k.val + 1, by omega⟩ (k0_off3_eq k 1) (k0_off3_inb k 1) x).symm
    refine (pay11_at S Q _ _ _ x).trans ?_
    have hs : S x = S (ix2 (x 0) (x 1)) := congrArg S (funext fun a => by match a with | 0 => rfl | 1 => rfl)
    exact congrArg₂ (· + ·) (congrArg₂ (· * ·) (congrArg₂ (· * ·) (Finset.sum_congr rfl fun j _ => congrArg (Q (ix2 (x 0) j) * ·)
      (ld8_at _ _ _ (k0_off1_eq k) _ j _ _ (by show (2 * k.val + 1) * 128 + _ = 256 * k.val + (128 + _); omega))) hs)
      (ld9_at _ _ ⟨2 * k.val + 1, by omega⟩ (k0_off2_eq k 1) _ (x 1))) (ld9_at _ _ ⟨2 * k.val + 1, by omega⟩ (k0_off2_eq k 1) _ (x 1))
  · refine Eq.trans ?_ (gEmb Q S _ _ _ _ ⟨2 * k.val, by omega⟩ (k0_off3_eq k 0) (k0_off3_inb k 0) x).symm
    refine (pay4_at S Q _ _ _ x).trans ?_
    have hs : S x = S (ix2 (x 0) (x 1)) := congrArg S (funext fun a => by match a with | 0 => rfl | 1 => rfl)
    exact congrArg₂ (· + ·) (congrArg₂ (· * ·) (congrArg₂ (· * ·) (Finset.sum_congr rfl fun j _ => congrArg (Q (ix2 (x 0) j) * ·)
      (ld8_at _ _ _ (k0_off1_eq k) _ j _ _ (by show (2 * k.val) * 128 + (x 1).val = 256 * k.val + (x 1).val; omega))) hs)
      (ld9_at _ _ ⟨2 * k.val, by omega⟩ (k0_off2_eq k 0) _ (x 1))) (ld9_at _ _ ⟨2 * k.val, by omega⟩ (k0_off2_eq k 0) _ (x 1))

theorem gRows_pieces (n : ℕ) : ∀ p ∈ gRows arg8 harg8 arg9 harg9 arg10 harg10 f8 f9 f10 S Q n, ∀ x : p.1.shape.Idx,
    p.2 x = gAt Q S (arg8.view.read (Elt Ideal) f8) (arg9.view.read (Elt Ideal) f9) (arg10.view.read (Elt Ideal) f10) (p.1.emb x) := by
  induction n with
  | zero => exact fun _ h => absurd h List.not_mem_nil
  | succ n ih =>
    intro p hp
    rw [gRows.eq_2] at hp
    split at hp
    · rcases List.mem_append.1 hp with h | h
      · exact gTrip_pieces arg8 harg8 arg9 harg9 arg10 harg10 f8 f9 f10 S Q ⟨n, _⟩ p h
      · exact ih p h
    · exact ih p hp

theorem gRows_mem (k : Fin k0_t1_loop.trips) (n : ℕ) (hn : k.val < n) (p) (hp : p ∈ gTrip arg8 harg8 arg9 harg9 arg10 harg10 f8 f9 f10 S Q k) :
    p ∈ gRows arg8 harg8 arg9 harg9 arg10 harg10 f8 f9 f10 S Q n := by
  induction n with
  | zero => exact absurd hn (Nat.not_lt_zero _)
  | succ n ih =>
    rw [gRows.eq_2]
    rcases Nat.lt_or_ge k.val n with h | h
    · split
      · exact List.mem_append.2 (Or.inr (ih h))
      · exact ih h
    · obtain rfl : n = k.val := Nat.le_antisymm h (Nat.le_of_lt_succ hn)
      rw [dif_pos k.isLt]
      exact List.mem_append.2 (Or.inl hp)

/-- Every row lies in some group of some trip. -/
theorem gRows_cover (y : S6144x128.Idx) : ∃ p ∈ gRows arg8 harg8 arg9 harg9 arg10 harg10 f8 f9 f10 S Q k0_t1_loop.trips, y ∈ p.1.set := by
  have h0 : (y 0).val < 6144 := (y 0).isLt
  have h1 : (y 1).val < 128 := (y 1).isLt
  have hk : (y 0).val % 48 / 2 < k0_t1_loop.trips := by show _ < 24; omega
  rcases Nat.mod_two_eq_zero_or_one ((y 0).val % 48) with hb | hb
  · refine ⟨_, gRows_mem arg8 harg8 arg9 harg9 arg10 harg10 f8 f9 f10 S Q ⟨_, hk⟩ _ hk _ (List.mem_cons_of_mem _ (List.mem_singleton_self _)), ?_⟩
    refine (LoadRect.mem_set _).mpr fun a => ?_
    have e := k0_off3_eq ⟨_, hk⟩ 0
    match a with
    | 0 => exact ⟨(y 0).val / 48, by show _ < 128; omega, by
        show (y 0).val = k0_off3 ⟨_, hk⟩ 0#32 0 + 48 * ((y 0).val / 48)
        rw [show k0_off3 ⟨_, hk⟩ 0#32 0 = 2 * ((y 0).val % 48 / 2) + 0 from congrFun e 0]; omega⟩
    | 1 => exact ⟨(y 1).val, h1, by
        show (y 1).val = k0_off3 ⟨_, hk⟩ 0#32 1 + 1 * (y 1).val
        rw [show k0_off3 ⟨_, hk⟩ 0#32 1 = 0 from congrFun e 1]; omega⟩
  · refine ⟨_, gRows_mem arg8 harg8 arg9 harg9 arg10 harg10 f8 f9 f10 S Q ⟨_, hk⟩ _ hk _ (List.mem_cons_self), ?_⟩
    refine (LoadRect.mem_set _).mpr fun a => ?_
    have e := k0_off3_eq ⟨_, hk⟩ 1
    match a with
    | 0 => exact ⟨(y 0).val / 48, by show _ < 128; omega, by
        show (y 0).val = k0_off3 ⟨_, hk⟩ 1#32 0 + 48 * ((y 0).val / 48)
        rw [show k0_off3 ⟨_, hk⟩ 1#32 0 = 2 * ((y 0).val % 48 / 2) + 1 from congrFun e 0]; omega⟩
    | 1 => exact ⟨(y 1).val, h1, by
        show (y 1).val = k0_off3 ⟨_, hk⟩ 1#32 1 + 1 * (y 1).val
        rw [show k0_off3 ⟨_, hk⟩ 1#32 1 = 0 from congrFun e 1]; omega⟩

theorem gRows_canon (y : S6144x128.Idx) : View.canon (gRows arg8 harg8 arg9 harg9 arg10 harg10 f8 f9 f10 S Q k0_t1_loop.trips) y
    = gAt Q S (arg8.view.read (Elt Ideal) f8) (arg9.view.read (Elt Ideal) f9) (arg10.view.read (Elt Ideal) f10) y :=
  View.canon_apply_of_pieces _ _ (gRows_pieces arg8 harg8 arg9 harg9 arg10 harg10 f8 f9 f10 S Q _) y (gRows_cover arg8 harg8 arg9 harg9 arg10 harg10 f8 f9 f10 S Q y)

end Rows

end Cert.Proof.KernelIdeal
-- ==== Proof.SpecNorm.lean ====
/- The second layer norm and the output's quantiser over the extended reals, one batch element at a time: the normed rows, the
   largest absolute value, the scale, the codes. -/
module

public import proofs.«01_k».proof.Proof.Spec
@[expose] public section

set_option maxRecDepth 16384

noncomputable section

namespace Cert.Proof.Spec

open Idealize.ShloMosaic Idealize.ShloMosaic.TcCoe Idealize.ShloMosaic.Tactic

/-- The mean of 128 entries. -/
def mean (z : Fin 128 → Ideal .f32) : Ideal .f32 := Ideal.div (∑ d : Fin 128, z d) (Ideal.ofBits .f32 0x43000000#32)
/-- An entry less the mean. -/
def dev (z : Fin 128 → Ideal .f32) (d : Fin 128) : Ideal .f32 := z d - mean z
/-- The variance, a small constant added. -/
def vare (z : Fin 128 → Ideal .f32) : Ideal .f32 := mean (fun d => dev z d * dev z d) + Ideal.ofBits .f32 0x3727C5AC#32
/-- The layer norm of a row at an entry, with that entry's gain and shift. -/
def znorm (z : Fin 128 → Ideal .f32) (g b : Ideal .f32) (d : Fin 128) : Ideal .f32 := Ideal.div (dev z d) (Ideal.sqrt (vare z)) * g + b
/-- The same, multiplying by the inverse of the root. -/
def knorm (z : Fin 128 → Ideal .f32) (g b : Ideal .f32) (d : Fin 128) : Ideal .f32 := dev z d * Ideal.rsqrt (vare z) * g + b

theorem ofBits_128 : Ideal.ofBits .f32 0x43000000#32 = ((128 : ℝ) : EReal) := by
  simp [Ideal.ofBits, Ideal.ieee]
  rw [← EReal.coe_mul]; norm_num
theorem eps_pos : 0 < Ideal.ofBits .f32 0x3727C5AC#32 := by
  simp [Ideal.ofBits, Ideal.ieee]
  rw [← EReal.coe_mul]; exact_mod_cast (by positivity)
theorem ofBits_bot : Ideal.ofBits .f32 0xFF800000#32 = (⊥ : EReal) := by
  simp [Ideal.ofBits, Ideal.ieee]

theorem sq_nonneg' (x : EReal) : 0 ≤ x * x := by
  rcases le_total 0 x with h | h
  · exact mul_nonneg h h
  · have h' : 0 ≤ -x := by simpa using EReal.neg_le_neg_iff.2 h
    have := mul_nonneg h' h'
    rwa [neg_mul_neg] at this

theorem vare_pos (z) : 0 < vare z := by
  have h : (0 : EReal) ≤ mean (fun d => dev z d * dev z d) := by
    unfold mean
    rw [ofBits_128]
    unfold Ideal.div
    rw [if_neg (by norm_num)]
    exact mul_nonneg (Finset.sum_nonneg fun d _ => sq_nonneg' _) (by rw [← EReal.coe_inv]; exact_mod_cast (by norm_num : (0:ℝ) ≤ 128⁻¹))
  exact lt_of_lt_of_le eps_pos (le_add_of_nonneg_left h)

theorem div_sqrt (x v : EReal) (hv : 0 < v) : Ideal.div x (Ideal.sqrt v) = x * Ideal.rsqrt v := by
  induction v using EReal.rec with
  | bot => exact absurd hv (by simp)
  | top => simp [Ideal.div]
  | coe r =>
    have hr : 0 < r := by exact_mod_cast hv
    have hs : 0 < Real.sqrt r := Real.sqrt_pos.2 hr
    simp [Ideal.div, not_lt.2 hr.le, hr.ne', hs.ne']
    rw [EReal.coe_inv]

theorem knorm_eq (z g b d) : knorm z g b d = znorm z g b d := by
  unfold knorm znorm
  rw [div_sqrt _ _ (vare_pos z)]

/-- The absolute value. -/
abbrev ab (x : Ideal .f32) : Ideal .f32 := FloatOps.absf (φ := .f32) x

theorem ab_nonneg (x : Ideal .f32) : (0 : EReal) ≤ ab x := by
  show (0 : EReal) ≤ FloatOps.absf (φ := .f32) x
  rw [Ideal.absf_def]
  rcases le_total (0 : EReal) x with h | h
  · exact le_max_of_le_left h
  · exact le_max_of_le_right (by simpa using EReal.neg_le_neg_iff.2 h)

/-- A batch element's 80 rows before the norm: 48 rows of the second product, then 32 rows given, the input added to each. -/
def zin (g : Fin 6144 → Ideal .f32) (l : Fin 32 → Fin 128 → Ideal .f32) (x : Fin 80 → Fin 128 → Ideal .f32) (f : Fin 80) (d : Fin 128) : Ideal .f32 :=
  (if h : f.val < 48 then g ⟨f.val * 128 + d.val, by omega⟩ else l ⟨f.val - 48, by omega⟩ d) + x f d
/-- Its 80 normed rows. -/
def zrow (g : Fin 6144 → Ideal .f32) (l : Fin 32 → Fin 128 → Ideal .f32) (x : Fin 80 → Fin 128 → Ideal .f32) (G B : Fin 128 → Ideal .f32)
    (f : Fin 80) (d : Fin 128) : Ideal .f32 := znorm (zin g l x f) (G d) (B d) d

/-- The largest absolute value of a batch element's 80 normed rows. -/
def zmax (Z : Fin 80 → Fin 128 → Ideal .f32) : Ideal .f32 :=
  Finset.fold max (Ideal.ofBits FTy.f32 0xFF800000#32) (fun p : Fin 80 × Fin 128 => ab (Z p.1 p.2)) Finset.univ
/-- A scale from a largest absolute value: that over 448, and one for zero. -/
def qscale (a : Ideal .f32) : Ideal .f32 := if 0 < a then Ideal.div a (Ideal.ofBits .f32 0x43E00000#32) else 1
/-- A value's code: the value over its scale, clipped to ±448. -/
def qcode (v s : Ideal .f32) : Ideal .f32 :=
  min (Ideal.ofBits .f32 0x43E00000#32) (max (Ideal.ofBits .f32 0xC3E00000#32) (Ideal.div v s))

theorem zmax_le (Z) (t : EReal) : (zmax Z : EReal) ≤ t ↔ ∀ f d, (ab (Z f d) : EReal) ≤ t := by
  unfold zmax
  rw [Finset.fold_max_le, ofBits_bot]
  exact ⟨fun h f d => h.2 (f, d) (Finset.mem_univ _), fun h => ⟨bot_le, fun p _ => h p.1 p.2⟩⟩

/-- What lies under the same bounds as the largest absolute value is it. -/
theorem zmax_of_le (Z) (A : EReal) (h : ∀ t : EReal, A ≤ t ↔ ∀ f d, (ab (Z f d) : EReal) ≤ t) : A = zmax Z :=
  eq_of_forall_ge_iff fun t => (h t).trans (zmax_le Z t).symm

end Cert.Proof.Spec

end
-- ==== Proof.NormPay.lean ====
/- The kernel's second layer norm over the extended reals, one operation at a time: the normed rows of one field, and their
   largest absolute values, eight rows to a lane. -/
module

public import proofs.«01_k».proof.Proof.SpecNorm
public import proofs.«01_k».proof.Proof.Gen.KernelIdeal.Skeleton
public import Idealize.ShloMosaic.Lib.Pipeline.ValueKit
@[expose] public section

set_option maxRecDepth 16384

noncomputable section

namespace Cert.Proof.KernelIdeal

open Idealize.ShloMosaic Idealize.ShloMosaic.TcCoe Idealize.ShloMosaic.Tactic
open Cert.KernelIdeal Cert.KernelIdeal.Gen

/-- The sums over the rows, as one row. -/
def rsum (Z : FVec Ideal S128x128 .f32) : FVec Ideal S1x128 .f32 :=
  shapeCast S1x128 (multiReduction .add [0] S128 Z 0x00000000#32 reduces_S128x128_S128_2 (.inl rfl) rfl) shapeCasts_S128_S1x128
/-- A row over 128. -/
def over128 (s : FVec Ideal S1x128 .f32) : FVec Ideal S1x128 .f32 := divf s (broadcast S1x128 (Scalar.ofBits .f32 0x43000000#32))
/-- The entries less a row. -/
def less (Z : FVec Ideal S128x128 .f32) (s : FVec Ideal S1x128 .f32) : FVec Ideal S128x128 .f32 := subf Z (broadcastTo S128x128 s broadcasts_S1x128_S128x128)
/-- The inverse root of a row and a small constant. -/
def invroot (s : FVec Ideal S1x128 .f32) : FVec Ideal S1x128 .f32 := rsqrt (addf s (broadcast S1x128 (Scalar.ofBits .f32 0x3727C5AC#32)))
/-- The entries by a row, by their gain, and their shift. -/
def gain (D : FVec Ideal S128x128 .f32) (v : FVec Ideal S1x128 .f32) (G B : Vec Ideal S128x128 .f32) : FVec Ideal S128x128 .f32 :=
  addf (mulf (mulf D (broadcastTo S128x128 v broadcasts_S1x128_S128x128)) (shapeCast S128x128 G shapeCasts_S128x128_S128x128)) (shapeCast S128x128 B shapeCasts_S128x128_S128x128)

theorem rsum_at (Z) (y) : rsum Z y = ∑ d : Fin 128, Z (ix2 d (y 1)) := by pointwise [rsum]
theorem over128_at (s) (y) : over128 s y = Ideal.div (s y) (Ideal.ofBits .f32 0x43000000#32) := by pointwise [over128]
theorem less_at (Z s) (y) : less Z s y = (Z y - s (ix2 0 (y 1)) : EReal) := by pointwise [less]
theorem invroot_at (s) (y) : invroot s y = Ideal.rsqrt (s y + Ideal.ofBits .f32 0x3727C5AC#32) := by pointwise [invroot]
theorem gain_at (D v G B) (y) : gain D v G B y = D y * v (ix2 0 (y 1)) * G y + B y := by pointwise [gain]
theorem sq_at (D : FVec Ideal S128x128 .f32) (y) : mulf D D y = D y * D y := by pointwise

/-- The norm of a block of rows from the sums over its rows. -/
def nrm (Z : FVec Ideal S128x128 .f32) (s : FVec Ideal S1x128 .f32) (G B : Vec Ideal S128x128 .f32) : FVec Ideal S128x128 .f32 :=
  gain (less Z (over128 s)) (invroot (over128 (rsum (mulf (less Z (over128 s)) (less Z (over128 s)))))) G B

theorem nrm_at (Z : FVec Ideal S128x128 .f32) (G B : Vec Ideal S128x128 .f32) (y : S128x128.Idx) :
    nrm Z (rsum Z) G B y = Spec.knorm (fun d => Z (ix2 d (y 1))) (G y) (B y) (y 0) := by
  have hy : Z y = Z (ix2 (y 0) (y 1)) := congrArg Z (funext fun a => by match a with | 0 => rfl | 1 => rfl)
  have hd (d : Fin 128) : less Z (over128 (rsum Z)) (ix2 d (y 1)) = Spec.dev (fun d => Z (ix2 d (y 1))) d := by
    rw [less_at, over128_at, rsum_at]; rfl
  have hd' : less Z (over128 (rsum Z)) y = Spec.dev (fun d => Z (ix2 d (y 1))) (y 0) := by
    rw [less_at, over128_at, rsum_at, hy]; rfl
  unfold nrm Spec.knorm Spec.vare
  rw [gain_at, hd', invroot_at, over128_at, rsum_at]
  have hs : ∑ d : Fin 128, mulf (less Z (over128 (rsum Z))) (less Z (over128 (rsum Z))) (ix2 d (y 1))
      = ∑ d : Fin 128, Spec.dev (fun d => Z (ix2 d (y 1))) d * Spec.dev (fun d => Z (ix2 d (y 1))) d :=
    Finset.sum_congr rfl fun d _ => by rw [sq_at, hd]
  exact congrArg (fun x => Spec.dev (fun d => Z (ix2 d (y 1))) (y 0) * Ideal.rsqrt (Ideal.div x (Ideal.ofBits .f32 0x43000000#32) + Ideal.ofBits .f32 0x3727C5AC#32) * G y + B y) hs

/-! ## The payloads -/

theorem pay6_eq (g z G B) : k0_pay6 (F := Ideal) g z G B = nrm (addf z g) (rsum (addf z g)) G B := rfl
theorem pay14_eq (p q z G B) : k0_pay14 (F := Ideal) (k0_pay12 p q z) (k0_pay13 p q z) G B = nrm (k0_pay12 p q z) (rsum (k0_pay12 p q z)) G B := rfl
theorem pay20_eq (l z G B) : k0_pay20 (F := Ideal) (k0_pay18 l z) (k0_pay19 l z) G B = nrm (k0_pay18 l z) (rsum (k0_pay18 l z)) G B := rfl
theorem cast128 (A : FVec Ideal S128x128 .f32) : shapeCast S128x128 A shapeCasts_S128x128_S128x128 = A := by funext y; pointwise
theorem cast8 (A : FVec Ideal S8x128 .f32) : shapeCast S8x128 A shapeCasts_S8x128_S8x128 = A := by funext y; pointwise
theorem pay7_eq (A) : k0_pay7 (F := Ideal) A = A := cast128 A
theorem pay15_eq (a b G B) : k0_pay15 (F := Ideal) a b G B = k0_pay14 a b G B := cast128 _
theorem pay21_eq (a b G B) : k0_pay21 (F := Ideal) a b G B = k0_pay20 a b G B := cast128 _
theorem pay12_at (p q z) (y : S128x128.Idx) : k0_pay12 (F := Ideal) p q z y = z y + k0_pay11 p q (ix2 (y 1) (y 0)) := by pointwise [k0_pay12]
theorem pay18_at (l z) (y : S128x128.Idx) : k0_pay18 (F := Ideal) l z y = z y + l (ix2 (y 1) (y 0)) := by pointwise [k0_pay18]
theorem pay5_at (S Q W a b) (y : S128x128.Idx) : k0_pay5 (F := Ideal) S Q W a b y = k0_pay4 S Q W a b (ix2 (y 1) (y 0)) := by pointwise [k0_pay5]
theorem add_at (A B : FVec Ideal S128x128 .f32) (y) : addf A B y = A y + B y := by pointwise

/-! ## The largest absolute value, eight rows at a time -/

/-- The largest over the sixteen groups of eight rows. -/
def mrow (A : FVec Ideal S128x128 .f32) : FVec Ideal S8x128 .f32 :=
  maximumf (maximumf (maximumf (maximumf (maximumf (maximumf (maximumf (maximumf (maximumf (maximumf (maximumf (maximumf (maximumf (maximumf (maximumf
    (extractStridedSlice S8x128 ![0, 0] A slices_S128x128_o0_0_S8x128) (extractStridedSlice S8x128 ![8, 0] A slices_S128x128_o8_0_S8x128))
    (extractStridedSlice S8x128 ![16, 0] A slices_S128x128_o16_0_S8x128)) (extractStridedSlice S8x128 ![24, 0] A slices_S128x128_o24_0_S8x128))
    (extractStridedSlice S8x128 ![32, 0] A slices_S128x128_o32_0_S8x128)) (extractStridedSlice S8x128 ![40, 0] A slices_S128x128_o40_0_S8x128))
    (extractStridedSlice S8x128 ![48, 0] A slices_S128x128_o48_0_S8x128)) (extractStridedSlice S8x128 ![56, 0] A slices_S128x128_o56_0_S8x128))
    (extractStridedSlice S8x128 ![64, 0] A slices_S128x128_o64_0_S8x128)) (extractStridedSlice S8x128 ![72, 0] A slices_S128x128_o72_0_S8x128))
    (extractStridedSlice S8x128 ![80, 0] A slices_S128x128_o80_0_S8x128)) (extractStridedSlice S8x128 ![88, 0] A slices_S128x128_o88_0_S8x128))
    (extractStridedSlice S8x128 ![96, 0] A slices_S128x128_o96_0_S8x128)) (extractStridedSlice S8x128 ![104, 0] A slices_S128x128_o104_0_S8x128))
    (extractStridedSlice S8x128 ![112, 0] A slices_S128x128_o112_0_S8x128)) (extractStridedSlice S8x128 ![120, 0] A slices_S128x128_o120_0_S8x128)

theorem max8_at (A B : FVec Ideal S8x128 .f32) (y) : maximumf A B y = max (A y) (B y) := by pointwise
/-- Row `8 i + s` of a block. -/
abbrev rowAt (i : Fin 16) (s : Fin 8) : Fin 128 := ⟨8 * i.val + s.val, by omega⟩
theorem slice8_at (A : FVec Ideal S128x128 .f32) (o : ℕ) (i : Fin 16) (ho : o = 8 * i.val) (h) (y : S8x128.Idx) :
    extractStridedSlice S8x128 ![o, 0] A h y = A (ix2 (rowAt i (y 0)) (y 1)) := by
  subst ho
  exact congrArg A (funext fun a => Fin.ext (by match a with | 0 => rfl | 1 => exact Nat.zero_add _))

theorem mx_le (A : FVec Ideal S128x128 .f32) (y : S8x128.Idx) (t : EReal) : (mrow A y : EReal) ≤ t ↔ ∀ i : Fin 16, (A (ix2 (rowAt i (y 0)) (y 1)) : EReal) ≤ t := by
  unfold mrow
  simp only [max8_at]
  rw [slice8_at A 0 0 rfl, slice8_at A 8 1 rfl, slice8_at A 16 2 rfl, slice8_at A 24 3 rfl, slice8_at A 32 4 rfl, slice8_at A 40 5 rfl,
    slice8_at A 48 6 rfl, slice8_at A 56 7 rfl, slice8_at A 64 8 rfl, slice8_at A 72 9 rfl, slice8_at A 80 10 rfl, slice8_at A 88 11 rfl,
    slice8_at A 96 12 rfl, slice8_at A 104 13 rfl, slice8_at A 112 14 rfl, slice8_at A 120 15 rfl]
  simp only [max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ i
    fin_cases i <;> assumption
  · intro h
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

theorem pay8_eq (m A) : k0_pay8 (F := Ideal) m A = maximumf m (mrow (absf A)) := cast8 _
theorem pay86_eq (m a b G B) : k0_pay86 (F := Ideal) m (k0_pay16 a b G B) (k0_pay17 a b G B) = maximumf m (mrow (absf (k0_pay14 a b G B))) := cast8 _
theorem pay87_eq (m a b G B) : k0_pay87 (F := Ideal) m (k0_pay22 a b G B) (k0_pay23 a b G B) (k0_pay24 a b G B) = maximumf m (mrow (absf (k0_pay20 a b G B))) := cast8 _
theorem abs_at (A : FVec Ideal S128x128 .f32) (y) : absf A y = Spec.ab (A y) := by pointwise

/-- A running maximum taken with the absolute values of a block is under a bound just when it was and all of these are. -/
theorem run_le (m : FVec Ideal S8x128 .f32) (A : FVec Ideal S128x128 .f32) (y : S8x128.Idx) (t : EReal) :
    (maximumf m (mrow (absf A)) y : EReal) ≤ t ↔ (m y : EReal) ≤ t ∧ ∀ i : Fin 16, (Spec.ab (A (ix2 (rowAt i (y 0)) (y 1))) : EReal) ≤ t := by
  rw [max8_at]
  exact max_le_iff.trans (and_congr_right fun _ => mx_le _ _ _)

/-! ## The scale and the codes -/

theorem pay88_at (m) (y : S1x128.Idx) : k0_pay88 (F := Ideal) m y
    = Spec.qscale (Finset.fold max (Ideal.ofBits FTy.f32 0xFF800000#32) (fun s : Fin 8 => m (ix2 s (y 1))) Finset.univ) := by
  unfold Spec.qscale
  pointwise [k0_pay88]
theorem pay89_at (m) (y : S1x1x128.Idx) : k0_pay89 (F := Ideal) m y = k0_pay88 m (ix2 0 (y 2)) := by pointwise [k0_pay89]
theorem pay85_at (y) : (k0_pay85 (F := Ideal) y : EReal) = 0 := by pointwise [k0_pay85]
theorem pay30_at (v) (y) : k0_pay30 (F := Ideal) v y = v y := by pointwise [k0_pay30]
theorem pay25_at (s v) (p : Fin 128) (q : Fin 4) (b : Fin 128) (j : Fin 512) (hj : j.val = q.val * 128 + b.val) :
    k0_pay25 (F := Ideal) s v (ix2 p j) = Spec.qcode (v (ix2 ⟨4 * p.val + q.val, by omega⟩ b)) (s (ix2 0 b)) := by
  unfold Spec.qcode
  have hb := b.isLt
  have h1 : j.val / 128 = q.val := by omega
  have h2 : j.val % 128 = b.val := by omega
  have e0 (h) (h') : (⟨p.val * 4 + j.val / 128, h⟩ : Fin 512) = ⟨4 * p.val + q.val, h'⟩ := Fin.ext (by show p.val * 4 + j.val / 128 = 4 * p.val + q.val; omega)
  have e1 (h) : (⟨j.val % 128, h⟩ : Fin 128) = b := Fin.ext h2
  pointwise [k0_pay25]
  rw [e0, e1]
theorem pay2_at (v) (y : S1x32x128.Idx) : k0_pay2 (F := Ideal) v y = v (ix2 (y 1) (y 2)) := by pointwise [k0_pay2]

end Cert.Proof.KernelIdeal

end
-- ==== Proof.NormState.lean ====
/- The rows that the kernel norms, over the extended reals: field by field, what they hold after the two loops, and what their
   running maximum is bounded by. -/
module

public import proofs.«01_k».proof.Proof.NormPay
public import proofs.«01_k».proof.Proof.TripsKernelIdeal
@[expose] public section

set_option maxRecDepth 16384

noncomputable section

namespace Cert.Proof.KernelIdeal

open Idealize.ShloMosaic Idealize.ShloMosaic.TcCoe Idealize.ShloMosaic.Tactic
open Cert.KernelIdeal Cert.KernelIdeal.Gen

/-- Row `d` of field `f`, four fields interleaved. -/
abbrev frow (f : Fin 80) (d : Fin 128) : Fin 10240 := ⟨512 * (f.val / 4) + f.val % 4 + 4 * d.val, by omega⟩

/-- Where the second loop norms its rows. -/
theorem off6_eq : ∀ k : Fin k0_t2_loop.trips, k0_off6 k = ![512 * ((48 + k.val) / 4) + (48 + k.val) % 4, 0] := by decide +kernel

theorem i0 (k : Fin k0_t1_loop.trips) : 2 * k.val < 80 := by have : k.val < 24 := k.isLt; omega
theorem i1 (k : Fin k0_t1_loop.trips) : 2 * k.val + 1 < 80 := by have : k.val < 24 := k.isLt; omega
theorem i2 (k : Fin k0_t2_loop.trips) : 48 + k.val < 80 := by have : k.val < 32 := k.isLt; omega

/-- A field's rows, as a strided rectangle. -/
theorem fR_emb (o : Fin 2 → ℕ) (f : Fin 80) (ho : o = ![512 * (f.val / 4) + f.val % 4, 0]) (h) (x : S128x128.Idx) :
    (⟨(⟨o, S128x128.size, ![4, 1], h⟩ : LoadRect S10240x128), spos_4_1⟩ : Rect S10240x128).emb x = ix2 (frow f (x 0)) (x 1) := by
  subst ho
  refine funext fun a => Fin.ext ?_
  match a with
  | 0 => rfl
  | 1 => exact (Nat.zero_add _).trans (Nat.one_mul _)

theorem frow_ne {f f' : Fin 80} (hf : f' ≠ f) (d d' : Fin 128) : frow f' d ≠ frow f d' := by
  intro h
  have h' : 512 * (f'.val / 4) + f'.val % 4 + 4 * d.val = 512 * (f.val / 4) + f.val % 4 + 4 * d'.val := congrArg Fin.val h
  exact hf (Fin.ext (by omega))

section Field

variable (arg19 : Memref sig .tc .vmem S10240x128 .f32)

theorem fld_read (G : BufTy.Contents (Elt Ideal) arg19.view.ty) (o : Fin 2 → ℕ) (f : Fin 80) (ho : o = ![512 * (f.val / 4) + f.val % 4, 0]) (h) (x : S128x128.Idx) :
    arg19.view.readAt (Elt Ideal) (⟨(⟨o, S128x128.size, ![4, 1], h⟩ : LoadRect S10240x128), spos_4_1⟩ : Rect S10240x128).toLoadRect G x
      = arg19.view.read (Elt Ideal) G (ix2 (frow f (x 0)) (x 1)) :=
  congrArg (arg19.view.read (Elt Ideal) G) (fR_emb o f ho h x)

theorem fld_self (G : BufTy.Contents (Elt Ideal) arg19.view.ty) (o : Fin 2 → ℕ) (f : Fin 80) (ho : o = ![512 * (f.val / 4) + f.val % 4, 0]) (h)
    (P : Vec Ideal S128x128 .f32) (L : List (View.Piece (Elt Ideal) S10240x128 .f32)) (d b : Fin 128) :
    arg19.view.read (Elt Ideal) (arg19.view.writes (Elt Ideal) G (⟨(⟨(⟨o, S128x128.size, ![4, 1], h⟩ : LoadRect S10240x128), spos_4_1⟩ : Rect S10240x128), P⟩ :: L)) (ix2 (frow f d) b) = P (ix2 d b) :=
  (congrArg (arg19.view.read (Elt Ideal) _) (fR_emb o f ho h (ix2 d b)).symm).trans (View.read_writes_cons_emb arg19.view G (⟨(⟨o, S128x128.size, ![4, 1], h⟩ : LoadRect S10240x128), spos_4_1⟩ : Rect S10240x128) P L (ix2 d b))

theorem fld_other (G : BufTy.Contents (Elt Ideal) arg19.view.ty) (o : Fin 2 → ℕ) (f : Fin 80) (ho : o = ![512 * (f.val / 4) + f.val % 4, 0]) (h)
    (P : Vec Ideal S128x128 .f32) (L : List (View.Piece (Elt Ideal) S10240x128 .f32)) (f' : Fin 80) (hf : f' ≠ f) (d b : Fin 128) :
    arg19.view.read (Elt Ideal) (arg19.view.writes (Elt Ideal) G (⟨(⟨(⟨o, S128x128.size, ![4, 1], h⟩ : LoadRect S10240x128), spos_4_1⟩ : Rect S10240x128), P⟩ :: L)) (ix2 (frow f' d) b)
      = arg19.view.read (Elt Ideal) (arg19.view.writes (Elt Ideal) G L) (ix2 (frow f' d) b) := by
  rw [View.writes_cons]
  refine View.read_slice_write_of_not_mem _ _ _ _ fun hm => ?_
  obtain ⟨x, -, hx⟩ := Finset.mem_map.1 hm
  exact frow_ne hf d (x 0) (congrFun ((fR_emb o f ho h x).symm.trans hx) 0).symm

end Field

section State

variable (arg19 : Memref sig .tc .vmem S10240x128 .f32) (arg20 : Memref sig .tc .vmem S8x128 .f32)
  (g : Fin k0_t1_loop.trips → FVec Ideal S128x128 .f32) (p9 : Fin k0_t1_loop.trips → FVec Ideal S128x128 .f32) (p10 : Fin k0_t1_loop.trips → FVec Ideal S1x128 .f32)
  (l : Fin k0_t2_loop.trips → Vec Ideal S128x128 .f32) (G2 B2 : Vec Ideal S128x128 .f32)
  (G19 : BufTy.Contents (Elt Ideal) arg19.view.ty) (G20 : BufTy.Contents (Elt Ideal) arg20.view.ty)
  (x A : Fin 80 → Fin 128 → Fin 128 → Ideal .f32)

/-- A field's normed rows, for the batch element in lane `b`. -/
def zf (f : Fin 80) (d b : Fin 128) : Ideal .f32 := Spec.knorm (fun d => x f d b + A f d b) (G2 (ix2 d b)) (B2 (ix2 d b)) d

theorem nrm_zf (f : Fin 80) (Z : FVec Ideal S128x128 .f32) (hZ : ∀ d b, Z (ix2 d b) = x f d b + A f d b) (d b : Fin 128) :
    nrm Z (rsum Z) G2 B2 (ix2 d b) = zf G2 B2 x A f d b := by
  rw [nrm_at]
  unfold zf
  exact congrArg (fun z => Spec.knorm z (G2 (ix2 d b)) (B2 (ix2 d b)) d) (funext fun d => hZ d b)

variable (hx : ∀ f d b, arg19.view.read (Elt Ideal) G19 (ix2 (frow f d) b) = x f d b)
  (hg : ∀ (k : Fin k0_t1_loop.trips) d b, g k (ix2 d b) = A ⟨2 * k.val, i0 k⟩ d b)
  (hp : ∀ (k : Fin k0_t1_loop.trips) d b, k0_pay11 (p9 k) (p10 k) (ix2 b d) = A ⟨2 * k.val + 1, i1 k⟩ d b)
  (hl : ∀ (k : Fin k0_t2_loop.trips) d b, l k (ix2 b d) = A ⟨48 + k.val, i2 k⟩ d b)

include hx hg hp in
/-- After the trips before `k` the fields before `2 k` are normed and the others are as they were. -/
theorem zSt_read (k : ℕ) (hk : k ≤ 24) : ∀ f d b, arg19.view.read (Elt Ideal) (zSt arg19 g p9 p10 G2 B2 G19 k) (ix2 (frow f d) b)
    = if f.val < 2 * k then zf G2 B2 x A f d b else x f d b := by
  induction k with
  | zero => intro f d b; rw [if_neg (by omega)]; exact hx f d b
  | succ k ih =>
    intro f d b
    have hk' : k < k0_t1_loop.trips := Nat.lt_of_succ_le hk
    have ih := ih (Nat.le_of_succ_le hk)
    have o0 : k0_off4 ⟨k, hk'⟩ (BitVec.ofNat 32 (0 : Fin 2).val) = ![512 * ((2 * k) / 4) + (2 * k) % 4, 0] := (off4_eq ⟨k, hk'⟩ 0).trans (by congr 1; show 512 * (k / 2) + 2 * (k % 2) + 0 = _; omega)
    have o1 : k0_off4 ⟨k, hk'⟩ (BitVec.ofNat 32 (1 : Fin 2).val) = ![512 * ((2 * k + 1) / 4) + (2 * k + 1) % 4, 0] := (off4_eq ⟨k, hk'⟩ 1).trans (by congr 1; show 512 * (k / 2) + 2 * (k % 2) + 1 = _; omega)
    have e := zSt_succ arg19 g p9 p10 G2 B2 G19 ⟨k, hk'⟩
    rw [show zSt arg19 g p9 p10 G2 B2 G19 (k + 1) = _ from e]
    have h0 (d b) : z0 arg19 ⟨k, hk'⟩ (zSt arg19 g p9 p10 G2 B2 G19 k) (ix2 d b) = x ⟨2 * k, by omega⟩ d b :=
      (fld_read arg19 _ _ ⟨2 * k, by omega⟩ o0 _ (ix2 d b)).trans ((ih _ d b).trans (if_neg (Nat.lt_irrefl _)))
    have h1 (d b) : z1 arg19 g G2 B2 ⟨k, hk'⟩ (zSt arg19 g p9 p10 G2 B2 G19 k) (ix2 d b) = x ⟨2 * k + 1, by omega⟩ d b :=
      (fld_read arg19 _ _ ⟨2 * k + 1, by omega⟩ o1 _ (ix2 d b)).trans ((fld_other arg19 _ _ ⟨2 * k, by omega⟩ o0 _ _ [] ⟨2 * k + 1, by omega⟩ (fun h => by have := congrArg Fin.val h; simp at this) d b).trans
        ((ih _ d b).trans (if_neg (by show ¬ 2 * k + 1 < 2 * k; omega))))
    unfold zTrip
    by_cases hf1 : f.val = 2 * k + 1
    · rw [show f = ⟨2 * k + 1, by omega⟩ from Fin.ext hf1]
      rw [if_pos (by show 2 * k + 1 < 2 * (k + 1); omega)]
      refine (fld_self arg19 _ _ ⟨2 * k + 1, by omega⟩ o1 _ _ _ d b).trans ?_
      rw [pay15_eq, pay14_eq]
      exact nrm_zf G2 B2 x A ⟨2 * k + 1, by omega⟩ _ (fun d b => (pay12_at _ _ _ _).trans (congrArg₂ (· + ·) (h1 d b) (hp ⟨k, hk'⟩ d b))) d b
    · refine (fld_other arg19 _ _ ⟨2 * k + 1, by omega⟩ o1 _ _ _ f (fun h => hf1 (congrArg Fin.val h)) d b).trans ?_
      unfold zTrip0
      by_cases hf0 : f.val = 2 * k
      · rw [show f = ⟨2 * k, by omega⟩ from Fin.ext hf0]
        rw [if_pos (by show 2 * k < 2 * (k + 1); omega)]
        refine (fld_self arg19 _ _ ⟨2 * k, by omega⟩ o0 _ _ _ d b).trans ?_
        rw [pay7_eq, pay6_eq]
        exact nrm_zf G2 B2 x A ⟨2 * k, by omega⟩ _ (fun d b => (add_at _ _ _).trans (congrArg₂ (· + ·) (h0 d b) (hg ⟨k, hk'⟩ d b))) d b
      · refine (fld_other arg19 _ _ ⟨2 * k, by omega⟩ o0 _ _ _ f (fun h => hf0 (congrArg Fin.val h)) d b).trans ?_
        refine (ih f d b).trans ?_
        by_cases hlt : f.val < 2 * k
        · rw [if_pos hlt, if_pos (by omega)]
        · rw [if_neg hlt, if_neg (by omega)]

/-- A normed field as a block. -/
def zblk (f : Fin 80) : FVec Ideal S128x128 .f32 := fun y => zf G2 B2 x A f (y 0) (y 1)

theorem nrm_blk (f : Fin 80) (Z : FVec Ideal S128x128 .f32) (hZ : ∀ d b, Z (ix2 d b) = x f d b + A f d b) :
    nrm Z (rsum Z) G2 B2 = zblk G2 B2 x A f := by
  funext y
  have e : y = ix2 (y 0) (y 1) := funext fun a => by match a with | 0 => rfl | 1 => rfl
  rw [e]
  exact nrm_zf G2 B2 x A f Z hZ (y 0) (y 1)

theorem aR_emb (z : S8x128.Idx) : aR.emb z = z := by
  refine funext fun a => Fin.ext ?_
  match a with
  | 0 => exact (Nat.zero_add _).trans (Nat.one_mul _)
  | 1 => exact (Nat.zero_add _).trans (Nat.one_mul _)
theorem aR_read (f : BufTy.Contents (Elt Ideal) arg20.view.ty) (y : S8x128.Idx) :
    arg20.view.readAt (Elt Ideal) aR.toLoadRect f y = arg20.view.read (Elt Ideal) f y := congrArg (arg20.view.read (Elt Ideal) f) (aR_emb y)
theorem aR_self (f : BufTy.Contents (Elt Ideal) arg20.view.ty) (P : Vec Ideal S8x128 .f32) (L : List (View.Piece (Elt Ideal) S8x128 .f32)) (y : S8x128.Idx) :
    arg20.view.read (Elt Ideal) (arg20.view.writes (Elt Ideal) f (⟨aR, P⟩ :: L)) y = P y :=
  (congrArg (arg20.view.read (Elt Ideal) _) (aR_emb y).symm).trans (View.read_writes_cons_emb arg20.view f aR P L y)

include hx hg hp in
/-- After the trips before `k` the running maximum is bounded by what bounds the one found and the first `2 k` normed fields. -/
theorem aSt_le (k : ℕ) (hk : k ≤ 24) (y : S8x128.Idx) (t : EReal) : (arg20.view.read (Elt Ideal) (aSt arg19 arg20 g p9 p10 G2 B2 G19 G20 k) y : EReal) ≤ t
    ↔ (arg20.view.read (Elt Ideal) G20 y : EReal) ≤ t ∧ ∀ f : Fin 80, f.val < 2 * k → ∀ i, (Spec.ab (zf G2 B2 x A f (rowAt i (y 0)) (y 1)) : EReal) ≤ t := by
  induction k with
  | zero => exact ⟨fun h => ⟨h, fun f hf => absurd hf (by omega)⟩, fun h => h.1⟩
  | succ k ih =>
    have hk' : k < k0_t1_loop.trips := Nat.lt_of_succ_le hk
    have ih := ih (Nat.le_of_succ_le hk)
    have hr := zSt_read arg19 g p9 p10 G2 B2 G19 x A hx hg hp k (Nat.le_of_succ_le hk)
    have o0 : k0_off4 ⟨k, hk'⟩ (BitVec.ofNat 32 (0 : Fin 2).val) = ![512 * ((2 * k) / 4) + (2 * k) % 4, 0] := (off4_eq ⟨k, hk'⟩ 0).trans (by congr 1; show 512 * (k / 2) + 2 * (k % 2) + 0 = _; omega)
    have o1 : k0_off4 ⟨k, hk'⟩ (BitVec.ofNat 32 (1 : Fin 2).val) = ![512 * ((2 * k + 1) / 4) + (2 * k + 1) % 4, 0] := (off4_eq ⟨k, hk'⟩ 1).trans (by congr 1; show 512 * (k / 2) + 2 * (k % 2) + 1 = _; omega)
    rw [show aSt arg19 arg20 g p9 p10 G2 B2 G19 G20 (k + 1) = _ from aSt_succ arg19 arg20 g p9 p10 G2 B2 G19 G20 ⟨k, hk'⟩]
    have h0 (d b) : z0 arg19 ⟨k, hk'⟩ (zSt arg19 g p9 p10 G2 B2 G19 k) (ix2 d b) = x ⟨2 * k, by omega⟩ d b :=
      (fld_read arg19 _ _ ⟨2 * k, by omega⟩ o0 _ (ix2 d b)).trans ((hr _ d b).trans (if_neg (Nat.lt_irrefl _)))
    have h1 (d b) : z1 arg19 g G2 B2 ⟨k, hk'⟩ (zSt arg19 g p9 p10 G2 B2 G19 k) (ix2 d b) = x ⟨2 * k + 1, by omega⟩ d b :=
      (fld_read arg19 _ _ ⟨2 * k + 1, by omega⟩ o1 _ (ix2 d b)).trans ((fld_other arg19 _ _ ⟨2 * k, by omega⟩ o0 _ _ [] ⟨2 * k + 1, by omega⟩ (fun h => by have := congrArg Fin.val h; simp at this) d b).trans
        ((hr _ d b).trans (if_neg (by show ¬ 2 * k + 1 < 2 * k; omega))))
    have b0 : k0_pay6 (g ⟨k, hk'⟩) (z0 arg19 ⟨k, hk'⟩ (zSt arg19 g p9 p10 G2 B2 G19 k)) G2 B2 = zblk G2 B2 x A ⟨2 * k, by omega⟩ :=
      (pay6_eq _ _ _ _).trans (nrm_blk G2 B2 x A _ _ fun d b => (add_at _ _ _).trans (congrArg₂ (· + ·) (h0 d b) (hg ⟨k, hk'⟩ d b)))
    have b1 : k0_pay14 (k0_pay12 (p9 ⟨k, hk'⟩) (p10 ⟨k, hk'⟩) (z1 arg19 g G2 B2 ⟨k, hk'⟩ (zSt arg19 g p9 p10 G2 B2 G19 k)))
        (k0_pay13 (p9 ⟨k, hk'⟩) (p10 ⟨k, hk'⟩) (z1 arg19 g G2 B2 ⟨k, hk'⟩ (zSt arg19 g p9 p10 G2 B2 G19 k))) G2 B2 = zblk G2 B2 x A ⟨2 * k + 1, by omega⟩ :=
      (pay14_eq _ _ _ _ _).trans (nrm_blk G2 B2 x A _ _ fun d b => (pay12_at _ _ _ _).trans (congrArg₂ (· + ·) (h1 d b) (hp ⟨k, hk'⟩ d b)))
    unfold aTrip
    rw [aR_self, pay86_eq, run_le]
    unfold aTrip0
    rw [View.readCov_cons_toLoadRect, pay8_eq, run_le]
    rw [show ((⟨k, hk'⟩ : Fin k0_t1_loop.trips)).val = k from rfl, aR_read, ih, b0, b1]
    constructor
    · rintro ⟨⟨⟨ha, hb⟩, hc⟩, hd⟩
      refine ⟨ha, fun f hf i => ?_⟩
      by_cases h1 : f.val = 2 * k + 1
      · rw [show f = ⟨2 * k + 1, by omega⟩ from Fin.ext h1]; exact hd i
      by_cases h0 : f.val = 2 * k
      · rw [show f = ⟨2 * k, by omega⟩ from Fin.ext h0]; exact hc i
      exact hb f (by omega) i
    · rintro ⟨ha, hb⟩
      exact ⟨⟨⟨ha, fun f hf => hb f (by omega)⟩, fun i => hb ⟨2 * k, by omega⟩ (by show 2 * k < 2 * (k + 1); omega) i⟩, fun i => hb ⟨2 * k + 1, by omega⟩ (by show 2 * k + 1 < 2 * (k + 1); omega) i⟩

variable (hz : ∀ f d b, arg19.view.read (Elt Ideal) G19 (ix2 (frow f d) b) = if f.val < 48 then zf G2 B2 x A f d b else x f d b)

include hz hl in
/-- After the trips before `k` of the second loop the fields before `48 + k` are normed and the others are as they were. -/
theorem ySt_read (k : ℕ) (hk : k ≤ 32) : ∀ f d b, arg19.view.read (Elt Ideal) (ySt arg19 l G2 B2 G19 k) (ix2 (frow f d) b)
    = if f.val < 48 + k then zf G2 B2 x A f d b else x f d b := by
  induction k with
  | zero => exact hz
  | succ k ih =>
    intro f d b
    have hk' : k < k0_t2_loop.trips := Nat.lt_of_succ_le hk
    have ih := ih (Nat.le_of_succ_le hk)
    have o0 : k0_off6 ⟨k, hk'⟩ = ![512 * ((48 + k) / 4) + (48 + k) % 4, 0] := off6_eq ⟨k, hk'⟩
    rw [show ySt arg19 l G2 B2 G19 (k + 1) = _ from ySt_succ arg19 l G2 B2 G19 ⟨k, hk'⟩]
    have h0 (d b) : y0 arg19 ⟨k, hk'⟩ (ySt arg19 l G2 B2 G19 k) (ix2 d b) = x ⟨48 + k, by omega⟩ d b :=
      (fld_read arg19 _ _ ⟨48 + k, by omega⟩ o0 _ (ix2 d b)).trans ((ih _ d b).trans (if_neg (Nat.lt_irrefl _)))
    unfold yTrip
    by_cases hf0 : f.val = 48 + k
    · rw [show f = ⟨48 + k, by omega⟩ from Fin.ext hf0]
      rw [if_pos (by show 48 + k < 48 + (k + 1); omega)]
      refine (fld_self arg19 _ _ ⟨48 + k, by omega⟩ o0 _ _ _ d b).trans ?_
      rw [pay21_eq, pay20_eq]
      exact nrm_zf G2 B2 x A ⟨48 + k, by omega⟩ _ (fun d b => (pay18_at _ _ _).trans (congrArg₂ (· + ·) (h0 d b) (hl ⟨k, hk'⟩ d b))) d b
    · refine (fld_other arg19 _ _ ⟨48 + k, by omega⟩ o0 _ _ [] f (fun h => hf0 (congrArg Fin.val h)) d b).trans ?_
      refine (ih f d b).trans ?_
      by_cases hlt : f.val < 48 + k
      · rw [if_pos hlt, if_pos (by omega)]
      · rw [if_neg hlt, if_neg (by omega)]

include hz hl in
/-- After the trips before `k` of the second loop the running maximum is bounded by what bounds the one found and the fields normed. -/
theorem bSt_le (k : ℕ) (hk : k ≤ 32) (y : S8x128.Idx) (t : EReal) : (arg20.view.read (Elt Ideal) (bSt arg19 arg20 l G2 B2 G19 G20 k) y : EReal) ≤ t
    ↔ (arg20.view.read (Elt Ideal) G20 y : EReal) ≤ t ∧ ∀ f : Fin 80, 48 ≤ f.val → f.val < 48 + k → ∀ i, (Spec.ab (zf G2 B2 x A f (rowAt i (y 0)) (y 1)) : EReal) ≤ t := by
  induction k with
  | zero => exact ⟨fun h => ⟨h, fun f hf hf' => absurd hf (by omega)⟩, fun h => h.1⟩
  | succ k ih =>
    have hk' : k < k0_t2_loop.trips := Nat.lt_of_succ_le hk
    have ih := ih (Nat.le_of_succ_le hk)
    have hr := ySt_read arg19 l G2 B2 G19 x A hl hz k (Nat.le_of_succ_le hk)
    have o0 : k0_off6 ⟨k, hk'⟩ = ![512 * ((48 + k) / 4) + (48 + k) % 4, 0] := off6_eq ⟨k, hk'⟩
    rw [show bSt arg19 arg20 l G2 B2 G19 G20 (k + 1) = _ from bSt_succ arg19 arg20 l G2 B2 G19 G20 ⟨k, hk'⟩]
    have h0 (d b) : y0 arg19 ⟨k, hk'⟩ (ySt arg19 l G2 B2 G19 k) (ix2 d b) = x ⟨48 + k, by omega⟩ d b :=
      (fld_read arg19 _ _ ⟨48 + k, by omega⟩ o0 _ (ix2 d b)).trans ((hr _ d b).trans (if_neg (Nat.lt_irrefl _)))
    have b0 : k0_pay20 (k0_pay18 (l ⟨k, hk'⟩) (y0 arg19 ⟨k, hk'⟩ (ySt arg19 l G2 B2 G19 k))) (k0_pay19 (l ⟨k, hk'⟩) (y0 arg19 ⟨k, hk'⟩ (ySt arg19 l G2 B2 G19 k))) G2 B2 = zblk G2 B2 x A ⟨48 + k, by omega⟩ :=
      (pay20_eq _ _ _ _).trans (nrm_blk G2 B2 x A _ _ fun d b => (pay18_at _ _ _).trans (congrArg₂ (· + ·) (h0 d b) (hl ⟨k, hk'⟩ d b)))
    unfold bTrip
    rw [aR_self, pay87_eq, run_le]
    rw [show ((⟨k, hk'⟩ : Fin k0_t2_loop.trips)).val = k from rfl, aR_read, ih, b0]
    constructor
    · rintro ⟨⟨ha, hb⟩, hc⟩
      refine ⟨ha, fun f hf hf' i => ?_⟩
      by_cases h0 : f.val = 48 + k
      · rw [show f = ⟨48 + k, by omega⟩ from Fin.ext h0]; exact hc i
      exact hb f hf (by omega) i
    · rintro ⟨ha, hb⟩
      exact ⟨⟨ha, fun f hf hf' => hb f hf (by omega)⟩, fun i => hb ⟨48 + k, by omega⟩ (by show 48 ≤ 48 + k; omega) (by show 48 + k < 48 + (k + 1); omega) i⟩

end State

section Final

variable (arg19 : Memref sig .tc .vmem S10240x128 .f32) (arg20 : Memref sig .tc .vmem S8x128 .f32)
  (g : Fin k0_t1_loop.trips → FVec Ideal S128x128 .f32) (p9 : Fin k0_t1_loop.trips → FVec Ideal S128x128 .f32) (p10 : Fin k0_t1_loop.trips → FVec Ideal S1x128 .f32)
  (l : Fin k0_t2_loop.trips → Vec Ideal S128x128 .f32) (G2 B2 : Vec Ideal S128x128 .f32)
  (G19 : BufTy.Contents (Elt Ideal) arg19.view.ty) (G20 : BufTy.Contents (Elt Ideal) arg20.view.ty)
  (x A : Fin 80 → Fin 128 → Fin 128 → Ideal .f32)
  (hx : ∀ f d b, arg19.view.read (Elt Ideal) G19 (ix2 (frow f d) b) = x f d b)
  (hg : ∀ (k : Fin k0_t1_loop.trips) d b, g k (ix2 d b) = A ⟨2 * k.val, i0 k⟩ d b)
  (hp : ∀ (k : Fin k0_t1_loop.trips) d b, k0_pay11 (p9 k) (p10 k) (ix2 b d) = A ⟨2 * k.val + 1, i1 k⟩ d b)
  (hl : ∀ (k : Fin k0_t2_loop.trips) d b, l k (ix2 b d) = A ⟨48 + k.val, i2 k⟩ d b)
  (h20 : ∀ y, (arg20.view.read (Elt Ideal) G20 y : EReal) = 0)

/-- The rows after both loops. -/
abbrev zEnd : BufTy.Contents (Elt Ideal) arg19.view.ty := ySt arg19 l G2 B2 (zSt arg19 g p9 p10 G2 B2 G19 k0_t1_loop.trips) k0_t2_loop.trips
/-- The running maximum after both loops. -/
abbrev aEnd : BufTy.Contents (Elt Ideal) arg20.view.ty :=
  bSt arg19 arg20 l G2 B2 (zSt arg19 g p9 p10 G2 B2 G19 k0_t1_loop.trips) (aSt arg19 arg20 g p9 p10 G2 B2 G19 G20 k0_t1_loop.trips) k0_t2_loop.trips

include hx hg hp hl in
/-- After both loops every field is normed. -/
theorem zEnd_read (f d b) : arg19.view.read (Elt Ideal) (zEnd arg19 g p9 p10 l G2 B2 G19) (ix2 (frow f d) b) = zf G2 B2 x A f d b :=
  (ySt_read arg19 l G2 B2 _ x A hl (zSt_read arg19 g p9 p10 G2 B2 G19 x A hx hg hp 24 le_rfl) 32 le_rfl f d b).trans (if_pos (by omega))

include hx hg hp hl h20 in
/-- The scale of the running maximum is that of all the normed fields. -/
theorem aEnd_scale (y : S1x128.Idx) : k0_pay88 (arg20.view.read (Elt Ideal) (aEnd arg19 arg20 g p9 p10 l G2 B2 G19 G20)) y
    = Spec.qscale (Spec.zmax (fun f d => zf G2 B2 x A f d (y 1))) := by
  rw [pay88_at]
  congr 1
  refine Spec.zmax_of_le _ _ fun t => ?_
  rw [Finset.fold_max_le, Spec.ofBits_bot]
  have hz := zSt_read arg19 g p9 p10 G2 B2 G19 x A hx hg hp 24 le_rfl
  have key (s : Fin 8) := (bSt_le arg19 arg20 l G2 B2 _ (aSt arg19 arg20 g p9 p10 G2 B2 G19 G20 k0_t1_loop.trips) x A hl hz 32 le_rfl (ix2 s (y 1)) t).trans
    (and_congr_left' (aSt_le arg19 arg20 g p9 p10 G2 B2 G19 G20 x A hx hg hp 24 le_rfl (ix2 s (y 1)) t))
  constructor
  · rintro ⟨-, h⟩ f d
    have hs : d.val % 8 < 8 := Nat.mod_lt _ (by decide)
    have hd : d = rowAt ⟨d.val / 8, by omega⟩ ⟨d.val % 8, hs⟩ := Fin.ext (by show d.val = 8 * (d.val / 8) + d.val % 8; omega)
    obtain ⟨⟨-, h1⟩, h2⟩ := (key ⟨d.val % 8, hs⟩).1 (h ⟨d.val % 8, hs⟩ (Finset.mem_univ _))
    rw [hd]
    by_cases hf : f.val < 48
    · exact h1 f hf ⟨d.val / 8, by omega⟩
    · exact h2 f (by omega) (by omega) ⟨d.val / 8, by omega⟩
  · intro h
    refine ⟨bot_le, fun s _ => (key s).2 ⟨⟨?_, fun f _ i => h f _⟩, fun f _ _ i => h f _⟩⟩
    rw [h20]
    exact (Spec.ab_nonneg _).trans (h 0 0)

end Final

end Cert.Proof.KernelIdeal

end
-- ==== Proof.XRows.lean ====
/- The output codes as the kernel writes them, 32 rows to a store, over the extended reals. -/
module

public import proofs.«01_k».proof.Proof.NormState
public import Idealize.ShloMosaic.Lib.Pipeline.ValueKit
@[expose] public section

set_option maxRecDepth 16384

noncomputable section

namespace Cert.Proof.KernelIdeal

open Idealize.ShloMosaic Idealize.ShloMosaic.TcCoe Idealize.ShloMosaic.Tactic
open Cert.KernelIdeal Cert.KernelIdeal.Gen

theorem i3 (k : Fin k0_t3_loop.trips) (j : Fin 512) : 512 * k.val + j.val < 10240 := by have : k.val < 20 := k.isLt; omega
theorem i4 (y : S10240x128.Idx) : (y 0).val / 80 < 128 := by have h : (y 0).val < 10240 := (y 0).isLt; omega
theorem i5 (n : ℕ) : n % 80 < 80 := Nat.mod_lt _ (by decide)
theorem idxlt0 (y : S128x128.Idx) : (y 0).val < 128 := (y 0).isLt
/-- Where a store of codes lies: every 80th row. -/
theorem xR_emb (o : Fin 2 → ℕ) (f : Fin 80) (ho : o = ![f.val, 0]) (h) (x : S128x128.Idx) :
    (⟨(⟨o, S128x128.size, ![80, 1], h⟩ : LoadRect S10240x128), spos_80_1⟩ : Rect S10240x128).emb x
      = ix2 ⟨f.val + 80 * (x 0).val, by have := idxlt0 x; omega⟩ (x 1) := by
  subst ho
  refine funext fun a => Fin.ext ?_
  match a with
  | 0 => rfl
  | 1 => exact (Nat.zero_add _).trans (Nat.one_mul _)

/-- A trip's four transposed blocks of codes. -/
theorem pay26_at (s v) (y : S128x128.Idx) : k0_pay26 (F := Ideal) s v y = k0_pay25 s v (ix2 (y 1) ⟨(y 0).val, by have := idxlt0 y; omega⟩) := by pointwise [k0_pay26]
theorem pay27_at (s v) (y : S128x128.Idx) : k0_pay27 (F := Ideal) s v y = k0_pay25 s v (ix2 (y 1) ⟨128 + (y 0).val, by have := idxlt0 y; omega⟩) := by pointwise [k0_pay27]
theorem pay28_at (s v) (y : S128x128.Idx) : k0_pay28 (F := Ideal) s v y = k0_pay25 s v (ix2 (y 1) ⟨256 + (y 0).val, by have := idxlt0 y; omega⟩) := by pointwise [k0_pay28]
theorem pay29_at (s v) (y : S128x128.Idx) : k0_pay1 (k0_pay29 (F := Ideal) s v) y = k0_pay25 s v (ix2 (y 1) ⟨384 + (y 0).val, by have := idxlt0 y; omega⟩) := by pointwise [k0_pay29, k0_pay1]

section Rows

variable (s : FVec Ideal S1x128 .f32) (w : Fin k0_t3_loop.trips → Vec Ideal S512x128 .f32) (Y : Vec Ideal S10240x128 .f32)
  (hw : ∀ (k : Fin k0_t3_loop.trips) (j : Fin 512) (b : Fin 128), w k (ix2 j b) = Y (ix2 ⟨512 * k.val + j.val, i3 k j⟩ b))

/-- The code at an index of the written rows: 80 fields to a batch element. -/
def xAt (y : S10240x128.Idx) : Ideal .f32 :=
  Spec.qcode (Y (ix2 (frow ⟨(y 0).val % 80, i5 _⟩ (y 1)) ⟨(y 0).val / 80, i4 y⟩))
    (s (ix2 0 ⟨(y 0).val / 80, i4 y⟩))

include hw in
theorem x_piece (k : Fin k0_t3_loop.trips) (q : Fin 4) (f : Fin 80) (hf : f.val = 4 * k.val + q.val) (x : S128x128.Idx) (j : Fin 512) (hj : j.val = q.val * 128 + (x 0).val)
    (o : Fin 2 → ℕ) (ho : o = ![f.val, 0]) (h) :
    k0_pay25 s (w k) (ix2 (x 1) j) = xAt s Y ((⟨(⟨o, S128x128.size, ![80, 1], h⟩ : LoadRect S10240x128), spos_80_1⟩ : Rect S10240x128).emb x) := by
  rw [xR_emb o f ho h x]
  refine (pay25_at s (w k) (x 1) q (x 0) j hj).trans ?_
  unfold xAt
  have hx0 := idxlt0 x
  have e0 : (f.val + 80 * (x 0).val) / 80 = (x 0).val := by omega
  have e1 : (f.val + 80 * (x 0).val) % 80 = f.val := by omega
  refine congrArg₂ Spec.qcode ((hw k _ _).trans (congrArg Y (funext fun a => ?_))) (congrArg s (funext fun a => ?_))
  · match a with
    | 0 => refine Fin.ext ?_
           show 512 * k.val + (4 * (x 1).val + q.val) = 512 * ((f.val + 80 * (x 0).val) % 80 / 4) + (f.val + 80 * (x 0).val) % 80 % 4 + 4 * (x 1).val
           rw [e1, hf]; omega
    | 1 => exact Fin.ext e0.symm
  · match a with
    | 0 => rfl
    | 1 => exact Fin.ext e0.symm

include hw in
theorem xTrip_pieces (k : Fin k0_t3_loop.trips) : ∀ p ∈ xTrip s w k, ∀ x : p.1.shape.Idx, p.2 x = xAt s Y (p.1.emb x) := by
  have hk : k.val < 20 := k.isLt
  refine List.forall_mem_cons.2 ⟨fun x => ?_, List.forall_mem_cons.2 ⟨fun x => ?_, List.forall_mem_cons.2 ⟨fun x => ?_, List.forall_mem_cons.2 ⟨fun x => ?_, fun _ h => absurd h List.not_mem_nil⟩⟩⟩⟩
  · exact (pay29_at s (w k) x).trans (x_piece s w Y hw k 3 ⟨4 * k.val + 3, by omega⟩ rfl x _ rfl _ (k0_off8_eq k 3) (k0_off8_inb k 3))
  · exact (pay28_at s (w k) x).trans (x_piece s w Y hw k 2 ⟨4 * k.val + 2, by omega⟩ rfl x _ rfl _ (k0_off8_eq k 2) (k0_off8_inb k 2))
  · exact (pay27_at s (w k) x).trans (x_piece s w Y hw k 1 ⟨4 * k.val + 1, by omega⟩ rfl x _ rfl _ (k0_off8_eq k 1) (k0_off8_inb k 1))
  · exact (pay26_at s (w k) x).trans (x_piece s w Y hw k 0 ⟨4 * k.val, by omega⟩ rfl x _ (by show (x 0).val = 0 * 128 + (x 0).val; omega) _ (k0_off8_eq k 0) (k0_off8_inb k 0))

include hw in
theorem xRows_pieces (n : ℕ) : ∀ p ∈ xRows s w n, ∀ x : p.1.shape.Idx, p.2 x = xAt s Y (p.1.emb x) := by
  induction n with
  | zero => exact fun _ h => absurd h List.not_mem_nil
  | succ n ih =>
    intro p hp
    rw [xRows.eq_2] at hp
    split at hp
    · rcases List.mem_append.1 hp with h | h
      · exact xTrip_pieces s w Y hw ⟨n, _⟩ p h
      · exact ih p h
    · exact ih p hp

theorem xRows_mem (k : Fin k0_t3_loop.trips) (n : ℕ) (hn : k.val < n) (p) (hp : p ∈ xTrip s w k) : p ∈ xRows s w n := by
  induction n with
  | zero => exact absurd hn (Nat.not_lt_zero _)
  | succ n ih =>
    rw [xRows.eq_2]
    rcases Nat.lt_or_ge k.val n with h | h
    · split
      · exact List.mem_append.2 (Or.inr (ih h))
      · exact ih h
    · obtain rfl : n = k.val := Nat.le_antisymm h (Nat.le_of_lt_succ hn)
      rw [dif_pos k.isLt]
      exact List.mem_append.2 (Or.inl hp)

theorem x_in (y : S10240x128.Idx) (k : Fin k0_t3_loop.trips) (q : Fin 4) (h : (y 0).val % 80 = 4 * k.val + q.val) : y ∈ (xR k q).set := by
  have h0 : (y 0).val < 10240 := (y 0).isLt
  have h1 : (y 1).val < 128 := (y 1).isLt
  have e := k0_off8_eq k q
  refine (LoadRect.mem_set _).mpr fun a => ?_
  match a with
  | 0 => exact ⟨(y 0).val / 80, by show _ < 128; omega, by
      show (y 0).val = k0_off8 k (BitVec.ofNat 32 q.val) 0 + 80 * ((y 0).val / 80)
      rw [show k0_off8 k (BitVec.ofNat 32 q.val) 0 = 4 * k.val + q.val from congrFun e 0]; omega⟩
  | 1 => exact ⟨(y 1).val, h1, by
      show (y 1).val = k0_off8 k (BitVec.ofNat 32 q.val) 1 + 1 * (y 1).val
      rw [show k0_off8 k (BitVec.ofNat 32 q.val) 1 = 0 from congrFun e 1]; omega⟩

/-- Every row lies in some store of some trip. -/
theorem xRows_cover (y : S10240x128.Idx) : ∃ p ∈ xRows s w k0_t3_loop.trips, y ∈ p.1.set := by
  have h0 : (y 0).val < 10240 := (y 0).isLt
  have hk : (y 0).val % 80 / 4 < k0_t3_loop.trips := by show _ < 20; omega
  have hq : (y 0).val % 80 % 4 < 4 := Nat.mod_lt _ (by decide)
  rcases (by omega : (y 0).val % 80 % 4 = 0 ∨ (y 0).val % 80 % 4 = 1 ∨ (y 0).val % 80 % 4 = 2 ∨ (y 0).val % 80 % 4 = 3) with h | h | h | h
  · exact ⟨⟨xR ⟨_, hk⟩ 0, _⟩, xRows_mem s w ⟨_, hk⟩ _ hk _ (List.mem_cons_of_mem _ (List.mem_cons_of_mem _ (List.mem_cons_of_mem _ (List.mem_singleton_self _)))), x_in y ⟨_, hk⟩ 0 (by show _ = 4 * ((y 0).val % 80 / 4) + 0; omega)⟩
  · exact ⟨⟨xR ⟨_, hk⟩ 1, _⟩, xRows_mem s w ⟨_, hk⟩ _ hk _ (List.mem_cons_of_mem _ (List.mem_cons_of_mem _ List.mem_cons_self)), x_in y ⟨_, hk⟩ 1 (by show _ = 4 * ((y 0).val % 80 / 4) + 1; omega)⟩
  · exact ⟨⟨xR ⟨_, hk⟩ 2, _⟩, xRows_mem s w ⟨_, hk⟩ _ hk _ (List.mem_cons_of_mem _ List.mem_cons_self), x_in y ⟨_, hk⟩ 2 (by show _ = 4 * ((y 0).val % 80 / 4) + 2; omega)⟩
  · exact ⟨⟨xR ⟨_, hk⟩ 3, _⟩, xRows_mem s w ⟨_, hk⟩ _ hk _ List.mem_cons_self, x_in y ⟨_, hk⟩ 3 (by show _ = 4 * ((y 0).val % 80 / 4) + 3; omega)⟩

include hw in
/-- The rows of codes after the loop. -/
theorem xRows_at (arg22 : Memref sig .tc .vmem S10240x128 .f32) (G : BufTy.Contents (Elt Ideal) arg22.view.ty) (y : S10240x128.Idx) :
    arg22.view.read (Elt Ideal) (arg22.view.writes (Elt Ideal) G (xRows s w k0_t3_loop.trips)) y = xAt s Y y :=
  (congrFun (View.read_writes_eq_canon arg22.view G _ (xRows_cover s w)) y).trans
    (View.canon_apply_of_pieces _ _ (xRows_pieces s w Y hw _) y (xRows_cover s w y))

end Rows

end Cert.Proof.KernelIdeal

end
-- ==== Proof.Flush.lean ====
/- The last loop of the kernel, over the extended reals: 32 rows of codes to a trip. -/
module

public import proofs.«01_k».proof.Proof.NormState
public import Idealize.ShloMosaic.Lib.Pipeline.ValueKit
@[expose] public section

set_option maxRecDepth 16384

noncomputable section

namespace Cert.Proof.KernelIdeal

open Idealize.ShloMosaic Idealize.ShloMosaic.TcCoe Idealize.ShloMosaic.Tactic
open Cert.KernelIdeal Cert.KernelIdeal.Gen

section Flush

variable (𝒱 : Variants) (c : Dev nD) (bd : Option 𝒱.V) (i : grid0.Coords) (arg1 : Memref sig .tc .vmem S128x1920 .fp8e4m3) (harg1 : arg1.IsWhole) (arg2 : Memref sig .tc .vmem S1x128x128 .f32) (harg2 : arg2.IsWhole) (arg3 : Memref sig .tc .vmem S10240x128 .f32) (harg3 : arg3.IsWhole) (arg4 : Memref sig .tc .vmem S4224x128 .f32) (harg4 : arg4.IsWhole) (arg5 : Memref sig .tc .vmem S1920x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S320x32x128 .fp8e4m3) (harg13 : arg13.IsWhole) (arg14 : Memref sig .tc .vmem S1x1x128 .f32) (harg14 : arg14.IsWhole) (arg15 : Memref sig .tc .vmem S128x2048 .fp8e4m3) (harg15 : arg15.IsWhole) (arg16 : Memref sig .tc .vmem S1x1x128 .f32) (harg16 : arg16.IsWhole) (arg17 : Memref sig .tc .vmem S128x2048 .f32) (harg17 : arg17.IsWhole) (arg18 : Memref sig .tc .vmem S6144x128 .f32) (harg18 : arg18.IsWhole) (arg19 : Memref sig .tc .vmem S10240x128 .f32) (harg19 : arg19.IsWhole) (arg20 : Memref sig .tc .vmem S8x128 .f32) (harg20 : arg20.IsWhole) (arg21 : Memref sig .tc .vmem S128x128 .f32) (harg21 : arg21.IsWhole) (arg22 : Memref sig .tc .vmem S10240x128 .f32) (harg22 : arg22.IsWhole) (X_arg22 : BufTy.Contents (Elt Ideal) arg22.view.ty)

/-- What one trip writes. -/
def flushL (k : Fin k0_t4_loop.trips) : List (View.Piece (Elt Ideal) S320x32x128 .fp8e4m3) :=
  [⟨Rect.unit (s := S320x32x128) (k0_off10 k) S1x32x128.size (k0_off10_inb k), k0_pay2 (arg22.view.readAt (Elt Ideal) (Rect.unit (s := S10240x128) (k0_off9 k) S32x128.size (k0_off9_inb k)).toLoadRect X_arg22)⟩]

theorem flush_trip (k : Fin k0_t4_loop.trips) : tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg22 k
    = flushL arg22 X_arg22 k := by
  unfold tripL_k0_t4 trip_k0_t4
  rfl

/-- Where the written codes come from: block `i`, row `r` is row `32 i + r`. -/
def flushAt (y : S320x32x128.Idx) : Ideal .fp8e4m3 :=
  arg22.view.read (Elt Ideal) X_arg22 (ix2 ⟨32 * (y 0).val + (y 1).val, by have h0 : (y 0).val < 320 := (y 0).isLt; have h1 : (y 1).val < 32 := (y 1).isLt; omega⟩ (y 2))

theorem flush_piece (o9 : Fin 2 → ℕ) (o10 : Fin 3 → ℕ) (k : ℕ) (hk : k < 320) (h9 : o9 = ![32 * k, 0]) (h10 : o10 = ![k, 0, 0]) (i9) (i10) (x : S1x32x128.Idx) :
    k0_pay2 (arg22.view.readAt (Elt Ideal) (Rect.unit (s := S10240x128) o9 S32x128.size i9).toLoadRect X_arg22) x
      = flushAt arg22 X_arg22 ((Rect.unit (s := S320x32x128) o10 S1x32x128.size i10).emb x) := by
  subst h9 h10
  rw [pay2_at]
  unfold flushAt
  have h0 : (x 0).val = 0 := by have : (x 0).val < 1 := (x 0).isLt; omega
  refine congrArg (arg22.view.read (Elt Ideal) X_arg22) (funext fun a => Fin.ext ?_)
  match a with
  | 0 => show 32 * k + 1 * (x 1).val = 32 * (k + 1 * (x 0).val) + (0 + 1 * (x 1).val); omega
  | 1 => rfl

theorem flushL_pieces (k : Fin k0_t4_loop.trips) : ∀ p ∈ flushL arg22 X_arg22 k, ∀ x : p.1.shape.Idx, p.2 x = flushAt arg22 X_arg22 (p.1.emb x) :=
  List.forall_mem_cons.2 ⟨fun x => flush_piece arg22 X_arg22 (k0_off9 k) (k0_off10 k) k.val k.isLt (k0_off9_eq k) (k0_off10_eq k) (k0_off9_inb k) (k0_off10_inb k) x, fun _ h => absurd h List.not_mem_nil⟩

theorem flush_pieces (n : ℕ) : ∀ p ∈ pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg22 n, ∀ x : p.1.shape.Idx, p.2 x = flushAt arg22 X_arg22 (p.1.emb x) := by
  induction n with
  | zero => rw [pb_k0_t4.eq_1]; exact fun _ h => absurd h List.not_mem_nil
  | succ n ih =>
    intro p hp
    by_cases hn : n < k0_t4_loop.trips
    · have e := pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg22 ⟨n, hn⟩
      rw [show pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg22 (n + 1) = _ from e] at hp
      rcases List.mem_append.1 hp with h | h
      · rw [flush_trip] at h
        exact flushL_pieces arg22 X_arg22 ⟨n, hn⟩ p h
      · exact ih p h
    · rw [pb_k0_t4.eq_2] at hp
      unfold pb_k0_t4Step at hp
      rw [dif_neg hn] at hp
      exact ih p hp

theorem flush_mem (k : Fin k0_t4_loop.trips) (n : ℕ) (hn : k.val < n) (p) (hp : p ∈ tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg22 k) :
    p ∈ pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg22 n := by
  induction n with
  | zero => exact absurd hn (Nat.not_lt_zero _)
  | succ n ih =>
    rcases Nat.lt_or_ge k.val n with h | h
    · rw [pb_k0_t4.eq_2]
      unfold pb_k0_t4Step
      split
      · exact List.mem_append.2 (Or.inr (ih h))
      · exact ih h
    · obtain rfl : n = k.val := Nat.le_antisymm h (Nat.le_of_lt_succ hn)
      rw [pb_k0_t4_succ]
      exact List.mem_append.2 (Or.inl hp)

theorem flush_cover (y : S320x32x128.Idx) : ∃ p ∈ pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg22 k0_t4_loop.trips, y ∈ p.1.set := by
  have h0 : (y 0).val < k0_t4_loop.trips := (y 0).isLt
  have h1 : (y 1).val < 32 := (y 1).isLt
  have h2 : (y 2).val < 128 := (y 2).isLt
  refine ⟨⟨Rect.unit (s := S320x32x128) (k0_off10 ⟨_, h0⟩) S1x32x128.size (k0_off10_inb ⟨_, h0⟩), _⟩, flush_mem 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg22 ⟨_, h0⟩ _ h0 _ (by rw [flush_trip]; exact List.mem_singleton_self _), ?_⟩
  refine (LoadRect.mem_set _).mpr fun a => ?_
  have e := k0_off10_eq ⟨_, h0⟩
  match a with
  | 0 => exact ⟨0, Nat.one_pos, by
      show (y 0).val = k0_off10 ⟨_, h0⟩ 0 + 1 * 0
      rw [show k0_off10 ⟨_, h0⟩ 0 = (y 0).val from congrFun e 0]; omega⟩
  | 1 => exact ⟨(y 1).val, h1, by
      show (y 1).val = k0_off10 ⟨_, h0⟩ 1 + 1 * (y 1).val
      rw [show k0_off10 ⟨_, h0⟩ 1 = 0 from congrFun e 1]; omega⟩
  | 2 => exact ⟨(y 2).val, h2, by
      show (y 2).val = k0_off10 ⟨_, h0⟩ 2 + 1 * (y 2).val
      rw [show k0_off10 ⟨_, h0⟩ 2 = 0 from congrFun e 2]; omega⟩

/-- After the loop the result's block `i`, row `r` is row `32 i + r` of the codes. -/
theorem flush_at (G : BufTy.Contents (Elt Ideal) arg13.view.ty) (y : S320x32x128.Idx) :
    arg13.view.read (Elt Ideal) (arg13.view.writes (Elt Ideal) G (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg22 k0_t4_loop.trips)) y = flushAt arg22 X_arg22 y :=
  (congrFun (View.read_writes_eq_canon arg13.view G _ (flush_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg22)) y).trans
    (View.canon_apply_of_pieces _ _ (flush_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg22 _) y (flush_cover 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 X_arg22 y))

end Flush

end Cert.Proof.KernelIdeal

end
-- ==== Proof.NormBody.lean ====
/- The normed rows of one grid point of the kernel, their scales and their codes, from the staged operands. -/
module

public import proofs.«01_k».proof.Proof.GRows
public import proofs.«01_k».proof.Proof.XRows
public import proofs.«01_k».proof.Proof.Flush
@[expose] public section

set_option maxRecDepth 16384
set_option maxHeartbeats 1000000

noncomputable section

namespace Cert.Proof.KernelIdeal

open Idealize.ShloMosaic Idealize.ShloMosaic.TcCoe Idealize.ShloMosaic.Tactic
open Cert.KernelIdeal Cert.KernelIdeal.Gen

/-- What is added to field `f`: a group of the second product, and after the 48 groups a local row. -/
def aK (Q : Vec Ideal S128x2048 .fp8e4m3) (S : FVec Ideal S128x128 .f32) (X4 : Vec Ideal S4224x128 .f32) (X8 : Vec Ideal S2048x6144 .fp8e4m3) (X9 X10 : Vec Ideal S48x128 .f32)
    (f : Fin 80) (d b : Fin 128) : Ideal .f32 :=
  if h : f.val < 48 then gk Q S X8 X9 X10 b ⟨f.val, h⟩ d else X4 (ix2 ⟨33 * b.val + (f.val - 48), by omega⟩ d)

/-- Field `f` of batch element `b`, normed. -/
def zK (Q : Vec Ideal S128x2048 .fp8e4m3) (S : FVec Ideal S128x128 .f32) (X3 : Vec Ideal S10240x128 .f32) (X4 : Vec Ideal S4224x128 .f32) (X8 : Vec Ideal S2048x6144 .fp8e4m3) (X9 X10 : Vec Ideal S48x128 .f32)
    (X11 X12 : Vec Ideal S128x128 .f32) (f : Fin 80) (d b : Fin 128) : Ideal .f32 :=
  zf X11 X12 (fun f d b => X3 (ix2 (frow f d) b)) (aK Q S X4 X8 X9 X10) f d b

/-- The scale of batch element `b`. -/
def sK (Q : Vec Ideal S128x2048 .fp8e4m3) (S : FVec Ideal S128x128 .f32) (X3 : Vec Ideal S10240x128 .f32) (X4 : Vec Ideal S4224x128 .f32) (X8 : Vec Ideal S2048x6144 .fp8e4m3) (X9 X10 : Vec Ideal S48x128 .f32)
    (X11 X12 : Vec Ideal S128x128 .f32) (b : Fin 128) : Ideal .f32 :=
  Spec.qscale (Spec.zmax (fun f d => zK Q S X3 X4 X8 X9 X10 X11 X12 f d b))

/-- The code at an index of the result: 32 rows to a block, 80 rows to a batch element. -/
def cK (Q : Vec Ideal S128x2048 .fp8e4m3) (S : FVec Ideal S128x128 .f32) (X3 : Vec Ideal S10240x128 .f32) (X4 : Vec Ideal S4224x128 .f32) (X8 : Vec Ideal S2048x6144 .fp8e4m3) (X9 X10 : Vec Ideal S48x128 .f32)
    (X11 X12 : Vec Ideal S128x128 .f32) (y : S320x32x128.Idx) : Ideal .fp8e4m3 :=
  Spec.qcode (zK Q S X3 X4 X8 X9 X10 X11 X12 ⟨(32 * (y 0).val + (y 1).val) % 80, Nat.mod_lt _ (by decide)⟩ (y 2) ⟨(32 * (y 0).val + (y 1).val) / 80, by have h0 : (y 0).val < 320 := (y 0).isLt; have h1 : (y 1).val < 32 := (y 1).isLt; omega⟩)
    (sK Q S X3 X4 X8 X9 X10 X11 X12 ⟨(32 * (y 0).val + (y 1).val) / 80, by have h0 : (y 0).val < 320 := (y 0).isLt; have h1 : (y 1).val < 32 := (y 1).isLt; omega⟩)

/-- A load of a whole square is the square. -/
theorem sq_read (arg11 : Memref sig .tc .vmem S128x128 .f32) (f : BufTy.Contents (Elt Ideal) arg11.view.ty) :
    arg11.view.readAt (Elt Ideal) (Rect.unit (s := S128x128) ![0, 0] S128x128.size inb_S128x128_S128x128_0_0).toLoadRect f = arg11.view.read (Elt Ideal) f := by
  funext y
  refine congrArg (arg11.view.read (Elt Ideal) f) (funext fun a => Fin.ext ?_)
  match a with
  | 0 => exact (Nat.zero_add _).trans (Nat.one_mul _)
  | 1 => exact (Nat.zero_add _).trans (Nat.one_mul _)

theorem wemb (z : S10240x128.Idx) : (Rect.unit (s := S10240x128) ![0, 0] S10240x128.size inb_S10240x128_S10240x128_0_0).emb z = z := by
  refine funext fun a => Fin.ext ?_
  match a with
  | 0 => exact (Nat.zero_add _).trans (Nat.one_mul _)
  | 1 => exact (Nat.zero_add _).trans (Nat.one_mul _)

/-- A load of 512 rows. -/
theorem w_read (arg19 : Memref sig .tc .vmem S10240x128 .f32) (f : BufTy.Contents (Elt Ideal) arg19.view.ty) (k : Fin k0_t3_loop.trips) (j : Fin 512) (b : Fin 128) :
    arg19.view.readAt (Elt Ideal) (Rect.unit (s := S10240x128) (k0_off7 k) S512x128.size (k0_off7_inb k)).toLoadRect f (ix2 j b)
      = arg19.view.read (Elt Ideal) f (ix2 ⟨512 * k.val + j.val, i3 k j⟩ b) := by
  have e := k0_off7_eq k
  refine congrArg (arg19.view.read (Elt Ideal) f) (funext fun a => Fin.ext ?_)
  match a with
  | 0 => show k0_off7 k 0 + 1 * j.val = 512 * k.val + j.val; rw [show k0_off7 k 0 = 512 * k.val from congrFun e 0]; omega
  | 1 => show k0_off7 k 1 + 1 * b.val = b.val; rw [show k0_off7 k 1 = 0 from congrFun e 1]; omega

/-- A load of every 33rd row. -/
theorem l_read (arg4 : Memref sig .tc .vmem S4224x128 .f32) (f : BufTy.Contents (Elt Ideal) arg4.view.ty) (k : Fin k0_t2_loop.trips) (d b : Fin 128) :
    arg4.view.readAt (Elt Ideal) (⟨k0_off5 k, S128x128.size, ![33, 1], (k0_off5_inb k)⟩ : LoadRect S4224x128) f (ix2 b d)
      = arg4.view.read (Elt Ideal) f (ix2 ⟨33 * b.val + k.val, by have : k.val < 32 := k.isLt; omega⟩ d) := by
  have e := k0_off5_eq k
  refine congrArg (arg4.view.read (Elt Ideal) f) (funext fun a => Fin.ext ?_)
  match a with
  | 0 => show k0_off5 k 0 + 33 * b.val = 33 * b.val + k.val; rw [show k0_off5 k 0 = k.val from congrFun e 0]; omega
  | 1 => show k0_off5 k 1 + 1 * d.val = d.val; rw [show k0_off5 k 1 = 0 from congrFun e 1]; omega

section Body

variable (arg3 : Memref sig .tc .vmem S10240x128 .f32) (arg4 : Memref sig .tc .vmem S4224x128 .f32) (arg8 : Memref sig .tc .vmem S2048x6144 .fp8e4m3) (harg8 : arg8.IsWhole) (arg9 : Memref sig .tc .vmem S48x128 .f32) (harg9 : arg9.IsWhole)
  (arg10 : Memref sig .tc .vmem S48x128 .f32) (harg10 : arg10.IsWhole) (arg11 arg12 : Memref sig .tc .vmem S128x128 .f32) (arg19 : Memref sig .tc .vmem S10240x128 .f32) (arg20 : Memref sig .tc .vmem S8x128 .f32)
  (f3 : BufTy.Contents (Elt Ideal) arg3.view.ty) (f4 : BufTy.Contents (Elt Ideal) arg4.view.ty) (f8 : BufTy.Contents (Elt Ideal) arg8.view.ty) (f9 : BufTy.Contents (Elt Ideal) arg9.view.ty)
  (f10 : BufTy.Contents (Elt Ideal) arg10.view.ty) (f11 : BufTy.Contents (Elt Ideal) arg11.view.ty) (f12 : BufTy.Contents (Elt Ideal) arg12.view.ty)
  (G19 : BufTy.Contents (Elt Ideal) arg19.view.ty) (G20 : BufTy.Contents (Elt Ideal) arg20.view.ty) (S : Vec Ideal S128x128 .f32) (Q : Vec Ideal S128x2048 .fp8e4m3)

include harg8 harg9 harg10

theorem tg0_at (k : Fin k0_t1_loop.trips) (d b : Fin 128) : tg0 arg8 arg9 arg10 f8 f9 f10 S Q k (ix2 d b)
    = aK Q S (arg4.view.read (Elt Ideal) f4) (arg8.view.read (Elt Ideal) f8) (arg9.view.read (Elt Ideal) f9) (arg10.view.read (Elt Ideal) f10) ⟨2 * k.val, i0 k⟩ d b := by
  have hk : k.val < 24 := k.isLt
  refine (pay5_at _ _ _ _ _ _).trans ((gTrip_pieces arg8 harg8 arg9 harg9 arg10 harg10 f8 f9 f10 S Q k _ (List.mem_cons_of_mem _ (List.mem_singleton_self _)) (ix2 b d)).trans
    ((gEmb Q S _ _ _ _ ⟨2 * k.val, by omega⟩ (k0_off3_eq k 0) (k0_off3_inb k 0) (ix2 b d)).trans ?_))
  unfold aK
  rw [dif_pos (show 2 * k.val < 48 by omega)]
  rfl

theorem tg1_at (k : Fin k0_t1_loop.trips) (d b : Fin 128) : k0_pay11 (tg1 arg8 arg9 f8 f9 S Q k) (tg2 arg10 f10 k) (ix2 b d)
    = aK Q S (arg4.view.read (Elt Ideal) f4) (arg8.view.read (Elt Ideal) f8) (arg9.view.read (Elt Ideal) f9) (arg10.view.read (Elt Ideal) f10) ⟨2 * k.val + 1, i1 k⟩ d b := by
  have hk : k.val < 24 := k.isLt
  refine (gTrip_pieces arg8 harg8 arg9 harg9 arg10 harg10 f8 f9 f10 S Q k _ List.mem_cons_self (ix2 b d)).trans
    ((gEmb Q S _ _ _ _ ⟨2 * k.val + 1, by omega⟩ (k0_off3_eq k 1) (k0_off3_inb k 1) (ix2 b d)).trans ?_)
  unfold aK
  rw [dif_pos (show 2 * k.val + 1 < 48 by omega)]
  rfl

omit harg8 harg9 harg10 in
theorem l_at (k : Fin k0_t2_loop.trips) (d b : Fin 128) : arg4.view.readAt (Elt Ideal) (⟨k0_off5 k, S128x128.size, ![33, 1], (k0_off5_inb k)⟩ : LoadRect S4224x128) f4 (ix2 b d)
    = aK Q S (arg4.view.read (Elt Ideal) f4) (arg8.view.read (Elt Ideal) f8) (arg9.view.read (Elt Ideal) f9) (arg10.view.read (Elt Ideal) f10) ⟨48 + k.val, i2 k⟩ d b := by
  rw [l_read]
  unfold aK
  rw [dif_neg (show ¬ 48 + k.val < 48 by omega)]
  refine congrArg (arg4.view.read (Elt Ideal) f4) (funext fun a => Fin.ext ?_)
  match a with
  | 0 => show 33 * b.val + k.val = 33 * b.val + (48 + k.val - 48); omega
  | 1 => rfl

/-- The rows as first copied. -/
abbrev c19 : BufTy.Contents (Elt Ideal) arg19.view.ty := arg19.view.writes (Elt Ideal) G19
  [⟨Rect.unit (s := S10240x128) ![0, 0] S10240x128.size inb_S10240x128_S10240x128_0_0, k0_pay30 (arg3.view.readAt (Elt Ideal) (Rect.unit (s := S10240x128) ![0, 0] S10240x128.size inb_S10240x128_S10240x128_0_0).toLoadRect f3)⟩]
/-- The running maximum as first set. -/
abbrev c20 : BufTy.Contents (Elt Ideal) arg20.view.ty := arg20.view.writes (Elt Ideal) G20 [⟨aR, k0_pay85 (F := Ideal)⟩]

omit harg8 harg9 harg10 in
theorem c19_read (z : S10240x128.Idx) : arg19.view.read (Elt Ideal) (c19 arg3 arg19 f3 G19) z = arg3.view.read (Elt Ideal) f3 z :=
  (congrArg (arg19.view.read (Elt Ideal) _) (wemb z).symm).trans ((View.read_writes_cons_emb arg19.view G19 (Rect.unit (s := S10240x128) ![0, 0] S10240x128.size inb_S10240x128_S10240x128_0_0) _ [] z).trans
    ((pay30_at _ z).trans (congrArg (arg3.view.read (Elt Ideal) f3) (wemb z))))

/-- The rows at the end. -/
theorem zK_read (f d b) : arg19.view.read (Elt Ideal) (zEnd arg19 (tg0 arg8 arg9 arg10 f8 f9 f10 S Q) (tg1 arg8 arg9 f8 f9 S Q) (tg2 arg10 f10)
      (fun k => arg4.view.readAt (Elt Ideal) ⟨k0_off5 k, S128x128.size, ![33, 1], (k0_off5_inb k)⟩ f4)
      (arg11.view.readAt (Elt Ideal) (Rect.unit (s := S128x128) ![0, 0] S128x128.size inb_S128x128_S128x128_0_0).toLoadRect f11)
      (arg12.view.readAt (Elt Ideal) (Rect.unit (s := S128x128) ![0, 0] S128x128.size inb_S128x128_S128x128_0_0).toLoadRect f12) (c19 arg3 arg19 f3 G19)) (ix2 (frow f d) b)
    = zK Q S (arg3.view.read (Elt Ideal) f3) (arg4.view.read (Elt Ideal) f4) (arg8.view.read (Elt Ideal) f8) (arg9.view.read (Elt Ideal) f9) (arg10.view.read (Elt Ideal) f10) (arg11.view.read (Elt Ideal) f11) (arg12.view.read (Elt Ideal) f12) f d b := by
  rw [sq_read, sq_read]
  exact zEnd_read arg19 _ _ _ _ _ _ _ _ _ (fun f d b => c19_read arg3 arg19 f3 G19 _) (tg0_at arg4 arg8 harg8 arg9 harg9 arg10 harg10 f4 f8 f9 f10 S Q)
    (tg1_at arg4 arg8 harg8 arg9 harg9 arg10 harg10 f4 f8 f9 f10 S Q) (l_at arg4 arg8 arg9 arg10 f4 f8 f9 f10 S Q) f d b

/-- The scales at the end. -/
theorem sK_read (y : S1x128.Idx) : k0_pay88 (arg20.view.readAt (Elt Ideal) aR.toLoadRect (aEnd arg19 arg20 (tg0 arg8 arg9 arg10 f8 f9 f10 S Q) (tg1 arg8 arg9 f8 f9 S Q) (tg2 arg10 f10)
      (fun k => arg4.view.readAt (Elt Ideal) ⟨k0_off5 k, S128x128.size, ![33, 1], (k0_off5_inb k)⟩ f4)
      (arg11.view.readAt (Elt Ideal) (Rect.unit (s := S128x128) ![0, 0] S128x128.size inb_S128x128_S128x128_0_0).toLoadRect f11)
      (arg12.view.readAt (Elt Ideal) (Rect.unit (s := S128x128) ![0, 0] S128x128.size inb_S128x128_S128x128_0_0).toLoadRect f12) (c19 arg3 arg19 f3 G19) (c20 arg20 G20))) y
    = sK Q S (arg3.view.read (Elt Ideal) f3) (arg4.view.read (Elt Ideal) f4) (arg8.view.read (Elt Ideal) f8) (arg9.view.read (Elt Ideal) f9) (arg10.view.read (Elt Ideal) f10) (arg11.view.read (Elt Ideal) f11) (arg12.view.read (Elt Ideal) f12) (y 1) := by
  rw [sq_read, sq_read]
  rw [show arg20.view.readAt (Elt Ideal) aR.toLoadRect _ = arg20.view.read (Elt Ideal) _ from funext fun y => aR_read arg20 _ y]
  exact aEnd_scale arg19 arg20 _ _ _ _ _ _ _ _ _ _ (fun f d b => c19_read arg3 arg19 f3 G19 _) (tg0_at arg4 arg8 harg8 arg9 harg9 arg10 harg10 f4 f8 f9 f10 S Q)
    (tg1_at arg4 arg8 harg8 arg9 harg9 arg10 harg10 f4 f8 f9 f10 S Q) (l_at arg4 arg8 arg9 arg10 f4 f8 f9 f10 S Q) (fun y => (aR_self arg20 G20 _ [] y).trans (pay85_at y)) y

end Body

end Cert.Proof.KernelIdeal

end
-- ==== Proof.ValueBody.lean ====
/-
   One grid point of the kernel over the extended reals: what it writes to its six results.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Points
public import proofs.«01_k».proof.Proof.TripsKernelIdeal
public import proofs.«01_k».proof.Proof.BlockScale
public import proofs.«01_k».proof.Proof.GRows
public import proofs.«01_k».proof.Proof.NormBody
@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

set_option maxHeartbeats 4000000 in
/-- The body of one grid point over the extended reals: the codes and scales of the normed rows, the codes, scales and rows of the first product, and the second product, of the staged operands. -/
theorem vbody (c : Dev nD) (i : grid0.Coords) (arg1 : Memref sig .tc .vmem S128x1920 .fp8e4m3) (harg1 : arg1.IsWhole) (arg2 : Memref sig .tc .vmem S1x128x128 .f32) (harg2 : arg2.IsWhole) (arg3 : Memref sig .tc .vmem S10240x128 .f32) (harg3 : arg3.IsWhole) (arg4 : Memref sig .tc .vmem S4224x128 .f32) (harg4 : arg4.IsWhole) (arg5 : Memref sig .tc .vmem S1920x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x6144 .fp8e4m3) (harg8 : arg8.IsWhole) (arg9 : Memref sig .tc .vmem S48x128 .f32) (harg9 : arg9.IsWhole) (arg10 : Memref sig .tc .vmem S48x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S320x32x128 .fp8e4m3) (harg13 : arg13.IsWhole) (arg14 : Memref sig .tc .vmem S1x1x128 .f32) (harg14 : arg14.IsWhole) (arg15 : Memref sig .tc .vmem S128x2048 .fp8e4m3) (harg15 : arg15.IsWhole) (arg16 : Memref sig .tc .vmem S1x1x128 .f32) (harg16 : arg16.IsWhole) (arg17 : Memref sig .tc .vmem S128x2048 .f32) (harg17 : arg17.IsWhole) (arg18 : Memref sig .tc .vmem S6144x128 .f32) (harg18 : arg18.IsWhole) (arg19 : Memref sig .tc .vmem S10240x128 .f32) (harg19 : arg19.IsWhole) (arg20 : Memref sig .tc .vmem S8x128 .f32) (harg20 : arg20.IsWhole) (arg21 : Memref sig .tc .vmem S128x128 .f32) (harg21 : arg21.IsWhole) (arg22 : Memref sig .tc .vmem S10240x128 .f32) (harg22 : arg22.IsWhole) (x1 : Vec Ideal S128x1920 .fp8e4m3) (x2 : Vec Ideal S1x128x128 .f32) (x3 : Vec Ideal S10240x128 .f32) (x4 : Vec Ideal S4224x128 .f32) (x5 : Vec Ideal S1920x2048 .fp8e4m3) (x6 : Vec Ideal S1x2048 .f32) (x7 : Vec Ideal S1x2048 .f32) (x8 : Vec Ideal S2048x6144 .fp8e4m3) (x9 : Vec Ideal S48x128 .f32) (x10 : Vec Ideal S48x128 .f32) (x11 : Vec Ideal S128x128 .f32) (x12 : Vec Ideal S128x128 .f32) (K : PUnit → sProp (MT nD τ sig Unit (Elt Ideal) ℕ (UR sig nD τ) ℕ)) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
        ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (cK (fun z => Spec.code (hk x1 x2 x5 x6 x7 (z 0)) (z 1)) (fun z => Spec.scale (hk x1 x2 x5 x6 x7 (z 0))) x3 x4 x8 x9 x10 x11 x12) ∗ owns (c : Thread nD τ) arg14 fullShare (fun y => sK (fun z => Spec.code (hk x1 x2 x5 x6 x7 (z 0)) (z 1)) (fun z => Spec.scale (hk x1 x2 x5 x6 x7 (z 0))) x3 x4 x8 x9 x10 x11 x12 (y 2)) ∗ owns (c : Thread nD τ) arg15 fullShare (fun y => Spec.code (hk x1 x2 x5 x6 x7 (y 0)) (y 1)) ∗ owns (c : Thread nD τ) arg16 fullShare (fun y => Spec.scale (hk x1 x2 x5 x6 x7 (y 2))) ∗ owns (c : Thread nD τ) arg17 fullShare (fun y => hk x1 x2 x5 x6 x7 (y 0) (y 1)) ∗ owns (c : Thread nD τ) arg18 fullShare (fun y => gAt (fun z => Spec.code (hk x1 x2 x5 x6 x7 (z 0)) (z 1)) (fun z => Spec.scale (hk x1 x2 x5 x6 x7 (z 0))) x8 x9 x10 y) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
      ⊢ wp frame (wpE (defs₀ (F := Ideal)) Variants.none c none) Set.univ (cc0_wukong_layer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_wukong_layer_eq_skeleton]; unfold cc0_wukong_layer_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf1 hf2 hf3 hf4 hf5 hf6 hf7 hf8 hf9 hf10 hf11 hf12
  sl_exec
  sl_step
  iapply Hk
  have hS : vbody.sl.v431 c arg1 arg2 arg5 arg6 arg7 arg21 f1 f2 f5 f6 f7 = fun z => Spec.scale (hh arg1 arg2 arg5 arg6 arg7 f1 f2 f5 f6 f7 (z 0)) := funext fun z => v431_at c arg1 arg2 arg5 arg6 arg7 arg21 f1 f2 f5 f6 f7 z
  have hQ : View.readAt (Elt Ideal) arg15.view (Rect.unit (s := S128x2048) ![0, 0] S128x2048.size inb_S128x2048_S128x2048_0_0).toLoadRect
      (arg15.view.writes (Elt Ideal) arg15.view.junk (vbody.sl.H15_16 c arg1 arg2 arg5 arg6 arg7 arg17 f1 f2 f5 f6 f7)) = fun z => Spec.code (hh arg1 arg2 arg5 arg6 arg7 f1 f2 f5 f6 f7 (z 0)) (z 1) :=
    funext fun z => (View.read_writes_junk_apply_eq_canon arg15.view _ _).trans ((h1_canon c arg1 arg2 arg5 arg6 arg7 arg17 f1 f2 f5 f6 f7 _).trans
      (embW (fun r => Spec.code (hh arg1 arg2 arg5 arg6 arg7 f1 f2 f5 f6 f7 r)) z))
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    funext y
    refine (flush_at (y := y) ..).trans ?_
    refine (xRows_at _ _ _ (w_read arg19 _) arg22 _ _).trans ?_
    refine congrArg₂ Spec.qcode ((zK_read arg3 arg4 arg8 harg8 arg9 harg9 arg10 harg10 arg11 arg12 arg19 f3 f4 f8 f9 f10 f11 f12 arg19.view.junk _ _ _ _ _).trans ?_)
      ((sK_read arg3 arg4 arg8 harg8 arg9 harg9 arg10 harg10 arg11 arg12 arg19 arg20 f3 f4 f8 f9 f10 f11 f12 arg19.view.junk arg20.view.junk _ _ _).trans ?_)
    · rw [hS, hQ]; rfl
    · rw [hS, hQ]; rfl
  isplitl [H14]
  · iexists _; isplitr
    swap; · iexact H14
    ipureintro
    funext y
    refine (View.read_writes_junk_apply_eq_canon arg14.view y _).trans ((whole_piece' _ _ (fun x => (pay89_at _ x).trans
      (sK_read arg3 arg4 arg8 harg8 arg9 harg9 arg10 harg10 arg11 arg12 arg19 arg20 f3 f4 f8 f9 f10 f11 f12 arg19.view.junk arg20.view.junk _ _ (ix2 0 (x 2)))) y).trans ?_)
    rw [hS, hQ]; rfl
  isplitl [H15]
  · iexists _; isplitr
    swap; · iexact H15
    ipureintro
    funext y
    exact (View.read_writes_junk_apply_eq_canon arg15.view y _).trans (h1_canon c arg1 arg2 arg5 arg6 arg7 arg17 f1 f2 f5 f6 f7 y)
  isplitl [H16]
  · iexists _; isplitr
    swap; · iexact H16
    ipureintro
    funext y
    exact (View.read_writes_junk_apply_eq_canon arg16.view y _).trans (h1s_canon c arg1 arg2 arg5 arg6 arg7 arg21 f1 f2 f5 f6 f7 y)
  isplitl [H17]
  · iexists _; isplitr
    swap; · iexact H17
    ipureintro
    funext y
    exact (View.read_writes_junk_apply_eq_canon arg17.view y _).trans (hp_canon c arg1 arg2 arg5 arg6 arg7 f1 f2 f5 f6 f7 y)
  isplitl [H18]
  · iexists _; isplitr
    swap; · iexact H18
    ipureintro
    funext y
    refine (congrFun (View.read_writes_eq_canon arg18.view f18 _ (gRows_cover arg8 harg8 arg9 harg9 arg10 harg10 f8 f9 f10 _ _)) y).trans ((gRows_canon arg8 harg8 arg9 harg9 arg10 harg10 f8 f9 f10 _ _ y).trans ?_)
    rw [hS, hQ]
    rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  iexists _; iexists _; isplitr
  swap; · iexact H22
  ipureintro; rfl

end Cert.Proof.KernelIdeal
-- ==== Proof.ValueRun.lean ====
/-
   The whole run of the kernel over the extended reals: it ends with its six results known block by block.
-/
module

public import proofs.«01_k».proof.Defs
public import proofs.«01_k».proof.Proof.Gen.KernelIdeal
public import proofs.«01_k».proof.Proof.Gen.KernelIdeal.Frame
public import proofs.«01_k».proof.Proof.ValueBody
@[expose] public section

set_option maxRecDepth 16384

noncomputable section

namespace Cert.Proof.KernelValue

open Cert.Proof.KernelIdeal Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf)

variable (m : (ℓ : Loc nD τ sig) → Buf (Elt Ideal) ℓ) (ρ : Dev nD → PrngReg)

local notation "𝕄" => MT nD τ sig Unit (Elt Ideal) ℕ (UR sig nD τ) ℕ

/-- The proof data: operands stay as fetched; the six results are as the body writes them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (cK (fun z => Spec.code (hk (iblk m c 0 t) (iblk m c 1 t) (iblk m c 4 t) (iblk m c 5 t) (iblk m c 6 t) (z 0)) (z 1)) (fun z => Spec.scale (hk (iblk m c 0 t) (iblk m c 1 t) (iblk m c 4 t) (iblk m c 5 t) (iblk m c 6 t) (z 0))) (iblk m c 2 t) (iblk m c 3 t) (iblk m c 7 t) (iblk m c 8 t) (iblk m c 9 t) (iblk m c 10 t) (iblk m c 11 t) : Vec Ideal S320x32x128 .fp8e4m3)
    | ⟨13, _⟩ => ((fun y => sK (fun z => Spec.code (hk (iblk m c 0 t) (iblk m c 1 t) (iblk m c 4 t) (iblk m c 5 t) (iblk m c 6 t) (z 0)) (z 1)) (fun z => Spec.scale (hk (iblk m c 0 t) (iblk m c 1 t) (iblk m c 4 t) (iblk m c 5 t) (iblk m c 6 t) (z 0))) (iblk m c 2 t) (iblk m c 3 t) (iblk m c 7 t) (iblk m c 8 t) (iblk m c 9 t) (iblk m c 10 t) (iblk m c 11 t) (y 2)) : Vec Ideal S1x1x128 .f32)
    | ⟨14, _⟩ => ((fun y => Spec.code (hk (iblk m c 0 t) (iblk m c 1 t) (iblk m c 4 t) (iblk m c 5 t) (iblk m c 6 t) (y 0)) (y 1)) : Vec Ideal S128x2048 .fp8e4m3)
    | ⟨15, _⟩ => ((fun y => Spec.scale (hk (iblk m c 0 t) (iblk m c 1 t) (iblk m c 4 t) (iblk m c 5 t) (iblk m c 6 t) (y 2))) : Vec Ideal S1x1x128 .f32)
    | ⟨16, _⟩ => ((fun y => hk (iblk m c 0 t) (iblk m c 1 t) (iblk m c 4 t) (iblk m c 5 t) (iblk m c 6 t) (y 0) (y 1)) : Vec Ideal S128x2048 .f32)
    | ⟨17, _⟩ => ((fun y => gAt (fun z => Spec.code (hk (iblk m c 0 t) (iblk m c 1 t) (iblk m c 4 t) (iblk m c 5 t) (iblk m c 6 t) (z 0)) (z 1)) (fun z => Spec.scale (hk (iblk m c 0 t) (iblk m c 1 t) (iblk m c 4 t) (iblk m c 5 t) (iblk m c 6 t) (z 0))) (iblk m c 7 t) (iblk m c 8 t) (iblk m c 9 t) y) : Vec Ideal S6144x128 .f32)
    | ⟨_ + 18, h⟩ => (Nat.not_lt_of_le (Nat.le_add_left 18 _) h).elim
  Φ _ := Pipeline.ΦA spec0 c
  q _ := fullShare
  owed _ := 0

/-- The output windows of which nothing is said: none. -/
def fgt : Fin 18 → Bool := fun _ => false

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (cK (fun z => Spec.code (hk (iblk m c 0 t) (iblk m c 1 t) (iblk m c 4 t) (iblk m c 5 t) (iblk m c 6 t) (z 0)) (z 1)) (fun z => Spec.scale (hk (iblk m c 0 t) (iblk m c 1 t) (iblk m c 4 t) (iblk m c 5 t) (iblk m c 6 t) (z 0))) (iblk m c 2 t) (iblk m c 3 t) (iblk m c 7 t) (iblk m c 8 t) (iblk m c 9 t) (iblk m c 10 t) (iblk m c 11 t) : Vec Ideal S320x32x128 .fp8e4m3) := by dsimp only [dats]
theorem after0_13 (c : Dev nD) (t : Fin cfg0.N) : (dats m 0 c).after 13 t = ((fun y => sK (fun z => Spec.code (hk (iblk m c 0 t) (iblk m c 1 t) (iblk m c 4 t) (iblk m c 5 t) (iblk m c 6 t) (z 0)) (z 1)) (fun z => Spec.scale (hk (iblk m c 0 t) (iblk m c 1 t) (iblk m c 4 t) (iblk m c 5 t) (iblk m c 6 t) (z 0))) (iblk m c 2 t) (iblk m c 3 t) (iblk m c 7 t) (iblk m c 8 t) (iblk m c 9 t) (iblk m c 10 t) (iblk m c 11 t) (y 2)) : Vec Ideal S1x1x128 .f32) := by dsimp only [dats]
theorem after0_14 (c : Dev nD) (t : Fin cfg0.N) : (dats m 0 c).after 14 t = ((fun y => Spec.code (hk (iblk m c 0 t) (iblk m c 1 t) (iblk m c 4 t) (iblk m c 5 t) (iblk m c 6 t) (y 0)) (y 1)) : Vec Ideal S128x2048 .fp8e4m3) := by dsimp only [dats]
theorem after0_15 (c : Dev nD) (t : Fin cfg0.N) : (dats m 0 c).after 15 t = ((fun y => Spec.scale (hk (iblk m c 0 t) (iblk m c 1 t) (iblk m c 4 t) (iblk m c 5 t) (iblk m c 6 t) (y 2))) : Vec Ideal S1x1x128 .f32) := by dsimp only [dats]
theorem after0_16 (c : Dev nD) (t : Fin cfg0.N) : (dats m 0 c).after 16 t = ((fun y => hk (iblk m c 0 t) (iblk m c 1 t) (iblk m c 4 t) (iblk m c 5 t) (iblk m c 6 t) (y 0) (y 1)) : Vec Ideal S128x2048 .f32) := by dsimp only [dats]
theorem after0_17 (c : Dev nD) (t : Fin cfg0.N) : (dats m 0 c).after 17 t = ((fun y => gAt (fun z => Spec.code (hk (iblk m c 0 t) (iblk m c 1 t) (iblk m c 4 t) (iblk m c 5 t) (iblk m c 6 t) (z 0)) (z 1)) (fun z => Spec.scale (hk (iblk m c 0 t) (iblk m c 1 t) (iblk m c 4 t) (iblk m c 5 t) (iblk m c 6 t) (z 0))) (iblk m c 7 t) (iblk m c 8 t) (iblk m c 9 t) y) : Vec Ideal S6144x128 .f32) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 2000000 in
/-- The body at any point meets what the pipeline asks of it. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  unfold Pipeline.ΦA
  rw [scopedRest0_eq]
  iintro ⟨⟨⟨⟨%s0, S0⟩, ⟨%s1, S1⟩, ⟨%s2, S2⟩, ⟨%s3, S3⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (vbody c _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  iintro ⟨H0, H1, H2, H3, H4, H5, H6, H7, H8, H9, H10, H11, H12, H13, H14, H15, H16, H17, ⟨%r0, S0⟩, ⟨%r1, S1⟩, ⟨%r2, S2⟩, ⟨%r3, S3⟩⟩
  isplitl [S0 S1 S2 S3 HP]
  · isplitr [HP]
    swap; · iexact HP
    isplitl [S0]; · iexists r0; rw [← owns_whole]; iexact S0
    isplitl [S1]; · iexists r1; rw [← owns_whole]; iexact S1
    isplitl [S2]; · iexists r2; rw [← owns_whole]; iexact S2
    iexists r3; rw [← owns_whole]; iexact S3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

set_option maxHeartbeats 2000000 in
theorem body_obligation (c : Dev nD) : BodyObligation (dats m 0 c) (defs₀ (F := Ideal)) Variants.none () Set.univ fgt := fun t => by
  rw [bigSep_W0, bigSep_W0, defs₀_row]
  exact triple_restated (sound_body m c t) rfl .rfl fun _ => .rfl

set_option backward.isDefEq.respectTransparency.types false in
set_option maxHeartbeats 2000000 in
/-- Every execution of the program ends, with each array of the pipeline at what the proof data say and every
    semaphore counter at zero. -/
theorem run_main : θ_run defs (onTc (τ := τ) (main (F := Ideal))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m} in
/-- A final state of the run has every argument array as it was. -/
theorem unchanged {r : PUnit × MemSt nD τ sig (Elt Ideal)}
    (h : Pipeline.RDat.FramePost cfg0 (fun c => (dats m 0 c).toRForget fgt) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(((dats m 0 c).toRForget_arrAt_iff (fgt := fgt) (w := 0) rfl _ _).mp ((h c).1 0)).trans (((dats m 0 c).arrAt_in 0 rfl _).trans ((A_eq m c 0).trans (V_main_arg0 m c))),
   ((h c).2 main_arg1 (Pipeline.mem_restRefs_of main_arg1 (by decide) (by decide))).trans (V_main_arg1 m c),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   (((dats m 0 c).toRForget_arrAt_iff (fgt := fgt) (w := 4) rfl _ _).mp ((h c).1 4)).trans (((dats m 0 c).arrAt_in 4 rfl _).trans ((A_eq m c 4).trans (V_main_arg4 m c))),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   (((dats m 0 c).toRForget_arrAt_iff (fgt := fgt) (w := 7) rfl _ _).mp ((h c).1 7)).trans (((dats m 0 c).arrAt_in 7 rfl _).trans ((A_eq m c 7).trans (V_main_arg7 m c))),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c),
   ((h c).2 main_arg11 (Pipeline.mem_restRefs_of main_arg11 (by decide) (by decide))).trans (V_main_arg11 m c)⟩

end Cert.Proof.KernelValue
-- ==== Proof.KerFinal.lean ====
/- The six results of the kernel after its run over the extended reals, each as one function of the arguments. -/
module

public import proofs.«01_k».proof.Proof.ValueRun
public import Idealize.ShloMosaic.Lib.Pipeline.ValueKit
@[expose] public section

set_option maxRecDepth 16384

noncomputable section

namespace Cert.Proof.KernelValue

open Idealize.ShloMosaic Idealize.ShloMosaic.TcCoe Idealize.ShloMosaic.Tactic
open Cert.Proof.KernelIdeal Cert.KernelIdeal Cert.KernelIdeal.Gen

variable (m : (ℓ : Loc nD τ sig) → Buf (Elt Ideal) ℓ)

/-- The index maps of the windows at a grid point: the batch blocks move with it, the weights stay. -/
theorem idx : ∀ t : Fin cfg0.N, win0_0.index t = ![t.val, 0]
    ∧ win0_1.index t = ![0, t.val, 0]
    ∧ win0_2.index t = ![0, t.val]
    ∧ win0_3.index t = ![t.val, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![t.val, 0, 0]
    ∧ win0_13.index t = ![t.val, 0, 0]
    ∧ win0_14.index t = ![t.val, 0]
    ∧ win0_15.index t = ![t.val, 0, 0]
    ∧ win0_16.index t = ![t.val, 0]
    ∧ win0_17.index t = ![t.val, 0] :=
  (by decide +kernel : ∀ t : Fin grid0.N, _)

theorem row_lt (t : Fin cfg0.N) (r : Fin 128) : t.val * 128 + r.val < 4096 := by
  have h : t.val < 32 := t.isLt
  omega

/-- Row `r` of the first product, from the arguments. -/
abbrev H (c : Dev nD) (r : Fin 4096) : Fin 2048 → Ideal .f32 :=
  Spec.hrow (m ((c : Thread nD τ).loc main_arg0)) (m ((c : Thread nD τ).loc main_arg1)) (m ((c : Thread nD τ).loc main_arg4))
    (m ((c : Thread nD τ).loc main_arg5)) (m ((c : Thread nD τ).loc main_arg6)) r

/-! ## What the host operations before the launch leave in the operands -/

theorem V1 (c : Dev nD) : (V m c main_v1 : Vec Ideal S1x4096x128 .f32) = fun y => (m ((c : Thread nD τ).loc main_arg1) : Vec Ideal S4096 .f32) (ix1 (y 1)) := by
  unfold V
  simp only [hostOps0, hostOps0_1, hostOps0_2, List.flatten_cons, List.flatten_nil, List.cons_append, List.nil_append, List.append_nil]
  entry_read
  funext y
  pointwise
theorem V11 (c : Dev nD) : (V m c main_v11 : Vec Ideal S1x2048 .f32) = fun y => (m ((c : Thread nD τ).loc main_arg5) : Vec Ideal S2048 .f32) (ix1 (y 1)) := by
  unfold V
  simp only [hostOps0, hostOps0_1, hostOps0_2, List.flatten_cons, List.flatten_nil, List.cons_append, List.nil_append, List.append_nil]
  entry_read
  funext y
  pointwise
theorem V12 (c : Dev nD) : (V m c main_v12 : Vec Ideal S1x2048 .f32) = fun y => (m ((c : Thread nD τ).loc main_arg6) : Vec Ideal S2048 .f32) (ix1 (y 1)) := by
  unfold V
  simp only [hostOps0, hostOps0_1, hostOps0_2, List.flatten_cons, List.flatten_nil, List.cons_append, List.nil_append, List.append_nil]
  entry_read
  funext y
  pointwise
theorem V13 (c : Dev nD) : (V m c main_v13 : Vec Ideal S48x128 .f32) = fun y => (m ((c : Thread nD τ).loc main_arg8) : Vec Ideal S6144 .f32) (ix1 ⟨(y 0).val * 128 + (y 1).val, by have h0 : (y 0).val < 48 := (y 0).isLt; have h1 : (y 1).val < 128 := (y 1).isLt; omega⟩) := by
  unfold V
  simp only [hostOps0, hostOps0_1, hostOps0_2, List.flatten_cons, List.flatten_nil, List.cons_append, List.nil_append, List.append_nil]
  entry_read
  funext y
  pointwise
theorem V14 (c : Dev nD) : (V m c main_v14 : Vec Ideal S48x128 .f32) = fun y => (m ((c : Thread nD τ).loc main_arg9) : Vec Ideal S6144 .f32) (ix1 ⟨(y 0).val * 128 + (y 1).val, by have h0 : (y 0).val < 48 := (y 0).isLt; have h1 : (y 1).val < 128 := (y 1).isLt; omega⟩) := by
  unfold V
  simp only [hostOps0, hostOps0_1, hostOps0_2, List.flatten_cons, List.flatten_nil, List.cons_append, List.nil_append, List.append_nil]
  entry_read
  funext y
  pointwise

theorem iblk0 (c : Dev nD) (t : Fin cfg0.N) (r : Fin 128) (k : Fin 1920) :
    (iblk m c 0 t : Vec Ideal S128x1920 .fp8e4m3) (ix2 r k) = (m ((c : Thread nD τ).loc main_arg0) : Vec Ideal S4096x1920 .fp8e4m3) (ix2 ⟨t.val * 128 + r.val, row_lt t r⟩ k) := by
  blk_point [iblk, V, idx t]
theorem iblk1 (c : Dev nD) (t : Fin cfg0.N) (r l : Fin 128) :
    (iblk m c 1 t : Vec Ideal S1x128x128 .f32) (ix3 0 r l) = (m ((c : Thread nD τ).loc main_arg1) : Vec Ideal S4096 .f32) (ix1 ⟨t.val * 128 + r.val, row_lt t r⟩) := by
  show (V m c main_v1 : Vec Ideal S1x4096x128 .f32) (((cfg0.win 1).blk t).view.emb (ix3 0 r l)) = _
  rw [V1]
  refine congrArg _ ?_
  blk_ext [idx t]
theorem iblk4 (c : Dev nD) (t : Fin cfg0.N) (y : S1920x2048.Idx) :
    (iblk m c 4 t : Vec Ideal S1920x2048 .fp8e4m3) y = (m ((c : Thread nD τ).loc main_arg4) : Vec Ideal S1920x2048 .fp8e4m3) y := by
  blk_point [iblk, V, idx t]
theorem iblk5 (c : Dev nD) (t : Fin cfg0.N) (j : Fin 2048) :
    (iblk m c 5 t : Vec Ideal S1x2048 .f32) (ix2 0 j) = (m ((c : Thread nD τ).loc main_arg5) : Vec Ideal S2048 .f32) (ix1 j) := by
  show (V m c main_v11 : Vec Ideal S1x2048 .f32) (((cfg0.win 5).blk t).view.emb (ix2 0 j)) = _
  rw [V11]
  refine congrArg _ ?_
  blk_ext [idx t]
theorem iblk6 (c : Dev nD) (t : Fin cfg0.N) (j : Fin 2048) :
    (iblk m c 6 t : Vec Ideal S1x2048 .f32) (ix2 0 j) = (m ((c : Thread nD τ).loc main_arg6) : Vec Ideal S2048 .f32) (ix1 j) := by
  show (V m c main_v12 : Vec Ideal S1x2048 .f32) (((cfg0.win 6).blk t).view.emb (ix2 0 j)) = _
  rw [V12]
  refine congrArg _ ?_
  blk_ext [idx t]
theorem iblk7 (c : Dev nD) (t : Fin cfg0.N) (y : S2048x6144.Idx) :
    (iblk m c 7 t : Vec Ideal S2048x6144 .fp8e4m3) y = (m ((c : Thread nD τ).loc main_arg7) : Vec Ideal S2048x6144 .fp8e4m3) y := by
  blk_point [iblk, V, idx t]
theorem iblk8 (c : Dev nD) (t : Fin cfg0.N) (n : Fin 48) (l : Fin 128) :
    (iblk m c 8 t : Vec Ideal S48x128 .f32) (ix2 n l) = (m ((c : Thread nD τ).loc main_arg8) : Vec Ideal S6144 .f32) (ix1 ⟨n.val * 128 + l.val, by omega⟩) := by
  show (V m c main_v13 : Vec Ideal S48x128 .f32) (((cfg0.win 8).blk t).view.emb (ix2 n l)) = _
  rw [V13]
  refine congrArg _ ?_
  blk_ext [idx t]
theorem iblk9 (c : Dev nD) (t : Fin cfg0.N) (n : Fin 48) (l : Fin 128) :
    (iblk m c 9 t : Vec Ideal S48x128 .f32) (ix2 n l) = (m ((c : Thread nD τ).loc main_arg9) : Vec Ideal S6144 .f32) (ix1 ⟨n.val * 128 + l.val, by omega⟩) := by
  show (V m c main_v14 : Vec Ideal S48x128 .f32) (((cfg0.win 9).blk t).view.emb (ix2 n l)) = _
  rw [V14]
  refine congrArg _ ?_
  blk_ext [idx t]

/-- A block's rows are the arguments' rows. -/
theorem hk_eq (c : Dev nD) (t : Fin cfg0.N) (r : Fin 128) :
    hk (iblk m c 0 t) (iblk m c 1 t) (iblk m c 4 t) (iblk m c 5 t) (iblk m c 6 t) r = H m c ⟨t.val * 128 + r.val, row_lt t r⟩ := by
  funext j
  exact congrArg₂ (· + ·) (congrArg₂ (· * ·) (congrArg₂ (· * ·) (Finset.sum_congr rfl fun k _ => congrArg₂ (· * ·) (iblk0 m c t r k) (iblk4 m c t _)) (iblk1 m c t r _)) (iblk5 m c t j)) (iblk6 m c t j)

/-- The first product at an index of the result. -/
abbrev G16 (c : Dev nD) (y : S4096x2048.Idx) : Ideal .f32 := H m c (y 0) (y 1)
/-- The codes. -/
abbrev G14 (c : Dev nD) (y : S4096x2048.Idx) : Ideal .fp8e4m3 := Spec.code (H m c (y 0)) (y 1)
/-- The scales. -/
abbrev G15 (c : Dev nD) (y : S32x1x128.Idx) : Ideal .f32 :=
  Spec.scale (H m c ⟨(y 0).val * 128 + (y 2).val, by have h0 : (y 0).val < 32 := (y 0).isLt; have h2 : (y 2).val < 128 := (y 2).isLt; omega⟩)
/-- The second product, 48 rows of 128 lanes to a row of it. -/
abbrev G17 (c : Dev nD) (y : S196608x128.Idx) : Ideal .f32 :=
  Spec.grow (H m c ⟨(y 0).val / 48, by have h0 : (y 0).val < 196608 := (y 0).isLt; omega⟩)
    (m ((c : Thread nD τ).loc main_arg7)) (m ((c : Thread nD τ).loc main_arg8)) (m ((c : Thread nD τ).loc main_arg9))
    ⟨(y 0).val % 48 * 128 + (y 1).val, by have h1 : (y 1).val < 128 := (y 1).isLt; omega⟩

theorem emb16 (t : Fin cfg0.N) (y : S128x2048.Idx) : (ix2 ⟨t.val * 128 + (y 0).val, row_lt t (y 0)⟩ (y 1) : S4096x2048.Idx) = ((cfg0.win 16).blk t).view.emb y := by blk_ext [idx t]
theorem emb14 (t : Fin cfg0.N) (y : S128x2048.Idx) : (ix2 ⟨t.val * 128 + (y 0).val, row_lt t (y 0)⟩ (y 1) : S4096x2048.Idx) = ((cfg0.win 14).blk t).view.emb y := by blk_ext [idx t]
theorem emb15 (t : Fin cfg0.N) (y : S1x1x128.Idx) : (ix3 ⟨t.val, t.isLt⟩ 0 (y 2) : S32x1x128.Idx) = ((cfg0.win 15).blk t).view.emb y := by blk_ext [idx t]
theorem emb17 (t : Fin cfg0.N) (y : S6144x128.Idx) : (ix2 ⟨t.val * 6144 + (y 0).val, by have h : (y 0).val < 6144 := (y 0).isLt; have h' : t.val < 32 := t.isLt; omega⟩ (y 1) : S196608x128.Idx) = ((cfg0.win 17).blk t).view.emb y := by blk_ext [idx t]

theorem hp_blk (c : Dev nD) (t : Fin cfg0.N) (y : S128x2048.Idx) :
    hk (iblk m c 0 t) (iblk m c 1 t) (iblk m c 4 t) (iblk m c 5 t) (iblk m c 6 t) (y 0) (y 1) = G16 m c (ix2 ⟨t.val * 128 + (y 0).val, row_lt t (y 0)⟩ (y 1)) :=
  congrFun (hk_eq m c t (y 0)) (y 1)
theorem h1_blk (c : Dev nD) (t : Fin cfg0.N) (y : S128x2048.Idx) :
    Spec.code (hk (iblk m c 0 t) (iblk m c 1 t) (iblk m c 4 t) (iblk m c 5 t) (iblk m c 6 t) (y 0)) (y 1) = G14 m c (ix2 ⟨t.val * 128 + (y 0).val, row_lt t (y 0)⟩ (y 1)) :=
  congrArg (fun h => Spec.code h (y 1)) (hk_eq m c t (y 0))
theorem h1s_blk (c : Dev nD) (t : Fin cfg0.N) (y : S1x1x128.Idx) :
    Spec.scale (hk (iblk m c 0 t) (iblk m c 1 t) (iblk m c 4 t) (iblk m c 5 t) (iblk m c 6 t) (y 2)) = G15 m c (ix3 ⟨t.val, t.isLt⟩ 0 (y 2)) :=
  congrArg Spec.scale (hk_eq m c t (y 2))

theorem final16 (c : Dev nD) : (dats m 0 c).arrAt 16 cfg0.N = G16 m c := by
  refine (dats m 0 c).arrAt_eq_of_covers 16 _ (by decide +kernel) fun t _ y => ?_
  blk_simp
  rw [after0_16]
  frame_out
  exact (hp_blk m c t y).trans (congrArg (G16 m c) (emb16 t y))

theorem final14 (c : Dev nD) : (dats m 0 c).arrAt 14 cfg0.N = G14 m c := by
  refine (dats m 0 c).arrAt_eq_of_covers 14 _ (by decide +kernel) fun t _ y => ?_
  blk_simp
  rw [after0_14]
  frame_out
  exact (h1_blk m c t y).trans (congrArg (G14 m c) (emb14 t y))

theorem final15 (c : Dev nD) : (dats m 0 c).arrAt 15 cfg0.N = G15 m c := by
  refine (dats m 0 c).arrAt_eq_of_covers 15 _ (by decide +kernel) fun t _ y => ?_
  blk_simp
  rw [after0_15]
  frame_out
  exact (h1s_blk m c t y).trans (congrArg (G15 m c) (emb15 t y))

/-- The second product's entry of a block is the arguments' entry. -/
theorem gk_eq (c : Dev nD) (t : Fin cfg0.N) (y : S6144x128.Idx) :
    gAt (fun z => Spec.code (hk (iblk m c 0 t) (iblk m c 1 t) (iblk m c 4 t) (iblk m c 5 t) (iblk m c 6 t) (z 0)) (z 1))
      (fun z => Spec.scale (hk (iblk m c 0 t) (iblk m c 1 t) (iblk m c 4 t) (iblk m c 5 t) (iblk m c 6 t) (z 0))) (iblk m c 7 t) (iblk m c 8 t) (iblk m c 9 t) y
      = G17 m c (ix2 ⟨t.val * 6144 + (y 0).val, by have h : (y 0).val < 6144 := (y 0).isLt; have h' : t.val < 32 := t.isLt; omega⟩ (y 1)) := by
  have h0 : (y 0).val < 6144 := (y 0).isLt
  have h1 : (y 1).val < 128 := (y 1).isLt
  have ht : t.val < 32 := t.isLt
  have hr : t.val * 128 + (y 0).val / 48 = (t.val * 6144 + (y 0).val) / 48 := by omega
  have hn : (y 0).val % 48 * 128 + (y 1).val = (t.val * 6144 + (y 0).val) % 48 * 128 + (y 1).val := by omega
  have e (r : Fin 128) : hk (iblk m c 0 t) (iblk m c 1 t) (iblk m c 4 t) (iblk m c 5 t) (iblk m c 6 t) r = H m c ⟨t.val * 128 + r.val, row_lt t r⟩ := hk_eq m c t r
  have step : ∀ (r : Fin 4096) (j : Fin 6144) (hr' : r.val = t.val * 128 + (y 0).val / 48) (hj : j.val = (y 0).val % 48 * 128 + (y 1).val),
      gAt (fun z => Spec.code (hk (iblk m c 0 t) (iblk m c 1 t) (iblk m c 4 t) (iblk m c 5 t) (iblk m c 6 t) (z 0)) (z 1))
        (fun z => Spec.scale (hk (iblk m c 0 t) (iblk m c 1 t) (iblk m c 4 t) (iblk m c 5 t) (iblk m c 6 t) (z 0))) (iblk m c 7 t) (iblk m c 8 t) (iblk m c 9 t) y
      = Spec.grow (H m c r) (m ((c : Thread nD τ).loc main_arg7)) (m ((c : Thread nD τ).loc main_arg8)) (m ((c : Thread nD τ).loc main_arg9)) j := by
    intro r j hr' hj
    have er : (⟨t.val * 128 + (y 0).val / 48, by omega⟩ : Fin 4096) = r := Fin.ext hr'.symm
    have ej : (⟨(y 0).val % 48 * 128 + (y 1).val, by omega⟩ : Fin 6144) = j := Fin.ext hj.symm
    have e1 := e ⟨(y 0).val / 48, by omega⟩
    have e2 : H m c ⟨t.val * 128 + (⟨(y 0).val / 48, by omega⟩ : Fin 128).val, row_lt t _⟩ = H m c r := congrArg (H m c) er
    have e3 := e1.trans e2
    exact congrArg₂ (· + ·) (congrArg₂ (· * ·) (congrArg₂ (· * ·) (Finset.sum_congr rfl fun x _ =>
      congrArg₂ (· * ·) (congrArg (Spec.code · x) e3) ((iblk7 m c t _).trans (congrArg (fun j => (m ((c : Thread nD τ).loc main_arg7) : Vec Ideal S2048x6144 .fp8e4m3) (ix2 x j)) ej)))
      (congrArg Spec.scale e3)) ((iblk8 m c t ⟨(y 0).val % 48, Nat.mod_lt _ (by decide)⟩ (y 1)).trans (congrArg (fun j => (m ((c : Thread nD τ).loc main_arg8) : Vec Ideal S6144 .f32) (ix1 j)) ej)))
      ((iblk9 m c t ⟨(y 0).val % 48, Nat.mod_lt _ (by decide)⟩ (y 1)).trans (congrArg (fun j => (m ((c : Thread nD τ).loc main_arg9) : Vec Ideal S6144 .f32) (ix1 j)) ej))
  exact step _ _ hr.symm hn.symm

theorem final17 (c : Dev nD) : (dats m 0 c).arrAt 17 cfg0.N = G17 m c := by
  refine (dats m 0 c).arrAt_eq_of_covers 17 _ (by decide +kernel) fun t _ y => ?_
  blk_simp
  rw [after0_17]
  frame_out
  exact (gk_eq m c t y).trans (congrArg (G17 m c) (emb17 t y))

/-! ## The normed rows -/

theorem V4 (c : Dev nD) : (V m c main_v4 : Vec Ideal S10240x4096 .f32)
    = shapeCast S10240x4096 (transpose S20x128x4x4096 [1, 3, 2, 0] (shapeCast S4096x20x4x128 (m ((c : Thread nD τ).loc main_arg2) : Vec Ideal S4096x80x128 .f32) shapeCasts_S4096x80x128_S4096x20x4x128) transposes_S4096x20x4x128_S20x128x4x4096_1_3_2_0) shapeCasts_S20x128x4x4096_S10240x4096 := by
  unfold V
  simp only [hostOps0, hostOps0_1, hostOps0_2, List.flatten_cons, List.flatten_nil, List.cons_append, List.nil_append, List.append_nil]
  entry_read
  rfl
theorem V6 (c : Dev nD) : (V m c main_v6 : Vec Ideal S135168x128 .f32)
    = shapeCast S135168x128 (pad S4096x33x128 ![0, 0, 0] ![0, 1, 0] ![0, 0, 0] (m ((c : Thread nD τ).loc main_arg3) : Vec Ideal S4096x32x128 .f32) (sitofp (F := Ideal) .f32 (constantI S_ 32 0#32)) pads_S4096x32x128_S4096x33x128_000_010_000 h_S_) shapeCasts_S4096x33x128_S135168x128 := by
  unfold V
  simp only [hostOps0, hostOps0_1, hostOps0_2, List.flatten_cons, List.flatten_nil, List.cons_append, List.nil_append, List.append_nil]
  entry_read
  rfl
theorem V8 (c : Dev nD) : (V m c main_v8 : Vec Ideal S128x128 .f32) = fun y => (m ((c : Thread nD τ).loc main_arg10) : Vec Ideal S128 .f32) (ix1 (y 0)) := by
  unfold V
  simp only [hostOps0, hostOps0_1, hostOps0_2, List.flatten_cons, List.flatten_nil, List.cons_append, List.nil_append, List.append_nil]
  entry_read
  funext y
  pointwise
theorem V10 (c : Dev nD) : (V m c main_v10 : Vec Ideal S128x128 .f32) = fun y => (m ((c : Thread nD τ).loc main_arg11) : Vec Ideal S128 .f32) (ix1 (y 0)) := by
  unfold V
  simp only [hostOps0, hostOps0_1, hostOps0_2, List.flatten_cons, List.flatten_nil, List.cons_append, List.nil_append, List.append_nil]
  entry_read
  funext y
  pointwise

/-- The inputs as the host lays them out: four fields of a lane side by side, lanes below one another. -/
theorem x4_at (A : Vec Ideal S4096x80x128 .f32) (g : Fin 20) (p : Fin 4) (d : Fin 128) (n : Fin 4096) :
    shapeCast S10240x4096 (transpose S20x128x4x4096 [1, 3, 2, 0] (shapeCast S4096x20x4x128 A shapeCasts_S4096x80x128_S4096x20x4x128) transposes_S4096x20x4x128_S20x128x4x4096_1_3_2_0) shapeCasts_S20x128x4x4096_S10240x4096
      (ix2 ⟨512 * g.val + 4 * d.val + p.val, by omega⟩ n) = A (ix3 n ⟨g.val * 4 + p.val, by omega⟩ d) := by
  pointwise
/-- The local rows as the host lays them out: 33 to a sample, the last of them padding. -/
theorem l6_at (A : Vec Ideal S4096x32x128 .f32) (v : Vec Ideal S_ .f32) (n : Fin 4096) (j : Fin 32) (d : Fin 128) :
    shapeCast S135168x128 (pad S4096x33x128 ![0, 0, 0] ![0, 1, 0] ![0, 0, 0] A v pads_S4096x32x128_S4096x33x128_000_010_000 h_S_) shapeCasts_S4096x33x128_S135168x128
      (ix2 ⟨33 * n.val + j.val, by omega⟩ d) = A (ix3 n j d) := by
  pointwise
  have h : (33 * n.val + j.val) % 33 = j.val := by omega
  rw [dif_pos (by omega)]
  exact congrArg (fun k => A (ix3 n k d)) (Fin.ext h)

theorem iblk2 (c : Dev nD) (t : Fin cfg0.N) (f : Fin 80) (d b : Fin 128) :
    (iblk m c 2 t : Vec Ideal S10240x128 .f32) (ix2 (frow f d) b) = (m ((c : Thread nD τ).loc main_arg2) : Vec Ideal S4096x80x128 .f32) (ix3 ⟨t.val * 128 + b.val, row_lt t b⟩ f d) := by
  show (V m c main_v4 : Vec Ideal S10240x4096 .f32) (((cfg0.win 2).blk t).view.emb (ix2 (frow f d) b)) = _
  rw [V4]
  have hf : f.val / 4 < 20 := by omega
  have hp : f.val % 4 < 4 := by omega
  have h : ((cfg0.win 2).blk t).view.emb (ix2 (frow f d) b) = (ix2 ⟨512 * (f.val / 4) + 4 * d.val + f.val % 4, by omega⟩ ⟨t.val * 128 + b.val, row_lt t b⟩ : S10240x4096.Idx) := by
    unfold frow
    blk_ext [idx t]
  refine (congrArg _ h).trans ((x4_at _ ⟨_, hf⟩ ⟨_, hp⟩ d _).trans ?_)
  exact congrArg (fun f => (m ((c : Thread nD τ).loc main_arg2) : Vec Ideal S4096x80x128 .f32) (ix3 _ f d)) (Fin.ext (by show f.val / 4 * 4 + f.val % 4 = f.val; omega))
theorem iblk3 (c : Dev nD) (t : Fin cfg0.N) (b : Fin 128) (j : Fin 32) (d : Fin 128) :
    (iblk m c 3 t : Vec Ideal S4224x128 .f32) (ix2 ⟨33 * b.val + j.val, by omega⟩ d) = (m ((c : Thread nD τ).loc main_arg3) : Vec Ideal S4096x32x128 .f32) (ix3 ⟨t.val * 128 + b.val, row_lt t b⟩ j d) := by
  show (V m c main_v6 : Vec Ideal S135168x128 .f32) (((cfg0.win 3).blk t).view.emb (ix2 ⟨33 * b.val + j.val, _⟩ d)) = _
  rw [V6]
  have ht : t.val < 32 := t.isLt
  have h : ((cfg0.win 3).blk t).view.emb (ix2 ⟨33 * b.val + j.val, by omega⟩ d) = (ix2 ⟨33 * (t.val * 128 + b.val) + j.val, by omega⟩ d : S135168x128.Idx) := by
    blk_ext [idx t]
  exact (congrArg _ h).trans (l6_at _ _ ⟨t.val * 128 + b.val, row_lt t b⟩ j d)
theorem iblk10 (c : Dev nD) (t : Fin cfg0.N) (d b : Fin 128) :
    (iblk m c 10 t : Vec Ideal S128x128 .f32) (ix2 d b) = (m ((c : Thread nD τ).loc main_arg10) : Vec Ideal S128 .f32) (ix1 d) := by
  show (V m c main_v8 : Vec Ideal S128x128 .f32) (((cfg0.win 10).blk t).view.emb (ix2 d b)) = _
  rw [V8]
  refine congrArg _ ?_
  blk_ext [idx t]
theorem iblk11 (c : Dev nD) (t : Fin cfg0.N) (d b : Fin 128) :
    (iblk m c 11 t : Vec Ideal S128x128 .f32) (ix2 d b) = (m ((c : Thread nD τ).loc main_arg11) : Vec Ideal S128 .f32) (ix1 d) := by
  show (V m c main_v10 : Vec Ideal S128x128 .f32) (((cfg0.win 11).blk t).view.emb (ix2 d b)) = _
  rw [V10]
  refine congrArg _ ?_
  blk_ext [idx t]

/-- Field `f` of sample `n` at lane `d`, normed, from the arguments. -/
abbrev Z (c : Dev nD) (n : Fin 4096) (f : Fin 80) (d : Fin 128) : Ideal .f32 :=
  Spec.zrow (Spec.grow (H m c n) (m ((c : Thread nD τ).loc main_arg7)) (m ((c : Thread nD τ).loc main_arg8)) (m ((c : Thread nD τ).loc main_arg9)))
    (fun j d => (m ((c : Thread nD τ).loc main_arg3) : Vec Ideal S4096x32x128 .f32) (ix3 n j d))
    (fun f d => (m ((c : Thread nD τ).loc main_arg2) : Vec Ideal S4096x80x128 .f32) (ix3 n f d))
    (fun d => (m ((c : Thread nD τ).loc main_arg10) : Vec Ideal S128 .f32) (ix1 d)) (fun d => (m ((c : Thread nD τ).loc main_arg11) : Vec Ideal S128 .f32) (ix1 d)) f d
/-- The codes of the normed rows, 32 rows to a block and 80 rows to a sample. -/
abbrev G12 (c : Dev nD) (y : S10240x32x128.Idx) : Ideal .fp8e4m3 :=
  Spec.qcode (Z m c ⟨((y 0).val * 32 + (y 1).val) / 80, by have h0 : (y 0).val < 10240 := (y 0).isLt; have h1 : (y 1).val < 32 := (y 1).isLt; omega⟩ ⟨((y 0).val * 32 + (y 1).val) % 80, Nat.mod_lt _ (by decide)⟩ (y 2))
    (Spec.qscale (Spec.zmax (Z m c ⟨((y 0).val * 32 + (y 1).val) / 80, by have h0 : (y 0).val < 10240 := (y 0).isLt; have h1 : (y 1).val < 32 := (y 1).isLt; omega⟩)))
/-- The scales of the normed rows. -/
abbrev G13 (c : Dev nD) (y : S32x1x128.Idx) : Ideal .f32 :=
  Spec.qscale (Spec.zmax (Z m c ⟨(y 0).val * 128 + (y 2).val, by have h0 : (y 0).val < 32 := (y 0).isLt; have h2 : (y 2).val < 128 := (y 2).isLt; omega⟩))

/-- A group of the second product, of a block, is the arguments'. -/
theorem gk_at (c : Dev nD) (t : Fin cfg0.N) (b : Fin 128) (n : Fin 48) (l : Fin 128) :
    gk (fun z => Spec.code (hk (iblk m c 0 t) (iblk m c 1 t) (iblk m c 4 t) (iblk m c 5 t) (iblk m c 6 t) (z 0)) (z 1)) (fun z => Spec.scale (hk (iblk m c 0 t) (iblk m c 1 t) (iblk m c 4 t) (iblk m c 5 t) (iblk m c 6 t) (z 0))) (iblk m c 7 t) (iblk m c 8 t) (iblk m c 9 t) b n l
      = Spec.grow (H m c ⟨t.val * 128 + b.val, row_lt t b⟩) (m ((c : Thread nD τ).loc main_arg7)) (m ((c : Thread nD τ).loc main_arg8)) (m ((c : Thread nD τ).loc main_arg9)) ⟨n.val * 128 + l.val, by omega⟩ := by
  have e3 := hk_eq m c t b
  exact congrArg₂ (· + ·) (congrArg₂ (· * ·) (congrArg₂ (· * ·) (Finset.sum_congr rfl fun x _ =>
    congrArg₂ (· * ·) (congrArg (Spec.code · x) e3) (iblk7 m c t _)) (congrArg Spec.scale e3)) (iblk8 m c t n l)) (iblk9 m c t n l)

/-- What is added to a field, of a block, is the arguments'. -/
theorem zin_at (c : Dev nD) (t : Fin cfg0.N) (f : Fin 80) (d b : Fin 128) :
    HAdd.hAdd (α := Ideal .f32) (β := Ideal .f32) (γ := Ideal .f32) ((iblk m c 2 t : Vec Ideal S10240x128 .f32) (ix2 (frow f d) b)) (aK (fun z => Spec.code (hk (iblk m c 0 t) (iblk m c 1 t) (iblk m c 4 t) (iblk m c 5 t) (iblk m c 6 t) (z 0)) (z 1)) (fun z => Spec.scale (hk (iblk m c 0 t) (iblk m c 1 t) (iblk m c 4 t) (iblk m c 5 t) (iblk m c 6 t) (z 0))) (iblk m c 3 t) (iblk m c 7 t) (iblk m c 8 t) (iblk m c 9 t) f d b)
      = Spec.zin (Spec.grow (H m c ⟨t.val * 128 + b.val, row_lt t b⟩) (m ((c : Thread nD τ).loc main_arg7)) (m ((c : Thread nD τ).loc main_arg8)) (m ((c : Thread nD τ).loc main_arg9)))
        (fun j d => (m ((c : Thread nD τ).loc main_arg3) : Vec Ideal S4096x32x128 .f32) (ix3 ⟨t.val * 128 + b.val, row_lt t b⟩ j d))
        (fun f d => (m ((c : Thread nD τ).loc main_arg2) : Vec Ideal S4096x80x128 .f32) (ix3 ⟨t.val * 128 + b.val, row_lt t b⟩ f d)) f d := by
  refine (add_comm (G := EReal) _ _).trans (congrArg₂ (fun x y : EReal => x + y) ?_ (iblk2 m c t f d b))
  unfold aK
  by_cases h : f.val < 48
  · rw [dif_pos h, dif_pos h]
    exact gk_at m c t b ⟨f.val, h⟩ d
  · rw [dif_neg h, dif_neg h]
    exact iblk3 m c t b ⟨f.val - 48, by omega⟩ d

/-- A block's normed row is the arguments'. -/
theorem zK_eq (c : Dev nD) (t : Fin cfg0.N) (f : Fin 80) (d b : Fin 128) :
    zK (fun z => Spec.code (hk (iblk m c 0 t) (iblk m c 1 t) (iblk m c 4 t) (iblk m c 5 t) (iblk m c 6 t) (z 0)) (z 1)) (fun z => Spec.scale (hk (iblk m c 0 t) (iblk m c 1 t) (iblk m c 4 t) (iblk m c 5 t) (iblk m c 6 t) (z 0))) (iblk m c 2 t) (iblk m c 3 t) (iblk m c 7 t) (iblk m c 8 t) (iblk m c 9 t) (iblk m c 10 t) (iblk m c 11 t) f d b = Z m c ⟨t.val * 128 + b.val, row_lt t b⟩ f d :=
  (Spec.knorm_eq _ _ _ _).trans ((congrArg (fun z => Spec.znorm z _ _ d) (funext fun d => zin_at m c t f d b)).trans
    (congrArg₂ (fun g b => Spec.znorm _ g b d) (iblk10 m c t d b) (iblk11 m c t d b)))
theorem sK_eq (c : Dev nD) (t : Fin cfg0.N) (b : Fin 128) :
    sK (fun z => Spec.code (hk (iblk m c 0 t) (iblk m c 1 t) (iblk m c 4 t) (iblk m c 5 t) (iblk m c 6 t) (z 0)) (z 1)) (fun z => Spec.scale (hk (iblk m c 0 t) (iblk m c 1 t) (iblk m c 4 t) (iblk m c 5 t) (iblk m c 6 t) (z 0))) (iblk m c 2 t) (iblk m c 3 t) (iblk m c 7 t) (iblk m c 8 t) (iblk m c 9 t) (iblk m c 10 t) (iblk m c 11 t) b = Spec.qscale (Spec.zmax (Z m c ⟨t.val * 128 + b.val, row_lt t b⟩)) :=
  congrArg (fun z => Spec.qscale (Spec.zmax z)) (funext fun f => funext fun d => zK_eq m c t f d b)

theorem out_lt (t : Fin cfg0.N) (y : S320x32x128.Idx) : t.val * 320 + (y 0).val < 10240 := by
  have h : t.val < 32 := t.isLt
  have h0 : (y 0).val < 320 := (y 0).isLt
  omega
theorem emb12 (t : Fin cfg0.N) (y : S320x32x128.Idx) : (ix3 ⟨t.val * 320 + (y 0).val, out_lt t y⟩ (y 1) (y 2) : S10240x32x128.Idx) = ((cfg0.win 12).blk t).view.emb y := by blk_ext [idx t]
theorem emb13 (t : Fin cfg0.N) (y : S1x1x128.Idx) : (ix3 ⟨t.val, t.isLt⟩ 0 (y 2) : S32x1x128.Idx) = ((cfg0.win 13).blk t).view.emb y := by blk_ext [idx t]

theorem out_blk (c : Dev nD) (t : Fin cfg0.N) (y : S320x32x128.Idx) :
    cK (fun z => Spec.code (hk (iblk m c 0 t) (iblk m c 1 t) (iblk m c 4 t) (iblk m c 5 t) (iblk m c 6 t) (z 0)) (z 1)) (fun z => Spec.scale (hk (iblk m c 0 t) (iblk m c 1 t) (iblk m c 4 t) (iblk m c 5 t) (iblk m c 6 t) (z 0))) (iblk m c 2 t) (iblk m c 3 t) (iblk m c 7 t) (iblk m c 8 t) (iblk m c 9 t) (iblk m c 10 t) (iblk m c 11 t) y = G12 m c (ix3 ⟨t.val * 320 + (y 0).val, out_lt t y⟩ (y 1) (y 2)) := by
  have ht : t.val < 32 := t.isLt
  have h0 : (y 0).val < 320 := (y 0).isLt
  have h1 : (y 1).val < 32 := (y 1).isLt
  have e : (⟨t.val * 128 + (32 * (y 0).val + (y 1).val) / 80, by omega⟩ : Fin 4096) = ⟨((t.val * 320 + (y 0).val) * 32 + (y 1).val) / 80, by omega⟩ := Fin.ext (by dsimp only; omega)
  have e' : (⟨(32 * (y 0).val + (y 1).val) % 80, Nat.mod_lt _ (by decide)⟩ : Fin 80) = ⟨((t.val * 320 + (y 0).val) * 32 + (y 1).val) % 80, Nat.mod_lt _ (by decide)⟩ := Fin.ext (by dsimp only; omega)
  exact congrArg₂ Spec.qcode ((zK_eq m c t _ _ _).trans (congrArg₂ (fun n f => Z m c n f (y 2)) e e'))
    ((sK_eq m c t _).trans (congrArg (fun n => Spec.qscale (Spec.zmax (Z m c n))) e))

theorem outs_blk (c : Dev nD) (t : Fin cfg0.N) (y : S1x1x128.Idx) :
    sK (fun z => Spec.code (hk (iblk m c 0 t) (iblk m c 1 t) (iblk m c 4 t) (iblk m c 5 t) (iblk m c 6 t) (z 0)) (z 1)) (fun z => Spec.scale (hk (iblk m c 0 t) (iblk m c 1 t) (iblk m c 4 t) (iblk m c 5 t) (iblk m c 6 t) (z 0))) (iblk m c 2 t) (iblk m c 3 t) (iblk m c 7 t) (iblk m c 8 t) (iblk m c 9 t) (iblk m c 10 t) (iblk m c 11 t) (y 2) = G13 m c (ix3 ⟨t.val, t.isLt⟩ 0 (y 2)) := sK_eq m c t (y 2)

theorem final12 (c : Dev nD) : (dats m 0 c).arrAt 12 cfg0.N = G12 m c := by
  refine (dats m 0 c).arrAt_eq_of_covers 12 _ (by decide +kernel) fun t _ y => ?_
  blk_simp
  rw [after0_12]
  frame_out
  exact (out_blk m c t y).trans (congrArg (G12 m c) (emb12 t y))

theorem final13 (c : Dev nD) : (dats m 0 c).arrAt 13 cfg0.N = G13 m c := by
  refine (dats m 0 c).arrAt_eq_of_covers 13 _ (by decide +kernel) fun t _ y => ?_
  blk_simp
  rw [after0_13]
  frame_out
  exact (outs_blk m c t y).trans (congrArg (G13 m c) (emb13 t y))

end Cert.Proof.KernelValue
-- ==== Proof.RefPay.lean ====
/- What the reference's payloads compute at an index, over the extended reals. -/
module

public import proofs.«01_k».proof.Proof.SpecNorm
public import proofs.«01_k».proof.Proof.Gen.ReferenceIdeal.Frame
public import Idealize.ShloMosaic.Lib.Pipeline.ValueKit
@[expose] public section

set_option maxRecDepth 16384

noncomputable section

namespace Cert.Proof.RefValue

open Idealize.ShloMosaic Idealize.ShloMosaic.TcCoe Idealize.ShloMosaic.Tactic
open Cert.ReferenceIdeal Cert.ReferenceIdeal.Gen

/-! ## One operation at a time -/

theorem absf_at (H : FVec Ideal S4096x2048 .f32) (y) : absf H y = FloatOps.absf (H y) := by pointwise

theorem red_at (H : FVec Ideal S4096x2048 .f32) (y : S4096x1.Idx) :
    shapeCast S4096x1 (multiReduction .maximumf [1] S4096 H 0xFF800000#32 reduces_S4096x2048_S4096 (.inl rfl) rfl) shapeCasts_S4096_S4096x1 y
      = Finset.fold max (Ideal.ofBits FTy.f32 0xFF800000#32) (fun x => H (ix2 (y 0) x)) Finset.univ := by pointwise

theorem sel_at (M : FVec Ideal S4096x1 .f32) (y : S4096x1.Idx) :
    select (cmpf .ogt M (broadcast S4096x1 (Scalar.ofBits .f32 0x00000000#32))) (divf M (broadcast S4096x1 (Scalar.ofBits .f32 0x43E00000#32))) (broadcast S4096x1 (Scalar.ofBits .f32 0x3F800000#32)) y
      = if 0 < M y then Ideal.div (M y) (Ideal.ofBits .f32 0x43E00000#32) else 1 := by pointwise

theorem q_at (H : FVec Ideal S4096x2048 .f32) (y) :
    (truncf .fp8e4m3 (minimumf (broadcast S4096x2048 (Scalar.ofBits .f32 0x43E00000#32)) (maximumf (broadcast S4096x2048 (Scalar.ofBits .f32 0xC3E00000#32)) H)) bitsLt_fp8e4m3_f32 : FVec Ideal S4096x2048 .fp8e4m3) y
      = min (Ideal.ofBits .f32 0x43E00000#32) (max (Ideal.ofBits .f32 0xC3E00000#32) (H y)) := by pointwise

theorem d_at (H : FVec Ideal S4096x2048 .f32) (S : FVec Ideal S4096x1 .f32) (y) :
    divf H (broadcastTo S4096x2048 S broadcasts_S4096x1_S4096x2048) y = Ideal.div (H y) (S (ix2 (y 0) 0)) := by pointwise

theorem s6_at (S : FVec Ideal S4096x1 .f32) (y) :
    shapeCast S32x1x128 S shapeCasts_S4096x1_S32x1x128 y
      = S (ix2 ⟨(y 0).val * 128 + (y 2).val, by have h0 : (y 0).val < 32 := (y 0).isLt; have h2 : (y 2).val < 128 := (y 2).isLt; omega⟩ 0) := by pointwise

/-! ## The payloads -/

variable (P0 : Vec Ideal S4096x1920 .fp8e4m3) (P1 : Vec Ideal S1920x2048 .fp8e4m3) (P2 : Vec Ideal S4096x1 .f32) (P3 : Vec Ideal S1x2048 .f32) (P4 : Vec Ideal S1x2048 .f32)

/-- Row `r` of the reference's first product. -/
def prow (r : Fin 4096) (j : Fin 2048) : Ideal .f32 :=
  (∑ k : Fin 1920, P0 (ix2 r k) * P1 (ix2 k j)) * P2 (ix2 r 0) * P3 (ix2 0 j) + P4 (ix2 0 j)

theorem pay5_at (y : S4096x2048.Idx) : k0_pay5 P0 P1 P2 P3 P4 y = prow P0 P1 P2 P3 P4 (y 0) (y 1) := by
  unfold prow
  pointwise [k0_pay5]

theorem pay6_at (y : S4096x2048.Idx) : k0_pay6 P0 P1 P2 P3 P4 y = max (prow P0 P1 P2 P3 P4 (y 0) (y 1)) 0 := by
  rw [← pay5_at]
  pointwise [k0_pay6]

theorem pay7_eq : k0_pay7 P0 P1 P2 P3 P4 = select (cmpf .ogt (shapeCast S4096x1 (multiReduction .maximumf [1] S4096 (absf (k0_pay6 P0 P1 P2 P3 P4)) 0xFF800000#32 reduces_S4096x2048_S4096 (.inl rfl) rfl) shapeCasts_S4096_S4096x1) (broadcast S4096x1 (Scalar.ofBits .f32 0x00000000#32)))
    (divf (shapeCast S4096x1 (multiReduction .maximumf [1] S4096 (absf (k0_pay6 P0 P1 P2 P3 P4)) 0xFF800000#32 reduces_S4096x2048_S4096 (.inl rfl) rfl) shapeCasts_S4096_S4096x1) (broadcast S4096x1 (Scalar.ofBits .f32 0x43E00000#32))) (broadcast S4096x1 (Scalar.ofBits .f32 0x3F800000#32)) := rfl

theorem amax_at (y : S4096x1.Idx) :
    shapeCast S4096x1 (multiReduction .maximumf [1] S4096 (absf (k0_pay6 P0 P1 P2 P3 P4)) 0xFF800000#32 reduces_S4096x2048_S4096 (.inl rfl) rfl) shapeCasts_S4096_S4096x1 y
      = Spec.amax (prow P0 P1 P2 P3 P4 (y 0)) := by
  rw [red_at]
  unfold Spec.amax
  congr 1
  funext x
  rw [absf_at, pay6_at]
  rfl

/-- The reference's scale of row `y 0`. -/
theorem pay7_at (y : S4096x1.Idx) : k0_pay7 P0 P1 P2 P3 P4 y = Spec.scale (prow P0 P1 P2 P3 P4 (y 0)) := by
  rw [pay7_eq, sel_at, amax_at]
  rfl

theorem pay8_eq :
    k0_pay8 P0 P1 P2 P3 P4 = truncf .fp8e4m3 (minimumf (broadcast S4096x2048 (Scalar.ofBits .f32 0x43E00000#32)) (maximumf (broadcast S4096x2048 (Scalar.ofBits .f32 0xC3E00000#32)) (divf (k0_pay6 P0 P1 P2 P3 P4) (broadcastTo S4096x2048 (k0_pay7 P0 P1 P2 P3 P4) broadcasts_S4096x1_S4096x2048)))) bitsLt_fp8e4m3_f32 := rfl

/-- The reference's codes. -/
theorem pay8_at (y : S4096x2048.Idx) : k0_pay8 P0 P1 P2 P3 P4 y = Spec.code (prow P0 P1 P2 P3 P4 (y 0)) (y 1) := by
  rw [pay8_eq, q_at, d_at, pay6_at, pay7_at]
  rfl

theorem pay9_eq : k0_pay9 P0 P1 P2 P3 P4 = shapeCast S32x1x128 (k0_pay7 P0 P1 P2 P3 P4) shapeCasts_S4096x1_S32x1x128 := rfl

/-- The reference's scales, 128 to a row. -/
theorem pay9_at (y : S32x1x128.Idx) :
    k0_pay9 P0 P1 P2 P3 P4 y = Spec.scale (prow P0 P1 P2 P3 P4 ⟨(y 0).val * 128 + (y 2).val, by have h0 : (y 0).val < 32 := (y 0).isLt; have h2 : (y 2).val < 128 := (y 2).isLt; omega⟩) := by
  rw [pay9_eq, s6_at, pay7_at]
  rfl

/-- The reference's second product from scales and codes, 48 rows of 128 lanes to a row of it. -/
theorem pay11_at (S : FVec Ideal S4096x1 .f32) (C : FVec Ideal S4096x2048 .fp8e4m3) (W : Vec Ideal S2048x6144 .fp8e4m3) (Q B : Vec Ideal S1x6144 .f32) (y : S196608x128.Idx) :
    k0_pay11 S C W Q B y
      = (∑ x : Fin 2048, C (ix2 ⟨(y 0).val / 48, by have h0 : (y 0).val < 196608 := (y 0).isLt; omega⟩ x) * W (ix2 x ⟨(y 0).val % 48 * 128 + (y 1).val, by have h1 : (y 1).val < 128 := (y 1).isLt; omega⟩))
          * S (ix2 ⟨(y 0).val / 48, by have h0 : (y 0).val < 196608 := (y 0).isLt; omega⟩ 0)
          * Q (ix2 0 ⟨(y 0).val % 48 * 128 + (y 1).val, by have h1 : (y 1).val < 128 := (y 1).isLt; omega⟩)
          + B (ix2 0 ⟨(y 0).val % 48 * 128 + (y 1).val, by have h1 : (y 1).val < 128 := (y 1).isLt; omega⟩) := by
  pointwise [k0_pay11, k0_pay10]

end Cert.Proof.RefValue

end
-- ==== Proof.RefNorm.lean ====
/- The reference's layer norm, output scale and output codes at an index, over the extended reals. -/
module

public import proofs.«01_k».proof.Proof.RefPay
@[expose] public section

set_option maxRecDepth 16384

noncomputable section

namespace Cert.Proof.RefValue

open Idealize.ShloMosaic Idealize.ShloMosaic.TcCoe Idealize.ShloMosaic.Tactic
open Cert.ReferenceIdeal Cert.ReferenceIdeal.Gen

/-! ## One operation at a time -/

theorem sum3_at (Z : FVec Ideal S4096x80x128 .f32) (y : S4096x80x1.Idx) :
    shapeCast S4096x80x1 (multiReduction .add [2] S4096x80 Z 0x00000000#32 reduces_S4096x80x128_S4096x80 (.inl rfl) rfl) shapeCasts_S4096x80_S4096x80x1 y
      = ∑ d : Fin 128, Z (ix3 (y 0) (y 1) d) := by pointwise
theorem over128_at (s : FVec Ideal S4096x80x1 .f32) (y) :
    divf s (broadcast S4096x80x1 (Scalar.ofBits .f32 0x43000000#32)) y = Ideal.div (s y) (Ideal.ofBits .f32 0x43000000#32) := by pointwise
theorem less_at (Z : FVec Ideal S4096x80x128 .f32) (s : FVec Ideal S4096x80x1 .f32) (y) :
    subf Z (broadcastTo S4096x80x128 s broadcasts_S4096x80x1_S4096x80x128) y = (Z y - s (ix3 (y 0) (y 1) 0) : EReal) := by pointwise
theorem root_at (s : FVec Ideal S4096x80x1 .f32) (y) :
    sqrt (addf s (broadcast S4096x80x1 (Scalar.ofBits .f32 0x3727C5AC#32))) y = Ideal.sqrt (s y + Ideal.ofBits .f32 0x3727C5AC#32) := by pointwise
theorem sq_at (D : FVec Ideal S4096x80x128 .f32) (y) : mulf D D y = D y * D y := by pointwise
theorem b3_at (s : FVec Ideal S4096x80x1 .f32) (y) : broadcastTo S4096x80x128 s broadcasts_S4096x80x1_S4096x80x128 y = s (ix3 (y 0) (y 1) 0) := by pointwise
theorem pay1_at (D R : FVec Ideal S4096x80x128 .f32) (G B : Vec Ideal S1x1x128 .f32) (y) :
    k0_pay1 D R G B y = Ideal.div (D y) (R y) * G (ix3 0 0 (y 2)) + B (ix3 0 0 (y 2)) := by pointwise [k0_pay1]
theorem abs3_at (H : FVec Ideal S4096x80x128 .f32) (y) : absf H y = Spec.ab (H y) := by pointwise
theorem sel3_at (M : FVec Ideal S4096x1x1 .f32) (y) :
    select (cmpf .ogt M (broadcast S4096x1x1 (Scalar.ofBits .f32 0x00000000#32))) (divf M (broadcast S4096x1x1 (Scalar.ofBits .f32 0x43E00000#32))) (broadcast S4096x1x1 (Scalar.ofBits .f32 0x3F800000#32)) y
      = Spec.qscale (M y) := by
  unfold Spec.qscale
  pointwise
theorem s4_at (S : FVec Ideal S4096x1x1 .f32) (y : S32x1x128.Idx) :
    shapeCast S32x1x128 S shapeCasts_S4096x1x1_S32x1x128 y
      = S (ix3 ⟨(y 0).val * 128 + (y 2).val, by have h0 : (y 0).val < 32 := (y 0).isLt; have h2 : (y 2).val < 128 := (y 2).isLt; omega⟩ 0 0) := by pointwise

theorem c3_at (H : FVec Ideal S4096x80x128 .fp8e4m3) (y : S10240x32x128.Idx) (n : Fin 4096) (f : Fin 80)
    (h : (y 0).val * 32 + (y 1).val = n.val * 80 + f.val) :
    shapeCast S10240x32x128 H shapeCasts_S4096x80x128_S10240x32x128 y = H (ix3 n f (y 2)) := by
  have h2 : (y 2).val < 128 := (y 2).isLt
  have e0 (h') : (⟨((y 0).val * 4096 + (y 1).val * 128 + (y 2).val) / 10240, h'⟩ : Fin 4096) = n :=
    Fin.ext (by show ((y 0).val * 4096 + (y 1).val * 128 + (y 2).val) / 10240 = n.val; have := f.isLt; omega)
  have e1 (h') : (⟨((y 0).val * 4096 + (y 1).val * 128 + (y 2).val) / 128 % 80, h'⟩ : Fin 80) = f :=
    Fin.ext (by show ((y 0).val * 4096 + (y 1).val * 128 + (y 2).val) / 128 % 80 = f.val; have := f.isLt; omega)
  pointwise
  rw [e0, e1]
theorem q3_at (H : FVec Ideal S4096x80x128 .f32) (S : FVec Ideal S4096x1x1 .f32) (y) :
    (truncf .fp8e4m3 (minimumf (broadcast S4096x80x128 (Scalar.ofBits .f32 0x43E00000#32)) (maximumf (broadcast S4096x80x128 (Scalar.ofBits .f32 0xC3E00000#32))
      (divf H (broadcastTo S4096x80x128 S broadcasts_S4096x1x1_S4096x80x128)))) bitsLt_fp8e4m3_f32 : FVec Ideal S4096x80x128 .fp8e4m3) y
      = Spec.qcode (H y) (S (ix3 (y 0) 0 0)) := by
  unfold Spec.qcode
  pointwise

variable (S : FVec Ideal S4096x1 .f32) (C : FVec Ideal S4096x2048 .fp8e4m3) (W : Vec Ideal S2048x6144 .fp8e4m3) (Q B : Vec Ideal S1x6144 .f32)
  (L : Vec Ideal S4096x32x128 .f32) (X : Vec Ideal S4096x80x128 .f32) (G2 B2 : Vec Ideal S1x1x128 .f32)

/-- The sum before the norm. -/
def pre : FVec Ideal S4096x80x128 .f32 :=
  addf (concatenate S4096x80x128 1 [⟨S4096x48x128, shapeCast S4096x48x128 (k0_pay10 S C W Q B) shapeCasts_S4096x6144_S4096x48x128⟩, ⟨S4096x32x128, L⟩] concatenates_S4096x48x128_S4096x32x128_S4096x80x128_d1) X

theorem pre_at (n : Fin 4096) (f : Fin 80) (d : Fin 128) : pre S C W Q B L X (ix3 n f d)
    = Spec.zin (fun j => k0_pay10 S C W Q B (ix2 n j)) (fun j d => L (ix3 n j d)) (fun f d => X (ix3 n f d)) f d := by
  unfold Spec.zin
  pointwise [pre]

/-! ## The payloads -/

theorem pay12_eq : k0_pay12 S C W Q B L X = subf (pre S C W Q B L X) (broadcastTo S4096x80x128 (divf
    (shapeCast S4096x80x1 (multiReduction .add [2] S4096x80 (pre S C W Q B L X) 0x00000000#32 reduces_S4096x80x128_S4096x80 (.inl rfl) rfl) shapeCasts_S4096x80_S4096x80x1)
    (broadcast S4096x80x1 (Scalar.ofBits .f32 0x43000000#32))) broadcasts_S4096x80x1_S4096x80x128) := rfl
theorem pay13_eq : k0_pay13 S C W Q B L X = broadcastTo S4096x80x128 (sqrt (addf (divf
    (shapeCast S4096x80x1 (multiReduction .add [2] S4096x80 (mulf (k0_pay12 S C W Q B L X) (k0_pay12 S C W Q B L X)) 0x00000000#32 reduces_S4096x80x128_S4096x80 (.inl rfl) rfl) shapeCasts_S4096x80_S4096x80x1)
    (broadcast S4096x80x1 (Scalar.ofBits .f32 0x43000000#32))) (broadcast S4096x80x1 (Scalar.ofBits .f32 0x3727C5AC#32)))) broadcasts_S4096x80x1_S4096x80x128 := rfl

theorem pay12_at (n : Fin 4096) (f : Fin 80) (d : Fin 128) : k0_pay12 S C W Q B L X (ix3 n f d) = Spec.dev (fun d => pre S C W Q B L X (ix3 n f d)) d := by
  rw [pay12_eq, less_at, over128_at, sum3_at]; rfl
theorem pay13_at (n : Fin 4096) (f : Fin 80) (d : Fin 128) : k0_pay13 S C W Q B L X (ix3 n f d) = Ideal.sqrt (Spec.vare (fun d => pre S C W Q B L X (ix3 n f d))) := by
  rw [pay13_eq, b3_at, root_at, over128_at, sum3_at]
  unfold Spec.vare
  refine congrArg (fun x => Ideal.sqrt (Ideal.div x (Ideal.ofBits .f32 0x43000000#32) + Ideal.ofBits .f32 0x3727C5AC#32)) (Finset.sum_congr rfl fun d' _ => ?_)
  rw [sq_at]
  exact congrArg₂ (· * ·) (pay12_at S C W Q B L X n f d') (pay12_at S C W Q B L X n f d')

/-- The reference's normed rows. -/
theorem z_at (n : Fin 4096) (f : Fin 80) (d : Fin 128) :
    k0_pay1 (k0_pay12 S C W Q B L X) (k0_pay13 S C W Q B L X) G2 B2 (ix3 n f d)
      = Spec.zrow (fun j => k0_pay10 S C W Q B (ix2 n j)) (fun j d => L (ix3 n j d)) (fun f d => X (ix3 n f d)) (fun d => G2 (ix3 0 0 d)) (fun d => B2 (ix3 0 0 d)) f d := by
  rw [pay1_at, pay12_at, pay13_at]
  have h : (fun d => pre S C W Q B L X (ix3 n f d)) = Spec.zin (fun j => k0_pay10 S C W Q B (ix2 n j)) (fun j d => L (ix3 n j d)) (fun f d => X (ix3 n f d)) f :=
    funext fun d => pre_at S C W Q B L X n f d
  rw [h]; rfl

variable (D R : FVec Ideal S4096x80x128 .f32)

theorem max3_at (H : FVec Ideal S4096x80x128 .f32) (y : S4096x1x1.Idx) :
    shapeCast S4096x1x1 (multiReduction .maximumf [1, 2] S4096 H 0xFF800000#32 reduces_S4096x80x128_S4096 (.inl rfl) rfl) shapeCasts_S4096_S4096x1x1 y
      = Finset.fold max (Ideal.ofBits FTy.f32 0xFF800000#32) (fun p : Fin 80 × Fin 128 => H (ix3 (y 0) p.1 p.2)) Finset.univ := by pointwise

theorem pay2_at (n : Fin 4096) : k0_pay2 D R G2 B2 (ix3 n 0 0) = Spec.qscale (Spec.zmax fun f d => k0_pay1 D R G2 B2 (ix3 n f d)) := by
  refine (sel3_at _ _).trans (congrArg Spec.qscale ((max3_at _ _).trans ?_))
  unfold Spec.zmax
  congr 1
theorem pay3_eq : k0_pay3 D R G2 B2 = shapeCast S10240x32x128 (truncf .fp8e4m3 (minimumf (broadcast S4096x80x128 (Scalar.ofBits .f32 0x43E00000#32)) (maximumf (broadcast S4096x80x128 (Scalar.ofBits .f32 0xC3E00000#32))
      (divf (k0_pay1 D R G2 B2) (broadcastTo S4096x80x128 (k0_pay2 D R G2 B2) broadcasts_S4096x1x1_S4096x80x128)))) bitsLt_fp8e4m3_f32 : FVec Ideal S4096x80x128 .fp8e4m3) shapeCasts_S4096x80x128_S10240x32x128 := rfl
theorem pay3_at (y : S10240x32x128.Idx) (n : Fin 4096) (f : Fin 80) (h : (y 0).val * 32 + (y 1).val = n.val * 80 + f.val) :
    k0_pay3 D R G2 B2 y = Spec.qcode (k0_pay1 D R G2 B2 (ix3 n f (y 2))) (k0_pay2 D R G2 B2 (ix3 n 0 0)) := by
  rw [pay3_eq, c3_at _ y n f h, q3_at]
  rfl
theorem pay4_eq : k0_pay4 D R G2 B2 = shapeCast S32x1x128 (k0_pay2 D R G2 B2) shapeCasts_S4096x1x1_S32x1x128 := rfl
theorem pay4_at (y : S32x1x128.Idx) : k0_pay4 D R G2 B2 y
    = k0_pay2 D R G2 B2 (ix3 ⟨(y 0).val * 128 + (y 2).val, by have h0 : (y 0).val < 32 := (y 0).isLt; have h2 : (y 2).val < 128 := (y 2).isLt; omega⟩ 0 0) := by
  rw [pay4_eq, s4_at]

end Cert.Proof.RefValue

end
-- ==== Proof.RefFinal.lean ====
/- The reference's six result arrays after its run, over the extended reals, each as one function of the arguments. -/
module

public import proofs.«01_k».proof.Proof.RefNorm
@[expose] public section

set_option maxRecDepth 16384

noncomputable section

namespace Cert.Proof.RefValue

open Idealize.ShloMosaic Idealize.ShloMosaic.TcCoe Idealize.ShloMosaic.Tactic
open Cert.ReferenceIdeal Cert.ReferenceIdeal.Gen

variable (m : (ℓ : Loc nD τ sig) → Buf (Elt Ideal) ℓ)

/-- The index maps at the run's one grid point. -/
theorem idx : ∀ t : Fin cfg0.N, win0_0.index t = ![0, 0]
    ∧ win0_1.index t = ![0, 0]
    ∧ win0_2.index t = ![0, 0, 0]
    ∧ win0_3.index t = ![0, 0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0, 0]
    ∧ win0_11.index t = ![0, 0, 0]
    ∧ win0_12.index t = ![0, 0, 0]
    ∧ win0_13.index t = ![0, 0, 0]
    ∧ win0_14.index t = ![0, 0]
    ∧ win0_15.index t = ![0, 0, 0]
    ∧ win0_16.index t = ![0, 0]
    ∧ win0_17.index t = ![0, 0] := (by decide +kernel : ∀ t : Fin grid0.N, _)

/-- Row `r` of the first product, from the arguments. -/
abbrev H (c : Dev nD) (r : Fin 4096) : Fin 2048 → Ideal .f32 :=
  Spec.hrow (m ((c : Thread nD τ).loc main_arg0)) (m ((c : Thread nD τ).loc main_arg1)) (m ((c : Thread nD τ).loc main_arg4))
    (m ((c : Thread nD τ).loc main_arg5)) (m ((c : Thread nD τ).loc main_arg6)) r

/-- The staged blocks are the arguments, so the payloads' row is the arguments' row. -/
theorem prow_eq (c : Dev nD) (t : Fin cfg0.N) (r : Fin 4096) :
    prow (iblk m c 0 t) (iblk m c 4 t) (iblk m c 1 t) (iblk m c 5 t) (iblk m c 6 t) r = H m c r := by
  funext j
  unfold prow H Spec.hrow
  blk_point [iblk, V, idx t]

/-- Where a result's block puts index `y`: the block is the whole array. -/
theorem emb14 (t : Fin cfg0.N) (y : S4096x2048.Idx) : y = ((cfg0.win 14).blk t).view.emb y := by blk_ext [idx t]
theorem emb15 (t : Fin cfg0.N) (y : S32x1x128.Idx) : y = ((cfg0.win 15).blk t).view.emb y := by blk_ext [idx t]
theorem emb16 (t : Fin cfg0.N) (y : S4096x2048.Idx) : y = ((cfg0.win 16).blk t).view.emb y := by blk_ext [idx t]
theorem emb17 (t : Fin cfg0.N) (y : S196608x128.Idx) : y = ((cfg0.win 17).blk t).view.emb y := by blk_ext [idx t]

/-- The reference's first product, at an index of the result. -/
abbrev G16 (c : Dev nD) (y : S4096x2048.Idx) : Ideal .f32 := H m c (y 0) (y 1)
/-- The reference's codes. -/
abbrev G14 (c : Dev nD) (y : S4096x2048.Idx) : Ideal .fp8e4m3 := Spec.code (H m c (y 0)) (y 1)
/-- The reference's scales. -/
abbrev G15 (c : Dev nD) (y : S32x1x128.Idx) : Ideal .f32 :=
  Spec.scale (H m c ⟨(y 0).val * 128 + (y 2).val, by have h0 : (y 0).val < 32 := (y 0).isLt; have h2 : (y 2).val < 128 := (y 2).isLt; omega⟩)
/-- The reference's second product, 48 rows of 128 lanes to a row of it. -/
abbrev G17 (c : Dev nD) (y : S196608x128.Idx) : Ideal .f32 :=
  Spec.grow (H m c ⟨(y 0).val / 48, by have h0 : (y 0).val < 196608 := (y 0).isLt; omega⟩)
    (m ((c : Thread nD τ).loc main_arg7)) (m ((c : Thread nD τ).loc main_arg8)) (m ((c : Thread nD τ).loc main_arg9))
    ⟨(y 0).val % 48 * 128 + (y 1).val, by have h1 : (y 1).val < 128 := (y 1).isLt; omega⟩

theorem iblk7 (c : Dev nD) (t : Fin cfg0.N) (y : S2048x6144.Idx) :
    (iblk m c 7 t : Vec Ideal S2048x6144 .fp8e4m3) y = (m ((c : Thread nD τ).loc main_arg7) : Vec Ideal S2048x6144 .fp8e4m3) y := by
  blk_point [iblk, V, idx t]
theorem iblk8 (c : Dev nD) (t : Fin cfg0.N) (j : Fin 6144) :
    (iblk m c 8 t : Vec Ideal S1x6144 .f32) (ix2 0 j) = (m ((c : Thread nD τ).loc main_arg8) : Vec Ideal S6144 .f32) (ix1 j) := by
  blk_point [iblk, V, idx t]
theorem iblk9 (c : Dev nD) (t : Fin cfg0.N) (j : Fin 6144) :
    (iblk m c 9 t : Vec Ideal S1x6144 .f32) (ix2 0 j) = (m ((c : Thread nD τ).loc main_arg9) : Vec Ideal S6144 .f32) (ix1 j) := by
  blk_point [iblk, V, idx t]

theorem pay5_blk (c : Dev nD) (t : Fin cfg0.N) (y : S4096x2048.Idx) : k0_pay5 (iblk m c 0 t) (iblk m c 4 t) (iblk m c 1 t) (iblk m c 5 t) (iblk m c 6 t) y = G16 m c y :=
  (pay5_at _ _ _ _ _ y).trans (congrFun (prow_eq m c t (y 0)) (y 1))
theorem pay8_blk (c : Dev nD) (t : Fin cfg0.N) (y : S4096x2048.Idx) : k0_pay8 (iblk m c 0 t) (iblk m c 4 t) (iblk m c 1 t) (iblk m c 5 t) (iblk m c 6 t) y = G14 m c y :=
  (pay8_at _ _ _ _ _ y).trans (congrArg (Spec.code · (y 1)) (prow_eq m c t (y 0)))
theorem pay9_blk (c : Dev nD) (t : Fin cfg0.N) (y : S32x1x128.Idx) : k0_pay9 (iblk m c 0 t) (iblk m c 4 t) (iblk m c 1 t) (iblk m c 5 t) (iblk m c 6 t) y = G15 m c y :=
  (pay9_at _ _ _ _ _ y).trans (by rw [prow_eq])
theorem pay11_blk (c : Dev nD) (t : Fin cfg0.N) (y : S196608x128.Idx) :
    k0_pay11 (k0_pay7 (iblk m c 0 t) (iblk m c 4 t) (iblk m c 1 t) (iblk m c 5 t) (iblk m c 6 t)) (k0_pay8 (iblk m c 0 t) (iblk m c 4 t) (iblk m c 1 t) (iblk m c 5 t) (iblk m c 6 t)) (iblk m c 7 t) (iblk m c 8 t) (iblk m c 9 t) y = G17 m c y := by
  refine (pay11_at _ _ _ _ _ y).trans ?_
  have hr : (y 0).val / 48 < 4096 := by have h0 : (y 0).val < 196608 := (y 0).isLt; omega
  have hc : (y 0).val % 48 * 128 + (y 1).val < 6144 := by have h1 : (y 1).val < 128 := (y 1).isLt; omega
  have e5 (x : Fin 2048) : k0_pay8 (iblk m c 0 t) (iblk m c 4 t) (iblk m c 1 t) (iblk m c 5 t) (iblk m c 6 t) (ix2 ⟨_, hr⟩ x) = Spec.code (H m c ⟨_, hr⟩) x := pay8_blk m c t (ix2 ⟨_, hr⟩ x)
  have e4 : k0_pay7 (iblk m c 0 t) (iblk m c 4 t) (iblk m c 1 t) (iblk m c 5 t) (iblk m c 6 t) (ix2 ⟨_, hr⟩ 0) = Spec.scale (H m c ⟨_, hr⟩) :=
    (pay7_at _ _ _ _ _ (ix2 ⟨_, hr⟩ 0)).trans (congrArg Spec.scale (prow_eq m c t ⟨_, hr⟩))
  exact congrArg₂ (· + ·) (congrArg₂ (· * ·) (congrArg₂ (· * ·) (Finset.sum_congr rfl fun x _ =>
    congrArg₂ (· * ·) (e5 x) (iblk7 m c t _)) e4) (iblk8 m c t ⟨_, hc⟩)) (iblk9 m c t ⟨_, hc⟩)

theorem final16 (c : Dev nD) : (dats m 0 c).arrAt 16 cfg0.N = G16 m c := by
  refine (dats m 0 c).arrAt_eq_of_covers 16 _ (by decide +kernel) fun t _ y => ?_
  blk_simp
  rw [after0_16]
  frame_out
  exact (pay5_blk m c t y).trans (congrArg (G16 m c) (emb16 t y))

theorem final14 (c : Dev nD) : (dats m 0 c).arrAt 14 cfg0.N = G14 m c := by
  refine (dats m 0 c).arrAt_eq_of_covers 14 _ (by decide +kernel) fun t _ y => ?_
  blk_simp
  rw [after0_14]
  frame_out
  exact (pay8_blk m c t y).trans (congrArg (G14 m c) (emb14 t y))

theorem final15 (c : Dev nD) : (dats m 0 c).arrAt 15 cfg0.N = G15 m c := by
  refine (dats m 0 c).arrAt_eq_of_covers 15 _ (by decide +kernel) fun t _ y => ?_
  blk_simp
  rw [after0_15]
  frame_out
  exact (pay9_blk m c t y).trans (congrArg (G15 m c) (emb15 t y))

theorem final17 (c : Dev nD) : (dats m 0 c).arrAt 17 cfg0.N = G17 m c := by
  refine (dats m 0 c).arrAt_eq_of_covers 17 _ (by decide +kernel) fun t _ y => ?_
  blk_simp
  rw [after0_17]
  unfold_out out0_17
  frame_out
  exact (pay11_blk m c t y).trans (congrArg (G17 m c) (emb17 t y))

/-! ## The normed rows -/

/-- Field `f` of sample `n` at lane `d`, normed, from the arguments. -/
abbrev Z (c : Dev nD) (n : Fin 4096) (f : Fin 80) (d : Fin 128) : Ideal .f32 :=
  Spec.zrow (Spec.grow (H m c n) (m ((c : Thread nD τ).loc main_arg7)) (m ((c : Thread nD τ).loc main_arg8)) (m ((c : Thread nD τ).loc main_arg9)))
    (fun j d => (m ((c : Thread nD τ).loc main_arg3) : Vec Ideal S4096x32x128 .f32) (ix3 n j d))
    (fun f d => (m ((c : Thread nD τ).loc main_arg2) : Vec Ideal S4096x80x128 .f32) (ix3 n f d))
    (fun d => (m ((c : Thread nD τ).loc main_arg10) : Vec Ideal S128 .f32) (ix1 d)) (fun d => (m ((c : Thread nD τ).loc main_arg11) : Vec Ideal S128 .f32) (ix1 d)) f d
/-- The codes of the normed rows, 32 rows to a block and 80 rows to a sample. -/
abbrev G12 (c : Dev nD) (y : S10240x32x128.Idx) : Ideal .fp8e4m3 :=
  Spec.qcode (Z m c ⟨((y 0).val * 32 + (y 1).val) / 80, by have h0 : (y 0).val < 10240 := (y 0).isLt; have h1 : (y 1).val < 32 := (y 1).isLt; omega⟩ ⟨((y 0).val * 32 + (y 1).val) % 80, Nat.mod_lt _ (by decide)⟩ (y 2))
    (Spec.qscale (Spec.zmax (Z m c ⟨((y 0).val * 32 + (y 1).val) / 80, by have h0 : (y 0).val < 10240 := (y 0).isLt; have h1 : (y 1).val < 32 := (y 1).isLt; omega⟩)))
/-- The scales of the normed rows. -/
abbrev G13 (c : Dev nD) (y : S32x1x128.Idx) : Ideal .f32 :=
  Spec.qscale (Spec.zmax (Z m c ⟨(y 0).val * 128 + (y 2).val, by have h0 : (y 0).val < 32 := (y 0).isLt; have h2 : (y 2).val < 128 := (y 2).isLt; omega⟩))

theorem iblk2 (c : Dev nD) (t : Fin cfg0.N) (y : S4096x80x128.Idx) :
    (iblk m c 2 t : Vec Ideal S4096x80x128 .f32) y = (m ((c : Thread nD τ).loc main_arg2) : Vec Ideal S4096x80x128 .f32) y := by
  blk_point [iblk, V, idx t]
theorem iblk3 (c : Dev nD) (t : Fin cfg0.N) (y : S4096x32x128.Idx) :
    (iblk m c 3 t : Vec Ideal S4096x32x128 .f32) y = (m ((c : Thread nD τ).loc main_arg3) : Vec Ideal S4096x32x128 .f32) y := by
  blk_point [iblk, V, idx t]
theorem iblk10 (c : Dev nD) (t : Fin cfg0.N) (d : Fin 128) :
    (iblk m c 10 t : Vec Ideal S1x1x128 .f32) (ix3 0 0 d) = (m ((c : Thread nD τ).loc main_arg10) : Vec Ideal S128 .f32) (ix1 d) := by
  blk_point [iblk, V, idx t]
theorem iblk11 (c : Dev nD) (t : Fin cfg0.N) (d : Fin 128) :
    (iblk m c 11 t : Vec Ideal S1x1x128 .f32) (ix3 0 0 d) = (m ((c : Thread nD τ).loc main_arg11) : Vec Ideal S128 .f32) (ix1 d) := by
  blk_point [iblk, V, idx t]
theorem emb12 (t : Fin cfg0.N) (y : S10240x32x128.Idx) : y = ((cfg0.win 12).blk t).view.emb y := by blk_ext [idx t]
theorem emb13 (t : Fin cfg0.N) (y : S32x1x128.Idx) : y = ((cfg0.win 13).blk t).view.emb y := by blk_ext [idx t]

theorem pay10_at (S : FVec Ideal S4096x1 .f32) (C : FVec Ideal S4096x2048 .fp8e4m3) (W : Vec Ideal S2048x6144 .fp8e4m3) (Q B : Vec Ideal S1x6144 .f32) (n : Fin 4096) (j : Fin 6144) :
    k0_pay10 S C W Q B (ix2 n j) = (∑ x : Fin 2048, C (ix2 n x) * W (ix2 x j)) * S (ix2 n 0) * Q (ix2 0 j) + B (ix2 0 j) := by
  pointwise [k0_pay10]

/-- A row of the second product, from the staged blocks. -/
theorem pay10_blk (c : Dev nD) (t : Fin cfg0.N) (n : Fin 4096) (j : Fin 6144) :
    k0_pay10 (k0_pay7 (iblk m c 0 t) (iblk m c 4 t) (iblk m c 1 t) (iblk m c 5 t) (iblk m c 6 t)) (k0_pay8 (iblk m c 0 t) (iblk m c 4 t) (iblk m c 1 t) (iblk m c 5 t) (iblk m c 6 t)) (iblk m c 7 t) (iblk m c 8 t) (iblk m c 9 t) (ix2 n j)
      = Spec.grow (H m c n) (m ((c : Thread nD τ).loc main_arg7)) (m ((c : Thread nD τ).loc main_arg8)) (m ((c : Thread nD τ).loc main_arg9)) j := by
  refine (pay10_at _ _ _ _ _ n j).trans ?_
  have e5 (x : Fin 2048) : k0_pay8 (iblk m c 0 t) (iblk m c 4 t) (iblk m c 1 t) (iblk m c 5 t) (iblk m c 6 t) (ix2 n x) = Spec.code (H m c n) x := pay8_blk m c t (ix2 n x)
  have e4 : k0_pay7 (iblk m c 0 t) (iblk m c 4 t) (iblk m c 1 t) (iblk m c 5 t) (iblk m c 6 t) (ix2 n 0) = Spec.scale (H m c n) :=
    (pay7_at _ _ _ _ _ (ix2 n 0)).trans (congrArg Spec.scale (prow_eq m c t n))
  exact congrArg₂ (· + ·) (congrArg₂ (· * ·) (congrArg₂ (· * ·) (Finset.sum_congr rfl fun x _ =>
    congrArg₂ (· * ·) (e5 x) (iblk7 m c t _)) e4) (iblk8 m c t j)) (iblk9 m c t j)

/-- The deviations from the means, of the staged blocks. -/
abbrev D12 (c : Dev nD) (t : Fin cfg0.N) : FVec Ideal S4096x80x128 .f32 :=
  k0_pay12 (k0_pay7 (iblk m c 0 t) (iblk m c 4 t) (iblk m c 1 t) (iblk m c 5 t) (iblk m c 6 t)) (k0_pay8 (iblk m c 0 t) (iblk m c 4 t) (iblk m c 1 t) (iblk m c 5 t) (iblk m c 6 t)) (iblk m c 7 t) (iblk m c 8 t) (iblk m c 9 t) (iblk m c 3 t) (iblk m c 2 t)
/-- The roots of the variances, of the staged blocks. -/
abbrev R13 (c : Dev nD) (t : Fin cfg0.N) : FVec Ideal S4096x80x128 .f32 :=
  k0_pay13 (k0_pay7 (iblk m c 0 t) (iblk m c 4 t) (iblk m c 1 t) (iblk m c 5 t) (iblk m c 6 t)) (k0_pay8 (iblk m c 0 t) (iblk m c 4 t) (iblk m c 1 t) (iblk m c 5 t) (iblk m c 6 t)) (iblk m c 7 t) (iblk m c 8 t) (iblk m c 9 t) (iblk m c 3 t) (iblk m c 2 t)

theorem z_blk (c : Dev nD) (t : Fin cfg0.N) (n : Fin 4096) (f : Fin 80) (d : Fin 128) :
    k0_pay1 (D12 m c t) (R13 m c t) (iblk m c 10 t) (iblk m c 11 t) (ix3 n f d) = Z m c n f d := by
  refine (z_at _ _ _ _ _ _ _ _ _ n f d).trans ?_
  rw [show (fun j => k0_pay10 (k0_pay7 (iblk m c 0 t) (iblk m c 4 t) (iblk m c 1 t) (iblk m c 5 t) (iblk m c 6 t)) (k0_pay8 (iblk m c 0 t) (iblk m c 4 t) (iblk m c 1 t) (iblk m c 5 t) (iblk m c 6 t)) (iblk m c 7 t) (iblk m c 8 t) (iblk m c 9 t) (ix2 n j)) = _ from funext fun j => pay10_blk m c t n j,
    show (fun j d => (iblk m c 3 t : Vec Ideal S4096x32x128 .f32) (ix3 n j d)) = _ from funext fun j => funext fun d => iblk3 m c t _,
    show (fun f d => (iblk m c 2 t : Vec Ideal S4096x80x128 .f32) (ix3 n f d)) = _ from funext fun f => funext fun d => iblk2 m c t _,
    show (fun d => (iblk m c 10 t : Vec Ideal S1x1x128 .f32) (ix3 0 0 d)) = _ from funext fun d => iblk10 m c t d,
    show (fun d => (iblk m c 11 t : Vec Ideal S1x1x128 .f32) (ix3 0 0 d)) = _ from funext fun d => iblk11 m c t d]

theorem zs_blk (c : Dev nD) (t : Fin cfg0.N) (n : Fin 4096) :
    k0_pay2 (D12 m c t) (R13 m c t) (iblk m c 10 t) (iblk m c 11 t) (ix3 n 0 0) = Spec.qscale (Spec.zmax (Z m c n)) :=
  (pay2_at _ _ _ _ n).trans (congrArg (fun z => Spec.qscale (Spec.zmax z)) (funext fun f => funext fun d => z_blk m c t n f d))
theorem out_blk (c : Dev nD) (t : Fin cfg0.N) (y : S10240x32x128.Idx) :
    k0_pay3 (D12 m c t) (R13 m c t) (iblk m c 10 t) (iblk m c 11 t) y = G12 m c y :=
  (pay3_at _ _ _ _ y ⟨((y 0).val * 32 + (y 1).val) / 80, by have h0 : (y 0).val < 10240 := (y 0).isLt; have h1 : (y 1).val < 32 := (y 1).isLt; omega⟩ ⟨((y 0).val * 32 + (y 1).val) % 80, Nat.mod_lt _ (by decide)⟩ (by dsimp only; omega)).trans
    (congrArg₂ Spec.qcode (z_blk m c t _ _ _) (zs_blk m c t _))
theorem outs_blk (c : Dev nD) (t : Fin cfg0.N) (y : S32x1x128.Idx) :
    k0_pay4 (D12 m c t) (R13 m c t) (iblk m c 10 t) (iblk m c 11 t) y = G13 m c y :=
  (pay4_at _ _ _ _ y).trans (zs_blk m c t _)

theorem final12 (c : Dev nD) : (dats m 0 c).arrAt 12 cfg0.N = G12 m c := by
  refine (dats m 0 c).arrAt_eq_of_covers 12 _ (by decide +kernel) fun t _ y => ?_
  blk_simp
  rw [after0_12]
  unfold_out out0_12
  frame_out
  exact (out_blk m c t y).trans (congrArg (G12 m c) (emb12 t y))

theorem final13 (c : Dev nD) : (dats m 0 c).arrAt 13 cfg0.N = G13 m c := by
  refine (dats m 0 c).arrAt_eq_of_covers 13 _ (by decide +kernel) fun t _ y => ?_
  blk_simp
  rw [after0_13]
  unfold_out out0_13
  frame_out
  exact (outs_blk m c t y).trans (congrArg (G13 m c) (emb13 t y))

end Cert.Proof.RefValue

end
-- ==== Proof.lean ====
/-
   The proof of the certificate's claim. The three frames come from the runs of the two kernels and of the reference; the
   two lists of rewrites are empty; and the kernel and the reference, run over the extended reals from equal arguments,
   end with the same six results, since each of them is the same function of the arguments (`KerFinal`, `RefFinal`).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RunKernel
public import proofs.«01_k».proof.Proof.RunKernelIdeal
public import proofs.«01_k».proof.Proof.KerFinal
public import proofs.«01_k».proof.Proof.RefFinal
public import Idealize.ShloMosaic.Adequacy
public import Idealize.ShloMosaic.Init

@[expose] public section

noncomputable section

namespace Cert.Proof

open Idealize.ShloMosaic Idealize.ShloMosaic.TcCoe Idealize.SL

section Values

open Cert.Proof.KernelValue

/-- From equal arguments the kernel's six results are the reference's. -/
theorem vals_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    RefValue.G12 m' c = G12 m c ∧ RefValue.G13 m' c = G13 m c ∧ RefValue.G14 m' c = G14 m c ∧ RefValue.G15 m' c = G15 m c ∧ RefValue.G16 m' c = G16 m c ∧ RefValue.G17 m' c = G17 m c := by
  have e : RefValue.H m' c = H m c := by
    funext r
    unfold RefValue.H H
    rw [h0, h1, h4, h5, h6]
  have ez (n : Fin 4096) : RefValue.Z m' c n = Z m c n := by
    funext f d
    unfold RefValue.Z Z
    rw [e, h2, h3, h7, h8, h9, h10, h11]
  refine ⟨?_, ?_, ?_, ?_, ?_, ?_⟩
  · funext y
    unfold RefValue.G12 G12
    rw [ez]
  · funext y
    unfold RefValue.G13 G13
    rw [ez]
  · funext y
    exact congrArg (fun h : Fin 4096 → Fin 2048 → Ideal .f32 => Spec.code (h (y 0)) (y 1)) e
  · funext y
    exact congrArg (fun h : Fin 4096 → Fin 2048 → Ideal .f32 => Spec.scale (h ⟨(y 0).val * 128 + (y 2).val, by have h0 : (y 0).val < 32 := (y 0).isLt; have h2 : (y 2).val < 128 := (y 2).isLt; omega⟩)) e
  · funext y
    exact congrArg (fun h : Fin 4096 → Fin 2048 → Ideal .f32 => h (y 0) (y 1)) e
  · funext y
    unfold RefValue.G17 G17
    rw [e, h7, h8, h9]

end Values

/-- The value claim: run from equal arguments, the kernel and the reference end with the same six results. -/
theorem algebraic : algebraic_KernelIdeal_ReferenceIdeal := by
  intro m g m' g' _ hag
  refine ⟨fun c => KernelValue.G12 m c, fun c => KernelValue.G13 m c, fun c => KernelValue.G14 m c, fun c => KernelValue.G15 m c, fun c => KernelValue.G16 m c, fun c => KernelValue.G17 m c, ?_, ?_⟩
  · refine (θ_run _ _ _).mono (fun r h c => ?_) (KernelValue.run_main m g)
    exact ⟨(((KernelValue.dats m 0 c).toRForget_arrAt_iff (fgt := KernelValue.fgt) (w := 12) rfl _ _).mp ((h.1 c).1 12)).trans (KernelValue.final12 m c),
      (((KernelValue.dats m 0 c).toRForget_arrAt_iff (fgt := KernelValue.fgt) (w := 13) rfl _ _).mp ((h.1 c).1 13)).trans (KernelValue.final13 m c),
      (((KernelValue.dats m 0 c).toRForget_arrAt_iff (fgt := KernelValue.fgt) (w := 14) rfl _ _).mp ((h.1 c).1 14)).trans (KernelValue.final14 m c),
      (((KernelValue.dats m 0 c).toRForget_arrAt_iff (fgt := KernelValue.fgt) (w := 15) rfl _ _).mp ((h.1 c).1 15)).trans (KernelValue.final15 m c),
      (((KernelValue.dats m 0 c).toRForget_arrAt_iff (fgt := KernelValue.fgt) (w := 16) rfl _ _).mp ((h.1 c).1 16)).trans (KernelValue.final16 m c),
      (((KernelValue.dats m 0 c).toRForget_arrAt_iff (fgt := KernelValue.fgt) (w := 17) rfl _ _).mp ((h.1 c).1 17)).trans (KernelValue.final17 m c),
      KernelValue.unchanged h.1 c⟩
  · refine (θ_run _ _ _).mono (fun r h c => ?_) (θ_run_and (Cert.ReferenceIdeal.Gen.unchanged m' g') (Cert.ReferenceIdeal.Gen.run_main m' g'))
    obtain ⟨h0, h1, h2, h3, h4, h5, h6, h7, h8, h9, h10, h11⟩ := hag c
    obtain ⟨e12, e13, e14, e15, e16, e17⟩ := vals_eq m m' c h0 h1 h2 h3 h4 h5 h6 h7 h8 h9 h10 h11
    exact ⟨((h.2 c).1 12).trans ((RefValue.final12 m' c).trans e12), ((h.2 c).1 13).trans ((RefValue.final13 m' c).trans e13),
      ((h.2 c).1 14).trans ((RefValue.final14 m' c).trans e14), ((h.2 c).1 15).trans ((RefValue.final15 m' c).trans e15), ((h.2 c).1 16).trans ((RefValue.final16 m' c).trans e16), ((h.2 c).1 17).trans ((RefValue.final17 m' c).trans e17), h.1 c⟩

theorem claim : Cert.Claim :=
  ⟨Cert.Kernel.Gen.facts, Cert.KernelIdeal.Gen.facts, Cert.ReferenceIdeal.Gen.facts,
    fun m g _ => Cert.Proof.Kernel.frame m g, fun m g _ => Cert.Proof.KernelIdeal.frame m g, fun m g _ => Cert.ReferenceIdeal.Gen.frame m g,
    trivial, algebraic⟩

end Cert.Proof
